-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)) (v6 : (c : Dev Cert.Kernel2Ideal.nD) → Buf (Elt Ideal) ((c.tc : Thread Cert.Kernel2Ideal.nD Cert.Kernel2Ideal.τ).loc Cert.Kernel2Ideal.main_v7_6)) (v7 : (c : Dev Cert.Kernel2Ideal.nD) → Buf (Elt Ideal) ((c.tc : Thread Cert.Kernel2Ideal.nD Cert.Kernel2Ideal.τ).loc Cert.Kernel2Ideal.main_v7_7)) (v8 : (c : Dev Cert.Kernel2Ideal.nD) → Buf (Elt Ideal) ((c.tc : Thread Cert.Kernel2Ideal.nD Cert.Kernel2Ideal.τ).loc Cert.Kernel2Ideal.main_v7_8)) (v9 : (c : Dev Cert.Kernel2Ideal.nD) → Buf (Elt Ideal) ((c.tc : Thread Cert.Kernel2Ideal.nD Cert.Kernel2Ideal.τ).loc Cert.Kernel2Ideal.main_v7_9)) (v10 : (c : Dev Cert.Kernel2Ideal.nD) → Buf (Elt Ideal) ((c.tc : Thread Cert.Kernel2Ideal.nD Cert.Kernel2Ideal.τ).loc Cert.Kernel2Ideal.main_v7_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_v7_6) = v6 c
          ∧ r.2.mem ((c.tc : Thread Cert.Kernel2Ideal.nD Cert.Kernel2Ideal.τ).loc Cert.Kernel2Ideal.main_v7_7) = v7 c
          ∧ r.2.mem ((c.tc : Thread Cert.Kernel2Ideal.nD Cert.Kernel2Ideal.τ).loc Cert.Kernel2Ideal.main_v7_8) = v8 c
          ∧ r.2.mem ((c.tc : Thread Cert.Kernel2Ideal.nD Cert.Kernel2Ideal.τ).loc Cert.Kernel2Ideal.main_v7_9) = v9 c
          ∧ r.2.mem ((c.tc : Thread Cert.Kernel2Ideal.nD Cert.Kernel2Ideal.τ).loc Cert.Kernel2Ideal.main_v7_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_v28) = v6 c
          ∧ r.2.mem ((c.tc : Thread Cert.Reference2Ideal.nD Cert.Reference2Ideal.τ).loc Cert.Reference2Ideal.main_v29) = v7 c
          ∧ r.2.mem ((c.tc : Thread Cert.Reference2Ideal.nD Cert.Reference2Ideal.τ).loc Cert.Reference2Ideal.main_v30) = v8 c
          ∧ r.2.mem ((c.tc : Thread Cert.Reference2Ideal.nD Cert.Reference2Ideal.τ).loc Cert.Reference2Ideal.main_v33) = v9 c
          ∧ r.2.mem ((c.tc : Thread Cert.Reference2Ideal.nD Cert.Reference2Ideal.τ).loc Cert.Reference2Ideal.main_v35) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "mask" .f32 0xF149F2CA#32 ⊥

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)) (v3 : (c : Dev Cert.Kernel7Ideal.nD) → Buf (Elt Ideal) ((c.tc : Thread Cert.Kernel7Ideal.nD Cert.Kernel7Ideal.τ).loc Cert.Kernel7Ideal.main_v15_3)) (v4 : (c : Dev Cert.Kernel7Ideal.nD) → Buf (Elt Ideal) ((c.tc : Thread Cert.Kernel7Ideal.nD Cert.Kernel7Ideal.τ).loc Cert.Kernel7Ideal.main_v15_4)) (v5 : (c : Dev Cert.Kernel7Ideal.nD) → Buf (Elt Ideal) ((c.tc : Thread Cert.Kernel7Ideal.nD Cert.Kernel7Ideal.τ).loc Cert.Kernel7Ideal.main_v15_5)) (v6 : (c : Dev Cert.Kernel7Ideal.nD) → Buf (Elt Ideal) ((c.tc : Thread Cert.Kernel7Ideal.nD Cert.Kernel7Ideal.τ).loc Cert.Kernel7Ideal.main_v15_6)) (v7 : (c : Dev Cert.Kernel7Ideal.nD) → Buf (Elt Ideal) ((c.tc : Thread Cert.Kernel7Ideal.nD Cert.Kernel7Ideal.τ).loc Cert.Kernel7Ideal.main_v15_7)) (v8 : (c : Dev Cert.Kernel7Ideal.nD) → Buf (Elt Ideal) ((c.tc : Thread Cert.Kernel7Ideal.nD Cert.Kernel7Ideal.τ).loc Cert.Kernel7Ideal.main_v15_8)) (v9 : (c : Dev Cert.Kernel7Ideal.nD) → Buf (Elt Ideal) ((c.tc : Thread Cert.Kernel7Ideal.nD Cert.Kernel7Ideal.τ).loc Cert.Kernel7Ideal.main_v15_9)) (v10 : (c : Dev Cert.Kernel7Ideal.nD) → Buf (Elt Ideal) ((c.tc : Thread Cert.Kernel7Ideal.nD Cert.Kernel7Ideal.τ).loc Cert.Kernel7Ideal.main_v15_10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_v15_3) = v3 c
          ∧ r.2.mem ((c.tc : Thread Cert.Kernel7Ideal.nD Cert.Kernel7Ideal.τ).loc Cert.Kernel7Ideal.main_v15_4) = v4 c
          ∧ r.2.mem ((c.tc : Thread Cert.Kernel7Ideal.nD Cert.Kernel7Ideal.τ).loc Cert.Kernel7Ideal.main_v15_5) = v5 c
          ∧ r.2.mem ((c.tc : Thread Cert.Kernel7Ideal.nD Cert.Kernel7Ideal.τ).loc Cert.Kernel7Ideal.main_v15_6) = v6 c
          ∧ r.2.mem ((c.tc : Thread Cert.Kernel7Ideal.nD Cert.Kernel7Ideal.τ).loc Cert.Kernel7Ideal.main_v15_7) = v7 c
          ∧ r.2.mem ((c.tc : Thread Cert.Kernel7Ideal.nD Cert.Kernel7Ideal.τ).loc Cert.Kernel7Ideal.main_v15_8) = v8 c
          ∧ r.2.mem ((c.tc : Thread Cert.Kernel7Ideal.nD Cert.Kernel7Ideal.τ).loc Cert.Kernel7Ideal.main_v15_9) = v9 c
          ∧ r.2.mem ((c.tc : Thread Cert.Kernel7Ideal.nD Cert.Kernel7Ideal.τ).loc Cert.Kernel7Ideal.main_v15_10) = v10 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v24) = v2 c
          ∧ r.2.mem ((c.tc : Thread Cert.Reference7Ideal.nD Cert.Reference7Ideal.τ).loc Cert.Reference7Ideal.main_v25) = v3 c
          ∧ r.2.mem ((c.tc : Thread Cert.Reference7Ideal.nD Cert.Reference7Ideal.τ).loc Cert.Reference7Ideal.main_v26) = v4 c
          ∧ r.2.mem ((c.tc : Thread Cert.Reference7Ideal.nD Cert.Reference7Ideal.τ).loc Cert.Reference7Ideal.main_v27) = v5 c
          ∧ r.2.mem ((c.tc : Thread Cert.Reference7Ideal.nD Cert.Reference7Ideal.τ).loc Cert.Reference7Ideal.main_v28) = v6 c
          ∧ r.2.mem ((c.tc : Thread Cert.Reference7Ideal.nD Cert.Reference7Ideal.τ).loc Cert.Reference7Ideal.main_v29) = v7 c
          ∧ r.2.mem ((c.tc : Thread Cert.Reference7Ideal.nD Cert.Reference7Ideal.τ).loc Cert.Reference7Ideal.main_v30) = v8 c
          ∧ r.2.mem ((c.tc : Thread Cert.Reference7Ideal.nD Cert.Reference7Ideal.τ).loc Cert.Reference7Ideal.main_v33) = v9 c
          ∧ r.2.mem ((c.tc : Thread Cert.Reference7Ideal.nD Cert.Reference7Ideal.τ).loc Cert.Reference7Ideal.main_v35) = v10 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "mask" .f32 0xF149F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v18_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S32768x1024 : Shape := ⟨2, ![32768, 1024]⟩
abbrev S32768x512 : Shape := ⟨2, ![32768, 512]⟩
abbrev S64 : Shape := ⟨1, ![64]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg5 : FVec F S64 .f32) (main_arg6 : FVec F S64 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S64 .f32 := broadcastInDim S64 ![] bcast_S_S64 main_cst_13
  let main_v35 : IVec S64 1 := cmpf .ogt main_arg5 main_v34
  let main_cst_14 : FVec F S_ .f32 := constant S_ .f32 0x7F800000#32
  let main_v36 : FVec F S64 .f32 := broadcastInDim S64 ![] bcast_S_S64 main_cst_14
  let main_v37 : IVec S64 1 := cmpf .olt main_arg5 main_v36
  let main_v38 : IVec S64 1 := andi main_v35 main_v37
  let main_c_15 : IVec S_ 1 := constantI S_ 1 1#1
  let main_v39 : IVec S_ 1 := (fun x v => Host.reduce IntOp.andi x v reducesTo_S64_S_d0 h_S_) main_v38 main_c_15
  let main_v40 : IVec S_ 1 := andi main_v33 main_v39
  let main_cst_16 : FVec F S_ .f32 := constant S_ .f32 0xFF800000#32
  let main_v41 : FVec F S64 .f32 := broadcastInDim S64 ![] bcast_S_S64 main_cst_16
  let main_v42 : IVec S64 1 := cmpf .ogt main_arg6 main_v41
  let main_cst_17 : FVec F S_ .f32 := constant S_ .f32 0x7F800000#32
  let main_v43 : FVec F S64 .f32 := broadcastInDim S64 ![] bcast_S_S64 main_cst_17
  let main_v44 : IVec S64 1 := cmpf .olt main_arg6 main_v43
  let main_v45 : IVec S64 1 := andi main_v42 main_v44
  let main_c_18 : IVec S_ 1 := constantI S_ 1 1#1
  let main_v46 : IVec S_ 1 := (fun x v => Host.reduce IntOp.andi x v reducesTo_S64_S_d0 h_S_) main_v45 main_c_18
  let main_v47 : IVec S_ 1 := andi main_v40 main_v46
  main_v47

def fn_part1 {F : FTy → Type} [FloatOps F] (main_arg2 : FVec F S32768x512 .f32) (main_arg3 : FVec F S64 .f32) (main_arg4 : FVec F S64 .f32) (main_arg5 : FVec F S64 .f32) (main_arg6 : FVec F S64 .f32) (main_v12 : IVec S_ 1) (main_v14 : IVec S32768x512 1) (main_v15 : FVec F S32768x512 .f32) : IVec S_ 1 :=
  let main_v16 : IVec S32768x512 1 := cmpf .olt main_arg2 main_v15
  let main_v17 : IVec S32768x512 1 := andi main_v14 main_v16
  let main_c_6 : IVec S_ 1 := constantI S_ 1 1#1
  let main_v18 : IVec S_ 1 := (fun x v => Host.reduce IntOp.andi x v reducesTo_S32768x512_S_d0_1 h_S_) main_v17 main_c_6
  let main_v19 : IVec S_ 1 := andi main_v12 main_v18
  let main_cst_7 : FVec F S_ .f32 := constant S_ .f32 0xFF800000#32
  let main_v20 : FVec F S64 .f32 := broadcastInDim S64 ![] bcast_S_S64 main_cst_7
  let main_v21 : IVec S64 1 := cmpf .ogt main_arg3 main_v20
  let main_cst_8 : FVec F S_ .f32 := constant S_ .f32 0x7F800000#32
  let main_v22 : FVec F S64 .f32 := broadcastInDim S64 ![] bcast_S_S64 main_cst_8
  let main_v23 : IVec S64 1 := cmpf .olt main_arg3 main_v22
  let main_v24 : IVec S64 1 := andi main_v21 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v19 main_v25
  let main_cst_10 : FVec F S_ .f32 := constant S_ .f32 0xFF800000#32
  let main_v27 : FVec F S64 .f32 := broadcastInDim S64 ![] bcast_S_S64 main_cst_10
  let main_v28 : IVec S64 1 := cmpf .ogt main_arg4 main_v27
  let main_cst_11 : FVec F S_ .f32 := constant S_ .f32 0x7F800000#32
  let main_v29 : FVec F S64 .f32 := broadcastInDim S64 ![] bcast_S_S64 main_cst_11
  let main_v30 : IVec S64 1 := cmpf .olt main_arg4 main_v29
  let main_v31 : IVec S64 1 := andi main_v28 main_v30
  let main_c_12 : IVec S_ 1 := constantI S_ 1 1#1
  let main_v32 : IVec S_ 1 := (fun x v => Host.reduce IntOp.andi x v reducesTo_S64_S_d0 h_S_) main_v31 main_c_12
  fn_part2 (F := F) main_arg5 main_arg6 main_v26 main_v32

def fn {F : FTy → Type} [FloatOps F] (main_arg0 : FVec F S32768x1024 .f32) (main_arg1 : FVec F S32768x512 .f32) (main_arg2 : FVec F S32768x512 .f32) (main_arg3 : FVec F S64 .f32) (main_arg4 : FVec F S64 .f32) (main_arg5 : FVec F S64 .f32) (main_arg6 : FVec F S64 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_c : IVec S_ 1 := constantI S_ 1 1#1
  let main_v5 : IVec S_ 1 := (fun x v => Host.reduce IntOp.andi x v reducesTo_S32768x1024_S_d0_1 h_S_) main_v4 main_c
  let main_cst_1 : FVec F S_ .f32 := constant S_ .f32 0xFF800000#32
  let main_v6 : FVec F S32768x512 .f32 := broadcastInDim S32768x512 ![] bcast_S_S32768x512 main_cst_1
  let main_v7 : IVec S32768x512 1 := cmpf .ogt main_arg1 main_v6
  let main_cst_2 : FVec F S_ .f32 := constant S_ .f32 0x7F800000#32
  let main_v8 : FVec F S32768x512 .f32 := broadcastInDim S32768x512 ![] bcast_S_S32768x512 main_cst_2
  let main_v9 : IVec S32768x512 1 := cmpf .olt main_arg1 main_v8
  let main_v10 : IVec S32768x512 1 := andi main_v7 main_v9
  let main_c_3 : IVec S_ 1 := constantI S_ 1 1#1
  let main_v11 : IVec S_ 1 := (fun x v => Host.reduce IntOp.andi x v reducesTo_S32768x512_S_d0_1 h_S_) main_v10 main_c_3
  let main_v12 : IVec S_ 1 := andi main_v5 main_v11
  let main_cst_4 : FVec F S_ .f32 := constant S_ .f32 0xFF800000#32
  let main_v13 : FVec F S32768x512 .f32 := broadcastInDim S32768x512 ![] bcast_S_S32768x512 main_cst_4
  let main_v14 : IVec S32768x512 1 := cmpf .ogt main_arg2 main_v13
  let main_cst_5 : FVec F S_ .f32 := constant S_ .f32 0x7F800000#32
  let main_v15 : FVec F S32768x512 .f32 := broadcastInDim S32768x512 ![] bcast_S_S32768x512 main_cst_5
  fn_part1 (F := F) main_arg2 main_arg3 main_arg4 main_arg5 main_arg6 main_v12 main_v14 main_v15
-- ==== Kernel.lean ====
abbrev S32768x512 : Shape := ⟨2, ![32768, 512]⟩
abbrev S8x4096x512 : Shape := ⟨3, ![8, 4096, 512]⟩
abbrev S512x512 : Shape := ⟨2, ![512, 512]⟩
abbrev S1x4096x512 : Shape := ⟨3, ![1, 4096, 512]⟩
abbrev S512x128 : Shape := ⟨2, ![512, 128]⟩
abbrev S512x256 : Shape := ⟨2, ![512, 256]⟩
abbrev S256x256 : Shape := ⟨2, ![256, 256]⟩
abbrev S512x1 : Shape := ⟨2, ![512, 1]⟩
abbrev S1x256x128 : Shape := ⟨3, ![1, 256, 128]⟩
abbrev S256x128 : Shape := ⟨2, ![256, 128]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S8x4096x512, .f32⟩
  | .hbm, ⟨4, _⟩ => ⟨S8x4096x512, .f32⟩
  | .hbm, ⟨5, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .f32⟩
  | .local _ .vmem, ⟨7, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_mult1 (i : grid0.Coords) : BitVec 32 :=
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_78 : BitVec 32 := 1#32
  let v273 : BitVec 32 := Scalar.addi v272 c1_i32_78
  let c256_i32_79 : BitVec 32 := 256#32
  let v274 : BitVec 32 := Scalar.muli v273 c256_i32_79
  v274
def k0_off1 (i : grid0.Coords) (c1_i32_78 : BitVec 32) : Fin 3 → Nat :=
  let c0_80 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v273 : BitVec 32 := Scalar.addi v272 c1_i32_78
  let c256_i32_79 : BitVec 32 := 256#32
  let v274 : BitVec 32 := Scalar.muli v273 c256_i32_79
  let v275 : BitVec 32 := v274
  let v276 : Index := Scalar.indexCast v275
  let c0_81 : Index := 0#32
  ![0, v276.toNat, 0]
def k0_off2 (i : grid0.Coords) (c1_i32_78 : BitVec 32) : Fin 3 → Nat :=
  let c0_82 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v273 : BitVec 32 := Scalar.addi v272 c1_i32_78
  let c256_i32_79 : BitVec 32 := 256#32
  let v274 : BitVec 32 := Scalar.muli v273 c256_i32_79
  let v275 : BitVec 32 := v274
  let v280 : Index := Scalar.indexCast v275
  let c128 : Index := 128#32
  ![0, v280.toNat, 128]
def k0_off3 (i : grid0.Coords) (c1_i32_78 : BitVec 32) : Fin 3 → Nat :=
  let c0_83 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v273 : BitVec 32 := Scalar.addi v272 c1_i32_78
  let c256_i32_79 : BitVec 32 := 256#32
  let v274 : BitVec 32 := Scalar.muli v273 c256_i32_79
  let v275 : BitVec 32 := v274
  let v284 : Index := Scalar.indexCast v275
  let c256 : Index := 256#32
  ![0, v284.toNat, 256]
def k0_off4 (i : grid0.Coords) (c1_i32_78 : BitVec 32) : Fin 3 → Nat :=
  let c0_84 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v273 : BitVec 32 := Scalar.addi v272 c1_i32_78
  let c256_i32_79 : BitVec 32 := 256#32
  let v274 : BitVec 32 := Scalar.muli v273 c256_i32_79
  let v275 : BitVec 32 := v274
  let v288 : Index := Scalar.indexCast v275
  let c384 : Index := 384#32
  ![0, v288.toNat, 384]
def k0_mult2 (i : grid0.Coords) : BitVec 32 :=
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c0_i32_183 : BitVec 32 := 0#32
  let v569 : BitVec 32 := Scalar.addi v272 c0_i32_183
  let c256_i32_184 : BitVec 32 := 256#32
  let v570 : BitVec 32 := Scalar.muli v569 c256_i32_184
  v570
@[reducible] def k0_t1_loop (i : grid0.Coords) : Scf.Loop 32 :=
  let c0_i32_291 : BitVec 32 := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_293 : BitVec 32 := 1#32
  ⟨c0_i32_291, v869, c1_i32_293⟩
def k0_mult3 (i : grid0.Coords) (k0_t1 : Fin (k0_t1_loop i).trips) : BitVec 32 :=
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let c1_i32_293 : BitVec 32 := 1#32
  let arg7 : BitVec 32 := Scf.iv c0_i32_291 c1_i32_293 k0_t1
  let v889 : BitVec 32 := Scalar.subi v888 arg7
  let c256_i32_308 : BitVec 32 := 256#32
  let v890 : BitVec 32 := Scalar.muli v889 c256_i32_308
  v890
def k0_off5 (i : grid0.Coords) (k0_t1 : Fin (k0_t1_loop i).trips) : Fin 3 → Nat :=
  let c0_309 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let c1_i32_293 : BitVec 32 := 1#32
  let arg7 : BitVec 32 := Scf.iv c0_i32_291 c1_i32_293 k0_t1
  let v889 : BitVec 32 := Scalar.subi v888 arg7
  let c256_i32_308 : BitVec 32 := 256#32
  let v890 : BitVec 32 := Scalar.muli v889 c256_i32_308
  let v891 : BitVec 32 := v890
  let v892 : Index := Scalar.indexCast v891
  let c0_310 : Index := 0#32
  ![0, v892.toNat, 0]
def k0_off6 (i : grid0.Coords) (k0_t1 : Fin (k0_t1_loop i).trips) : Fin 3 → Nat :=
  let c0_311 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let c1_i32_293 : BitVec 32 := 1#32
  let arg7 : BitVec 32 := Scf.iv c0_i32_291 c1_i32_293 k0_t1
  let v889 : BitVec 32 := Scalar.subi v888 arg7
  let c256_i32_308 : BitVec 32 := 256#32
  let v890 : BitVec 32 := Scalar.muli v889 c256_i32_308
  let v891 : BitVec 32 := v890
  let v896 : Index := Scalar.indexCast v891
  let c128_312 : Index := 128#32
  ![0, v896.toNat, 128]
def k0_off7 (i : grid0.Coords) (k0_t1 : Fin (k0_t1_loop i).trips) : Fin 3 → Nat :=
  let c0_313 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let c1_i32_293 : BitVec 32 := 1#32
  let arg7 : BitVec 32 := Scf.iv c0_i32_291 c1_i32_293 k0_t1
  let v889 : BitVec 32 := Scalar.subi v888 arg7
  let c256_i32_308 : BitVec 32 := 256#32
  let v890 : BitVec 32 := Scalar.muli v889 c256_i32_308
  let v891 : BitVec 32 := v890
  let v900 : Index := Scalar.indexCast v891
  let c256_314 : Index := 256#32
  ![0, v900.toNat, 256]
def k0_off8 (i : grid0.Coords) (k0_t1 : Fin (k0_t1_loop i).trips) : Fin 3 → Nat :=
  let c0_315 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let c1_i32_293 : BitVec 32 := 1#32
  let arg7 : BitVec 32 := Scf.iv c0_i32_291 c1_i32_293 k0_t1
  let v889 : BitVec 32 := Scalar.subi v888 arg7
  let c256_i32_308 : BitVec 32 := 256#32
  let v890 : BitVec 32 := Scalar.muli v889 c256_i32_308
  let v891 : BitVec 32 := v890
  let v904 : Index := Scalar.indexCast v891
  let c384_316 : Index := 384#32
  ![0, v904.toNat, 384]
@[reducible] def k0_t2_loop (i : grid0.Coords) : Scf.Loop 32 :=
  let c0_i32_291 : BitVec 32 := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let v866 : BitVec 32 := Scalar.addi c0_i32_291 v865
  let c1_i32_294 : BitVec 32 := 1#32
  ⟨v869, v866, c1_i32_294⟩
def k0_mult4 (i : grid0.Coords) (k0_t2 : Fin (k0_t2_loop i).trips) : BitVec 32 :=
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_294 : BitVec 32 := 1#32
  let arg7 : BitVec 32 := Scf.iv v869 c1_i32_294 k0_t2
  let v889 : BitVec 32 := Scalar.subi v888 arg7
  let c256_i32_308 : BitVec 32 := 256#32
  let v890 : BitVec 32 := Scalar.muli v889 c256_i32_308
  v890
def k0_off9 (i : grid0.Coords) (k0_t2 : Fin (k0_t2_loop i).trips) : Fin 3 → Nat :=
  let c0_309 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_294 : BitVec 32 := 1#32
  let arg7 : BitVec 32 := Scf.iv v869 c1_i32_294 k0_t2
  let v889 : BitVec 32 := Scalar.subi v888 arg7
  let c256_i32_308 : BitVec 32 := 256#32
  let v890 : BitVec 32 := Scalar.muli v889 c256_i32_308
  let v891 : BitVec 32 := v890
  let v892 : Index := Scalar.indexCast v891
  let c0_310 : Index := 0#32
  ![0, v892.toNat, 0]
def k0_off10 (i : grid0.Coords) (k0_t2 : Fin (k0_t2_loop i).trips) : Fin 3 → Nat :=
  let c0_311 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_294 : BitVec 32 := 1#32
  let arg7 : BitVec 32 := Scf.iv v869 c1_i32_294 k0_t2
  let v889 : BitVec 32 := Scalar.subi v888 arg7
  let c256_i32_308 : BitVec 32 := 256#32
  let v890 : BitVec 32 := Scalar.muli v889 c256_i32_308
  let v891 : BitVec 32 := v890
  let v896 : Index := Scalar.indexCast v891
  let c128_312 : Index := 128#32
  ![0, v896.toNat, 128]
def k0_off11 (i : grid0.Coords) (k0_t2 : Fin (k0_t2_loop i).trips) : Fin 3 → Nat :=
  let c0_313 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_294 : BitVec 32 := 1#32
  let arg7 : BitVec 32 := Scf.iv v869 c1_i32_294 k0_t2
  let v889 : BitVec 32 := Scalar.subi v888 arg7
  let c256_i32_308 : BitVec 32 := 256#32
  let v890 : BitVec 32 := Scalar.muli v889 c256_i32_308
  let v891 : BitVec 32 := v890
  let v900 : Index := Scalar.indexCast v891
  let c256_314 : Index := 256#32
  ![0, v900.toNat, 256]
def k0_off12 (i : grid0.Coords) (k0_t2 : Fin (k0_t2_loop i).trips) : Fin 3 → Nat :=
  let c0_315 : Index := 0#32
  let arg2 : BitVec 32 := BitVec.ofNat 32 (i 2).val
  let c512_i32 : BitVec 32 := 512#32
  let v255 : BitVec 32 := Scalar.muli arg2 c512_i32
  let c0_i32_72 : BitVec 32 := 0#32
  let v257 : BitVec 1 := Scalar.cmpi .sgt v255 c0_i32_72
  let v258 : BitVec 32 := Scalar.extui v257
  let c0_i32_73 : BitVec 32 := 0#32
  let v259 : BitVec 1 := Scalar.cmpi .slt v255 c0_i32_73
  let v260 : BitVec 32 := Scalar.extui v259
  let v261 : BitVec 32 := Scalar.subi v258 v260
  let c256_i32 : BitVec 32 := 256#32
  let c0_i32_74 : BitVec 32 := 0#32
  let v262 : BitVec 1 := Scalar.cmpi .sgt c256_i32 c0_i32_74
  let v263 : BitVec 32 := Scalar.extui v262
  let c0_i32_75 : BitVec 32 := 0#32
  let v264 : BitVec 1 := Scalar.cmpi .slt c256_i32 c0_i32_75
  let v265 : BitVec 32 := Scalar.extui v264
  let v266 : BitVec 32 := Scalar.subi v263 v265
  let v267 : BitVec 1 := Scalar.cmpi .ne v261 v266
  let v268 : BitVec 32 := Scalar.remsi v255 c256_i32
  let c0_i32_76 : BitVec 32 := 0#32
  let v269 : BitVec 1 := Scalar.cmpi .ne v268 c0_i32_76
  let v270 : BitVec 1 := Scalar.andi v267 v269
  let v256 : BitVec 32 := Scalar.divsi v255 c256_i32
  let c1_i32_77 : BitVec 32 := 1#32
  let v271 : BitVec 32 := Scalar.subi v256 c1_i32_77
  let v272 : BitVec 32 := Scalar.select v270 v271 v256
  let c1_i32_307 : BitVec 32 := 1#32
  let v888 : BitVec 32 := Scalar.subi v272 c1_i32_307
  let c0_i32_291 : BitVec 32 := 0#32
  let v865 : BitVec 32 := Scalar.subi v272 c0_i32_291
  let c1_i32_292 : BitVec 32 := 1#32
  let v867 : BitVec 32 := Scalar.divsi v865 c1_i32_292
  let v868 : BitVec 32 := Scalar.muli v867 c1_i32_292
  let v869 : BitVec 32 := Scalar.addi c0_i32_291 v868
  let c1_i32_294 : BitVec 32 := 1#32
  let arg7 : BitVec 32 := Scf.iv v869 c1_i32_294 k0_t2
  let v889 : BitVec 32 := Scalar.subi v888 arg7
  let c256_i32_308 : BitVec 32 := 256#32
  let v890 : BitVec 32 := Scalar.muli v889 c256_i32_308
  let v891 : BitVec 32 := v890
  let v904 : Index := Scalar.indexCast v891
  let c384_316 : Index := 384#32
  ![0, v904.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x512 : Shape := ⟨2, ![32768, 512]⟩
abbrev S8x4096x8x64 : Shape := ⟨4, ![8, 4096, 8, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S8x4096x8x64, .f32⟩
  | .hbm, ⟨4, _⟩ => ⟨S8x4096x8x64, .f32⟩
  | .hbm, ⟨5, _⟩ => ⟨S8x4096x8x64, .f32⟩
  | .hbm, ⟨6, _⟩ => ⟨S4096, .i32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S8x8x4096x4096, .f32⟩
  | .hbm, ⟨17, _⟩ => ⟨S8x8x4096x4096, .f32⟩
  | .hbm, ⟨18, _⟩ => ⟨S_, .f32⟩
  | .hbm, ⟨19, _⟩ => ⟨S8x8x4096x4096, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .i1⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S_, .f32⟩
  | .hbm, ⟨34, _⟩ => ⟨S_, .f32⟩
  | .hbm, ⟨35, _⟩ => ⟨S8x8x4096x4096, .i1⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S_, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .i1⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S_, .f32⟩
  | .hbm, ⟨61, _⟩ => ⟨S_, .f32⟩
  | .hbm, ⟨62, _⟩ => ⟨S8x8x4096x4096, .i1⟩
  | .hbm, ⟨63, _⟩ => ⟨S8x8x4096x4096, .f32⟩
  | .hbm, ⟨64, _⟩ => ⟨S8x8x4096x4096, .f32⟩
  | .hbm, ⟨65, _⟩ => ⟨S8x8x64x4096, .f32⟩
  | .hbm, ⟨66, _⟩ => ⟨S8x4096x8x64, .f32⟩
  | .hbm, ⟨67, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S8x1x1024 : Shape := ⟨3, ![8, 1, 1024]⟩
abbrev S1024x8712 : Shape := ⟨2, ![1024, 8712]⟩
abbrev S1024x5632 : Shape := ⟨2, ![1024, 5632]⟩
abbrev S1024x3072 : Shape := ⟨2, ![1024, 3072]⟩
abbrev S1024x8704 : Shape := ⟨2, ![1024, 8704]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x512 : Shape := ⟨2, ![32768, 512]⟩
abbrev S32768x3072 : Shape := ⟨2, ![32768, 3072]⟩
abbrev S32768x128 : Shape := ⟨2, ![32768, 128]⟩
abbrev S256x1024 : Shape := ⟨2, ![256, 1024]⟩
abbrev S1x1x1024 : Shape := ⟨3, ![1, 1, 1024]⟩
abbrev S256x512 : Shape := ⟨2, ![256, 512]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩

abbrev nBuf : Space → Nat
  | .hbm => 25
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x8712, .f32⟩
  | .hbm, ⟨5, _⟩ => ⟨S1024x5632, .f32⟩
  | .hbm, ⟨6, _⟩ => ⟨S1024x3072, .f32⟩
  | .hbm, ⟨7, _⟩ => ⟨S1024x8704, .f32⟩
  | .hbm, ⟨8, _⟩ => ⟨S1024x8704, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1x1024, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x1024, .f32⟩
  | .hbm, ⟨18, _⟩ => ⟨S32768x512, .f32⟩
  | .hbm, ⟨19, _⟩ => ⟨S32768x512, .f32⟩
  | .hbm, ⟨20, _⟩ => ⟨S32768x1024, .f32⟩
  | .hbm, ⟨21, _⟩ => ⟨S32768x512, .f32⟩
  | .hbm, ⟨22, _⟩ => ⟨S32768x512, .f32⟩
  | .hbm, ⟨23, _⟩ => ⟨S32768x3072, .f32⟩
  | .hbm, ⟨24, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x8704, .bf16⟩
  | .local _ .vmem, ⟨8, _⟩ => ⟨S1024x128, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x3072, .f32⟩
  | .local _ .vmem, ⟨28, _⟩ => ⟨S256x3072, .f32⟩
  | .local _ .vmem, ⟨29, _⟩ => ⟨S256x128, .f32⟩
  | .local _ .vmem, ⟨30, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev main_v7_9 : Ref sig .tc := ⟨.hbm, 23, rfl⟩
abbrev main_v7_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x8704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S32768x1024 : Shape := ⟨2, ![32768, 1024]⟩
abbrev S1024 : Shape := ⟨1, ![1024]⟩
abbrev S8x1x1024 : Shape := ⟨3, ![8, 1, 1024]⟩
abbrev S1024x8712 : Shape := ⟨2, ![1024, 8712]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8712 : Shape := ⟨3, ![8, 4096, 8712]⟩
abbrev S32768x8712 : Shape := ⟨2, ![32768, 8712]⟩
abbrev S32768x512 : Shape := ⟨2, ![32768, 512]⟩
abbrev S32768x4 : Shape := ⟨2, ![32768, 4]⟩
abbrev S32768x3072 : Shape := ⟨2, ![32768, 3072]⟩
abbrev S32768x120 : Shape := ⟨2, ![32768, 120]⟩
abbrev S32768x128 : Shape := ⟨2, ![32768, 128]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x8712, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x8712, .f32⟩
  | .hbm, ⟨30, _⟩ => ⟨S32768x8712, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x1024, .f32⟩
  | .hbm, ⟨35, _⟩ => ⟨S32768x512, .f32⟩
  | .hbm, ⟨36, _⟩ => ⟨S32768x512, .f32⟩
  | .hbm, ⟨37, _⟩ => ⟨S32768x1024, .f32⟩
  | .hbm, ⟨38, _⟩ => ⟨S32768x512, .f32⟩
  | .hbm, ⟨39, _⟩ => ⟨S32768x512, .f32⟩
  | .hbm, ⟨40, _⟩ => ⟨S32768x4, .f32⟩
  | .hbm, ⟨41, _⟩ => ⟨S32768x4, .f32⟩
  | .hbm, ⟨42, _⟩ => ⟨S32768x3072, .f32⟩
  | .hbm, ⟨43, _⟩ => ⟨S_, .f32⟩
  | .hbm, ⟨44, _⟩ => ⟨S32768x120, .f32⟩
  | .hbm, ⟨45, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S32768x1024 : Shape := ⟨2, ![32768, 1024]⟩
abbrev S8x1x1024 : Shape := ⟨3, ![8, 1, 1024]⟩
abbrev S32768x512 : Shape := ⟨2, ![32768, 512]⟩
abbrev S32768x3072 : Shape := ⟨2, ![32768, 3072]⟩
abbrev S128 : Shape := ⟨1, ![128]⟩
abbrev S4x128 : Shape := ⟨2, ![4, 128]⟩
abbrev S512x1024 : Shape := ⟨2, ![512, 1024]⟩
abbrev S1024x1024 : Shape := ⟨2, ![1024, 1024]⟩
abbrev S1x128 : Shape := ⟨2, ![1, 128]⟩
abbrev S1x512 : Shape := ⟨2, ![1, 512]⟩
abbrev S256x1024 : Shape := ⟨2, ![256, 1024]⟩
abbrev S1x1x1024 : Shape := ⟨3, ![1, 1, 1024]⟩
abbrev S256x512 : Shape := ⟨2, ![256, 512]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x512, .f32⟩
  | .hbm, ⟨3, _⟩ => ⟨S32768x1024, .f32⟩
  | .hbm, ⟨4, _⟩ => ⟨S32768x512, .f32⟩
  | .hbm, ⟨5, _⟩ => ⟨S32768x512, .f32⟩
  | .hbm, ⟨6, _⟩ => ⟨S32768x3072, .f32⟩
  | .hbm, ⟨7, _⟩ => ⟨S128, .f32⟩
  | .hbm, ⟨8, _⟩ => ⟨S4x128, .f32⟩
  | .hbm, ⟨9, _⟩ => ⟨S512x1024, .f32⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S512x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S1x128, .f32⟩
  | .hbm, ⟨18, _⟩ => ⟨S1x512, .f32⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x3072, .f32⟩
  | .local _ .vmem, ⟨13, _⟩ => ⟨S256x3072, .f32⟩
  | .local _ .vmem, ⟨14, _⟩ => ⟨S1x128, .f32⟩
  | .local _ .vmem, ⟨15, _⟩ => ⟨S1x512, .f32⟩
  | .local _ .vmem, ⟨16, _⟩ => ⟨S512x1024, .bf16⟩
  | .local _ .vmem, ⟨17, _⟩ => ⟨S1024x1024, .bf16⟩
  | .local _ .vmem, ⟨18, _⟩ => ⟨S512x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S8x1x1024 : Shape := ⟨3, ![8, 1, 1024]⟩
abbrev S32768x512 : Shape := ⟨2, ![32768, 512]⟩
abbrev S32768x3072 : Shape := ⟨2, ![32768, 3072]⟩
abbrev S128 : Shape := ⟨1, ![128]⟩
abbrev S4x128 : Shape := ⟨2, ![4, 128]⟩
abbrev S512x1024 : Shape := ⟨2, ![512, 1024]⟩
abbrev S1024x1024 : Shape := ⟨2, ![1024, 1024]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x4x128 : Shape := ⟨4, ![1, 1, 4, 128]⟩
abbrev S8x4096x3x1024 : Shape := ⟨4, ![8, 4096, 3, 1024]⟩
abbrev S8x4096x1x1024 : Shape := ⟨4, ![8, 4096, 1, 1024]⟩
abbrev S8x4096x1024 : Shape := ⟨3, ![8, 4096, 1024]⟩
abbrev S8x4096x512 : Shape := ⟨3, ![8, 4096, 512]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x1024, .f32⟩
  | .hbm, ⟨2, _⟩ => ⟨S32768x512, .f32⟩
  | .hbm, ⟨3, _⟩ => ⟨S32768x1024, .f32⟩
  | .hbm, ⟨4, _⟩ => ⟨S32768x512, .f32⟩
  | .hbm, ⟨5, _⟩ => ⟨S32768x512, .f32⟩
  | .hbm, ⟨6, _⟩ => ⟨S32768x3072, .f32⟩
  | .hbm, ⟨7, _⟩ => ⟨S128, .f32⟩
  | .hbm, ⟨8, _⟩ => ⟨S4x128, .f32⟩
  | .hbm, ⟨9, _⟩ => ⟨S512x1024, .f32⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S8x4096x8x128, .f32⟩
  | .hbm, ⟨14, _⟩ => ⟨S8x4096x8x128, .f32⟩
  | .hbm, ⟨15, _⟩ => ⟨S_, .f32⟩
  | .hbm, ⟨16, _⟩ => ⟨S8x4096x8, .f32⟩
  | .hbm, ⟨17, _⟩ => ⟨S8x4096x8x1, .f32⟩
  | .hbm, ⟨18, _⟩ => ⟨S_, .f32⟩
  | .hbm, ⟨19, _⟩ => ⟨S8x4096x8x1, .f32⟩
  | .hbm, ⟨20, _⟩ => ⟨S8x4096x8x1, .f32⟩
  | .hbm, ⟨21, _⟩ => ⟨S_, .f32⟩
  | .hbm, ⟨22, _⟩ => ⟨S8x4096x8x1, .f32⟩
  | .hbm, ⟨23, _⟩ => ⟨S8x4096x8x1, .f32⟩
  | .hbm, ⟨24, _⟩ => ⟨S8x4096x8x1, .f32⟩
  | .hbm, ⟨25, _⟩ => ⟨S8x4096x8x128, .f32⟩
  | .hbm, ⟨26, _⟩ => ⟨S8x4096x8x128, .f32⟩
  | .hbm, ⟨27, _⟩ => ⟨S1x1x1x128, .f32⟩
  | .hbm, ⟨28, _⟩ => ⟨S8x4096x8x128, .f32⟩
  | .hbm, ⟨29, _⟩ => ⟨S8x4096x8x128, .f32⟩
  | .hbm, ⟨30, _⟩ => ⟨S_, .f32⟩
  | .hbm, ⟨31, _⟩ => ⟨S8x4096x8x128, .f32⟩
  | .hbm, ⟨32, _⟩ => ⟨S8x4096x8x128, .f32⟩
  | .hbm, ⟨33, _⟩ => ⟨S8x4096x4x128, .f32⟩
  | .hbm, ⟨34, _⟩ => ⟨S8x4096x4x128, .f32⟩
  | .hbm, ⟨35, _⟩ => ⟨S_, .f32⟩
  | .hbm, ⟨36, _⟩ => ⟨S8x4096x4, .f32⟩
  | .hbm, ⟨37, _⟩ => ⟨S8x4096x4x1, .f32⟩
  | .hbm, ⟨38, _⟩ => ⟨S_, .f32⟩
  | .hbm, ⟨39, _⟩ => ⟨S8x4096x4x1, .f32⟩
  | .hbm, ⟨40, _⟩ => ⟨S8x4096x4x1, .f32⟩
  | .hbm, ⟨41, _⟩ => ⟨S_, .f32⟩
  | .hbm, ⟨42, _⟩ => ⟨S8x4096x4x1, .f32⟩
  | .hbm, ⟨43, _⟩ => ⟨S8x4096x4x1, .f32⟩
  | .hbm, ⟨44, _⟩ => ⟨S8x4096x4x1, .f32⟩
  | .hbm, ⟨45, _⟩ => ⟨S8x4096x4x128, .f32⟩
  | .hbm, ⟨46, _⟩ => ⟨S8x4096x4x128, .f32⟩
  | .hbm, ⟨47, _⟩ => ⟨S1x1x4x128, .f32⟩
  | .hbm, ⟨48, _⟩ => ⟨S8x4096x4x128, .f32⟩
  | .hbm, ⟨49, _⟩ => ⟨S8x4096x4x128, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S8x4096x4x128, .f32⟩
  | .hbm, ⟨59, _⟩ => ⟨S8x4096x4x128, .f32⟩
  | .hbm, ⟨60, _⟩ => ⟨S32768x3072, .f32⟩
  | .hbm, ⟨61, _⟩ => ⟨S32768x3072, .f32⟩
  | .hbm, ⟨62, _⟩ => ⟨S_, .f32⟩
  | .hbm, ⟨63, _⟩ => ⟨S32768x3072, .f32⟩
  | .hbm, ⟨64, _⟩ => ⟨S32768x3072, .f32⟩
  | .hbm, ⟨65, _⟩ => ⟨S_, .f32⟩
  | .hbm, ⟨66, _⟩ => ⟨S32768x3072, .f32⟩
  | .hbm, ⟨67, _⟩ => ⟨S32768x3072, .f32⟩
  | .hbm, ⟨68, _⟩ => ⟨S8x4096x3x1024, .f32⟩
  | .hbm, ⟨69, _⟩ => ⟨S8x4096x1x1024, .f32⟩
  | .hbm, ⟨70, _⟩ => ⟨S8x4096x1024, .f32⟩
  | .hbm, ⟨71, _⟩ => ⟨S8x4096x512, .f32⟩
  | .hbm, ⟨72, _⟩ => ⟨S8x4096x1024, .f32⟩
  | .hbm, ⟨73, _⟩ => ⟨S8x4096x1024, .f32⟩
  | .hbm, ⟨74, _⟩ => ⟨S8x4096x1x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1x1024, .f32⟩
  | .hbm, ⟨81, _⟩ => ⟨S8x4096x1024, .f32⟩
  | .hbm, ⟨82, _⟩ => ⟨S8x4096x512, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S64 : Shape := ⟨1, ![64]⟩
abbrev S8 : Shape := ⟨1, ![8]⟩
abbrev S1x64 : Shape := ⟨2, ![1, 64]⟩
abbrev S4x64 : Shape := ⟨2, ![4, 64]⟩
abbrev S8x4096x512 : Shape := ⟨3, ![8, 4096, 512]⟩
abbrev S512x256 : Shape := ⟨2, ![512, 256]⟩
abbrev S1x4096x128 : Shape := ⟨3, ![1, 4096, 128]⟩
abbrev S512x128 : Shape := ⟨2, ![512, 128]⟩
abbrev S512x512 : Shape := ⟨2, ![512, 512]⟩
abbrev S1 : Shape := ⟨1, ![1]⟩
abbrev S512x1 : Shape := ⟨2, ![512, 1]⟩
abbrev S1x512x128 : Shape := ⟨3, ![1, 512, 128]⟩
abbrev S512 : Shape := ⟨1, ![512]⟩
abbrev S1x1 : Shape := ⟨2, ![1, 1]⟩

abbrev nBuf : Space → Nat
  | .hbm => 16
  | .vmem => 9
  | .smem => 1
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S8x4096x512, .f32⟩
  | .hbm, ⟨14, _⟩ => ⟨S8x4096x512, .f32⟩
  | .hbm, ⟨15, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S4x64, .f32⟩
  | .local _ .vmem, ⟨7, _⟩ => ⟨S512x256, .f32⟩
  | .local _ .vmem, ⟨8, _⟩ => ⟨S512x256, .f32⟩
  | .local _ .smem, ⟨0, _⟩ => ⟨S8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def k0_off1 (i : grid0.Coords) (c0_i32 : BitVec 32) : Fin 1 → Nat :=
  let arg1 : BitVec 32 := BitVec.ofNat 32 (i 1).val
  let c2_i32 : BitVec 32 := 2#32
  let v6 : BitVec 32 := Scalar.muli arg1 c2_i32
  let v7 : BitVec 32 := Scalar.addi v6 c0_i32
  let v8 : Index := Scalar.indexCast v7
  ![v8.toNat]
@[reducible] def k0_t1_loop (i : grid0.Coords) : Scf.Loop 32 :=
  let c0_i32_55 : BitVec 32 := 0#32
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let v166 : BitVec 32 := Scalar.subi v165 c0_i32_55
  let c1_i32_56 : BitVec 32 := 1#32
  let v168 : BitVec 32 := Scalar.divsi v166 c1_i32_56
  let v169 : BitVec 32 := Scalar.muli v168 c1_i32_56
  let v170 : BitVec 32 := Scalar.addi c0_i32_55 v169
  let c1_i32_57 : BitVec 32 := 1#32
  ⟨c0_i32_55, v170, c1_i32_57⟩
def k0_mult1 (i : grid0.Coords) (k0_t1 : Fin (k0_t1_loop i).trips) : BitVec 32 :=
  let c0_i32_55 : BitVec 32 := 0#32
  let c1_i32_57 : BitVec 32 := 1#32
  let arg9 : BitVec 32 := Scf.iv c0_i32_55 c1_i32_57 k0_t1
  let c512_i32_95 : BitVec 32 := 512#32
  let v325 : BitVec 32 := Scalar.muli arg9 c512_i32_95
  v325
def k0_off2 (i : grid0.Coords) (k0_t1 : Fin (k0_t1_loop i).trips) : Fin 3 → Nat :=
  let c0_96 : Index := 0#32
  let c0_i32_55 : BitVec 32 := 0#32
  let c1_i32_57 : BitVec 32 := 1#32
  let arg9 : BitVec 32 := Scf.iv c0_i32_55 c1_i32_57 k0_t1
  let c512_i32_95 : BitVec 32 := 512#32
  let v325 : BitVec 32 := Scalar.muli arg9 c512_i32_95
  let v326 : BitVec 32 := v325
  let v327 : Index := Scalar.indexCast v326
  let c0_97 : Index := 0#32
  ![0, v327.toNat, 0]
@[reducible] def k0_t2_loop (i : grid0.Coords) : Scf.Loop 32 :=
  let c0_i32_55 : BitVec 32 := 0#32
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let v166 : BitVec 32 := Scalar.subi v165 c0_i32_55
  let c1_i32_56 : BitVec 32 := 1#32
  let v168 : BitVec 32 := Scalar.divsi v166 c1_i32_56
  let v169 : BitVec 32 := Scalar.muli v168 c1_i32_56
  let v170 : BitVec 32 := Scalar.addi c0_i32_55 v169
  let v167 : BitVec 32 := Scalar.addi c0_i32_55 v166
  let c1_i32_58 : BitVec 32 := 1#32
  ⟨v170, v167, c1_i32_58⟩
def k0_mult2 (i : grid0.Coords) (k0_t2 : Fin (k0_t2_loop i).trips) : BitVec 32 :=
  let c0_i32_55 : BitVec 32 := 0#32
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let v166 : BitVec 32 := Scalar.subi v165 c0_i32_55
  let c1_i32_56 : BitVec 32 := 1#32
  let v168 : BitVec 32 := Scalar.divsi v166 c1_i32_56
  let v169 : BitVec 32 := Scalar.muli v168 c1_i32_56
  let v170 : BitVec 32 := Scalar.addi c0_i32_55 v169
  let c1_i32_58 : BitVec 32 := 1#32
  let arg9 : BitVec 32 := Scf.iv v170 c1_i32_58 k0_t2
  let c512_i32_95 : BitVec 32 := 512#32
  let v325 : BitVec 32 := Scalar.muli arg9 c512_i32_95
  v325
def k0_off3 (i : grid0.Coords) (k0_t2 : Fin (k0_t2_loop i).trips) : Fin 3 → Nat :=
  let c0_96 : Index := 0#32
  let c0_i32_55 : BitVec 32 := 0#32
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let v166 : BitVec 32 := Scalar.subi v165 c0_i32_55
  let c1_i32_56 : BitVec 32 := 1#32
  let v168 : BitVec 32 := Scalar.divsi v166 c1_i32_56
  let v169 : BitVec 32 := Scalar.muli v168 c1_i32_56
  let v170 : BitVec 32 := Scalar.addi c0_i32_55 v169
  let c1_i32_58 : BitVec 32 := 1#32
  let arg9 : BitVec 32 := Scf.iv v170 c1_i32_58 k0_t2
  let c512_i32_95 : BitVec 32 := 512#32
  let v325 : BitVec 32 := Scalar.muli arg9 c512_i32_95
  let v326 : BitVec 32 := v325
  let v327 : Index := Scalar.indexCast v326
  let c0_97 : Index := 0#32
  ![0, v327.toNat, 0]
def k0_mult3 (i : grid0.Coords) : BitVec 32 :=
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let c512_i32_59 : BitVec 32 := 512#32
  let v173 : BitVec 32 := Scalar.muli v165 c512_i32_59
  v173
def k0_off4 (i : grid0.Coords) : Fin 3 → Nat :=
  let c0_60 : Index := 0#32
  let arg2 : BitVec 32 := BitVec.ofNat 32 (i 2).val
  let c512_i32 : BitVec 32 := 512#32
  let v148 : BitVec 32 := Scalar.muli arg2 c512_i32
  let c0_i32_49 : BitVec 32 := 0#32
  let v150 : BitVec 1 := Scalar.cmpi .sgt v148 c0_i32_49
  let v151 : BitVec 32 := Scalar.extui v150
  let c0_i32_50 : BitVec 32 := 0#32
  let v152 : BitVec 1 := Scalar.cmpi .slt v148 c0_i32_50
  let v153 : BitVec 32 := Scalar.extui v152
  let v154 : BitVec 32 := Scalar.subi v151 v153
  let c512_i32_48 : BitVec 32 := 512#32
  let c0_i32_51 : BitVec 32 := 0#32
  let v155 : BitVec 1 := Scalar.cmpi .sgt c512_i32_48 c0_i32_51
  let v156 : BitVec 32 := Scalar.extui v155
  let c0_i32_52 : BitVec 32 := 0#32
  let v157 : BitVec 1 := Scalar.cmpi .slt c512_i32_48 c0_i32_52
  let v158 : BitVec 32 := Scalar.extui v157
  let v159 : BitVec 32 := Scalar.subi v156 v158
  let v160 : BitVec 1 := Scalar.cmpi .ne v154 v159
  let v161 : BitVec 32 := Scalar.remsi v148 c512_i32_48
  let c0_i32_53 : BitVec 32 := 0#32
  let v162 : BitVec 1 := Scalar.cmpi .ne v161 c0_i32_53
  let v163 : BitVec 1 := Scalar.andi v160 v162
  let v149 : BitVec 32 := Scalar.divsi v148 c512_i32_48
  let c1_i32_54 : BitVec 32 := 1#32
  let v164 : BitVec 32 := Scalar.subi v149 c1_i32_54
  let v165 : BitVec 32 := Scalar.select v163 v164 v149
  let c512_i32_59 : BitVec 32 := 512#32
  let v173 : BitVec 32 := Scalar.muli v165 c512_i32_59
  let v174 : BitVec 32 := v173
  let v175 : Index := Scalar.indexCast v174
  let c0_61 : Index := 0#32
  ![0, v175.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S32768x1024 : Shape := ⟨2, ![32768, 1024]⟩
abbrev S32768x512 : Shape := ⟨2, ![32768, 512]⟩
abbrev S64 : Shape := ⟨1, ![64]⟩
abbrev S8 : Shape := ⟨1, ![8]⟩
abbrev S4x2 : Shape := ⟨2, ![4, 2]⟩
abbrev S_ : Shape := ⟨0, ![]⟩
abbrev S8x4096x4x2x128 : Shape := ⟨5, ![8, 4096, 4, 2, 128]⟩
abbrev S8x4096x4x128 : Shape := ⟨4, ![8, 4096, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x2x1x1 : Shape := ⟨4, ![4, 2, 1, 1]⟩
abbrev S1x1x4096x4096 : Shape := ⟨4, ![1, 1, 4096, 4096]⟩
abbrev S4x2x4096x4096 : Shape := ⟨4, ![4, 2, 4096, 4096]⟩
abbrev S8x4096x4x2x64 : Shape := ⟨5, ![8, 4096, 4, 2, 64]⟩
abbrev S8x4096x4x64 : Shape := ⟨4, ![8, 4096, 4, 64]⟩
abbrev S8x4x4096x4096x2 : Shape := ⟨5, ![8, 4, 4096, 4096, 2]⟩
abbrev S8x4x2x4096x4096 : Shape := ⟨5, ![8, 4, 2, 4096, 4096]⟩
abbrev S1x4x2x4096x4096 : Shape := ⟨5, ![1, 4, 2, 4096, 4096]⟩
abbrev S8x4x2x4096 : Shape := ⟨4, ![8, 4, 2, 4096]⟩
abbrev S8x4x2x4096x1 : Shape := ⟨5, ![8, 4, 2, 4096, 1]⟩
abbrev S8x4x128x2x4096 : Shape := ⟨5, ![8, 4, 128, 2, 4096]⟩

abbrev nBuf : Space → Nat
  | .hbm => 103
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S4x2, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x4096x4x2x128, .f32⟩
  | .hbm, ⟨21, _⟩ => ⟨S8x4096x4x128, .f32⟩
  | .hbm, ⟨22, _⟩ => ⟨S8x4096x4x128, .f32⟩
  | .hbm, ⟨23, _⟩ => ⟨S4096, .i32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S4x2x1x1, .f32⟩
  | .hbm, ⟨34, _⟩ => ⟨S4x2x1x1, .f32⟩
  | .hbm, ⟨35, _⟩ => ⟨S1x1x4096x4096, .f32⟩
  | .hbm, ⟨36, _⟩ => ⟨S4x2x4096x4096, .f32⟩
  | .hbm, ⟨37, _⟩ => ⟨S4x2x4096x4096, .f32⟩
  | .hbm, ⟨38, _⟩ => ⟨S4x2x4096x4096, .f32⟩
  | .hbm, ⟨39, _⟩ => ⟨S8x4096x4x2x64, .f32⟩
  | .hbm, ⟨40, _⟩ => ⟨S8x4096x4x64, .f32⟩
  | .hbm, ⟨41, _⟩ => ⟨S8x4x4096x4096x2, .f32⟩
  | .hbm, ⟨42, _⟩ => ⟨S8x4x2x4096x4096, .f32⟩
  | .hbm, ⟨43, _⟩ => ⟨S_, .f32⟩
  | .hbm, ⟨44, _⟩ => ⟨S8x4x2x4096x4096, .f32⟩
  | .hbm, ⟨45, _⟩ => ⟨S8x4x2x4096x4096, .f32⟩
  | .hbm, ⟨46, _⟩ => ⟨S1x4x2x4096x4096, .f32⟩
  | .hbm, ⟨47, _⟩ => ⟨S8x4x2x4096x4096, .f32⟩
  | .hbm, ⟨48, _⟩ => ⟨S8x4x2x4096x4096, .f32⟩
  | .hbm, ⟨49, _⟩ => ⟨S_, .f32⟩
  | .hbm, ⟨50, _⟩ => ⟨S_, .f32⟩
  | .hbm, ⟨51, _⟩ => ⟨S8x4x2x4096x4096, .i1⟩
  | .hbm, ⟨52, _⟩ => ⟨S8x4x2x4096x4096, .f32⟩
  | .hbm, ⟨53, _⟩ => ⟨S8x4x2x4096x4096, .f32⟩
  | .hbm, ⟨54, _⟩ => ⟨S_, .f32⟩
  | .hbm, ⟨55, _⟩ => ⟨S8x4x2x4096, .f32⟩
  | .hbm, ⟨56, _⟩ => ⟨S_, .f32⟩
  | .hbm, ⟨57, _⟩ => ⟨S8x4x2x4096, .f32⟩
  | .hbm, ⟨58, _⟩ => ⟨S8x4x2x4096, .f32⟩
  | .hbm, ⟨59, _⟩ => ⟨S8x4x2x4096x1, .f32⟩
  | .hbm, ⟨60, _⟩ => ⟨S8x4x2x4096x4096, .f32⟩
  | .hbm, ⟨61, _⟩ => ⟨S8x4x2x4096x4096, .f32⟩
  | .hbm, ⟨62, _⟩ => ⟨S8x4x2x4096x4096, .f32⟩
  | .hbm, ⟨63, _⟩ => ⟨S_, .f32⟩
  | .hbm, ⟨64, _⟩ => ⟨S8x4x2x4096, .f32⟩
  | .hbm, ⟨65, _⟩ => ⟨S8x4x2x4096x1, .f32⟩
  | .hbm, ⟨66, _⟩ => ⟨S8x4x2x4096x4096, .f32⟩
  | .hbm, ⟨67, _⟩ => ⟨S8x4x2x4096x4096, .f32⟩
  | .hbm, ⟨68, _⟩ => ⟨S8x4096x4x2x64, .f32⟩
  | .hbm, ⟨69, _⟩ => ⟨S8x4096x4x64, .f32⟩
  | .hbm, ⟨70, _⟩ => ⟨S8x4x4096x4096x2, .f32⟩
  | .hbm, ⟨71, _⟩ => ⟨S8x4x2x4096x4096, .f32⟩
  | .hbm, ⟨72, _⟩ => ⟨S_, .f32⟩
  | .hbm, ⟨73, _⟩ => ⟨S8x4x2x4096x4096, .f32⟩
  | .hbm, ⟨74, _⟩ => ⟨S8x4x2x4096x4096, .f32⟩
  | .hbm, ⟨75, _⟩ => ⟨S1x4x2x4096x4096, .f32⟩
  | .hbm, ⟨76, _⟩ => ⟨S8x4x2x4096x4096, .f32⟩
  | .hbm, ⟨77, _⟩ => ⟨S8x4x2x4096x4096, .f32⟩
  | .hbm, ⟨78, _⟩ => ⟨S_, .f32⟩
  | .hbm, ⟨79, _⟩ => ⟨S_, .f32⟩
  | .hbm, ⟨80, _⟩ => ⟨S8x4x2x4096x4096, .i1⟩
  | .hbm, ⟨81, _⟩ => ⟨S8x4x2x4096x4096, .f32⟩
  | .hbm, ⟨82, _⟩ => ⟨S8x4x2x4096x4096, .f32⟩
  | .hbm, ⟨83, _⟩ => ⟨S_, .f32⟩
  | .hbm, ⟨84, _⟩ => ⟨S8x4x2x4096, .f32⟩
  | .hbm, ⟨85, _⟩ => ⟨S_, .f32⟩
  | .hbm, ⟨86, _⟩ => ⟨S8x4x2x4096, .f32⟩
  | .hbm, ⟨87, _⟩ => ⟨S8x4x2x4096, .f32⟩
  | .hbm, ⟨88, _⟩ => ⟨S8x4x2x4096x1, .f32⟩
  | .hbm, ⟨89, _⟩ => ⟨S8x4x2x4096x4096, .f32⟩
  | .hbm, ⟨90, _⟩ => ⟨S8x4x2x4096x4096, .f32⟩
  | .hbm, ⟨91, _⟩ => ⟨S8x4x2x4096x4096, .f32⟩
  | .hbm, ⟨92, _⟩ => ⟨S_, .f32⟩
  | .hbm, ⟨93, _⟩ => ⟨S8x4x2x4096, .f32⟩
  | .hbm, ⟨94, _⟩ => ⟨S8x4x2x4096x1, .f32⟩
  | .hbm, ⟨95, _⟩ => ⟨S8x4x2x4096x4096, .f32⟩
  | .hbm, ⟨96, _⟩ => ⟨S8x4x2x4096x4096, .f32⟩
  | .hbm, ⟨97, _⟩ => ⟨S8x4x2x4096x4096, .f32⟩
  | .hbm, ⟨98, _⟩ => ⟨S8x4x2x4096x4096, .f32⟩
  | .hbm, ⟨99, _⟩ => ⟨S8x4x2x4096x4096, .f32⟩
  | .hbm, ⟨100, _⟩ => ⟨S8x4x128x2x4096, .f32⟩
  | .hbm, ⟨101, _⟩ => ⟨S8x4096x4x2x128, .f32⟩
  | .hbm, ⟨102, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x1024 : Shape := ⟨2, ![32768, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x4096x1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1x1024, .f32⟩
  | .hbm, ⟨3, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S128x1024 : Shape := ⟨2, ![128, 1024]⟩
abbrev S1024 : Shape := ⟨1, ![1024]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x4x1024, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S32x1x1024 : Shape := ⟨3, ![32, 1, 1024]⟩
abbrev S1024x8712 : Shape := ⟨2, ![1024, 8712]⟩
abbrev S32x1024 : Shape := ⟨2, ![32, 1024]⟩
abbrev S32x4x1024 : Shape := ⟨3, ![32, 4, 1024]⟩
abbrev S1x128x1024 : Shape := ⟨3, ![1, 128, 1024]⟩
abbrev S1024x5632 : Shape := ⟨2, ![1024, 5632]⟩
abbrev S1024x3072 : Shape := ⟨2, ![1024, 3072]⟩
abbrev S1024x8704 : Shape := ⟨2, ![1024, 8704]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S128x512 : Shape := ⟨2, ![128, 512]⟩
abbrev S128x3072 : Shape := ⟨2, ![128, 3072]⟩
abbrev S128x128 : Shape := ⟨2, ![128, 128]⟩
abbrev S128 : Shape := ⟨1, ![128]⟩
abbrev S128x1 : Shape := ⟨2, ![128, 1]⟩
abbrev S1024x512 : Shape := ⟨2, ![1024, 512]⟩
abbrev S1024x1024 : Shape := ⟨2, ![1024, 1024]⟩

abbrev nBuf : Space → Nat
  | .hbm => 33
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x8712, .f32⟩
  | .hbm, ⟨5, _⟩ => ⟨S32x1024, .f32⟩
  | .hbm, ⟨6, _⟩ => ⟨S32x4x1024, .f32⟩
  | .hbm, ⟨7, _⟩ => ⟨S128x1024, .f32⟩
  | .hbm, ⟨8, _⟩ => ⟨S1x128x1024, .f32⟩
  | .hbm, ⟨9, _⟩ => ⟨S32x1024, .f32⟩
  | .hbm, ⟨10, _⟩ => ⟨S32x4x1024, .f32⟩
  | .hbm, ⟨11, _⟩ => ⟨S128x1024, .f32⟩
  | .hbm, ⟨12, _⟩ => ⟨S1x128x1024, .f32⟩
  | .hbm, ⟨13, _⟩ => ⟨S1024x5632, .f32⟩
  | .hbm, ⟨14, _⟩ => ⟨S1024x3072, .f32⟩
  | .hbm, ⟨15, _⟩ => ⟨S1024x8704, .f32⟩
  | .hbm, ⟨16, _⟩ => ⟨S1024x8704, .bf16⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1x1024, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x1024, .f32⟩
  | .hbm, ⟨26, _⟩ => ⟨S128x512, .f32⟩
  | .hbm, ⟨27, _⟩ => ⟨S128x512, .f32⟩
  | .hbm, ⟨28, _⟩ => ⟨S128x1024, .f32⟩
  | .hbm, ⟨29, _⟩ => ⟨S128x512, .f32⟩
  | .hbm, ⟨30, _⟩ => ⟨S128x512, .f32⟩
  | .hbm, ⟨31, _⟩ => ⟨S128x3072, .f32⟩
  | .hbm, ⟨32, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x8704, .bf16⟩
  | .local _ .vmem, ⟨5, _⟩ => ⟨S1024x128, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x1024, .f32⟩
  | .local _ .vmem, ⟨10, _⟩ => ⟨S128x512, .f32⟩
  | .local _ .vmem, ⟨11, _⟩ => ⟨S128x512, .f32⟩
  | .local _ .vmem, ⟨12, _⟩ => ⟨S128x1024, .f32⟩
  | .local _ .vmem, ⟨13, _⟩ => ⟨S128x512, .f32⟩
  | .local _ .vmem, ⟨14, _⟩ => ⟨S128x512, .f32⟩
  | .local _ .vmem, ⟨15, _⟩ => ⟨S128x3072, .f32⟩
  | .local _ .vmem, ⟨16, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v15_6 : Ref sig .tc := ⟨.hbm, 28, rfl⟩
abbrev main_v15_7 : Ref sig .tc := ⟨.hbm, 29, rfl⟩
abbrev main_v15_8 : Ref sig .tc := ⟨.hbm, 30, rfl⟩
abbrev main_v15_9 : Ref sig .tc := ⟨.hbm, 31, rfl⟩
abbrev main_v15_10 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x8704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference7Ideal.lean ====
abbrev S128x1024 : Shape := ⟨2, ![128, 1024]⟩
abbrev S1024 : Shape := ⟨1, ![1024]⟩
abbrev S32x1x1024 : Shape := ⟨3, ![32, 1, 1024]⟩
abbrev S1024x8712 : Shape := ⟨2, ![1024, 8712]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x8712 : Shape := ⟨3, ![32, 4, 8712]⟩
abbrev S128x8712 : Shape := ⟨2, ![128, 8712]⟩
abbrev S128x512 : Shape := ⟨2, ![128, 512]⟩
abbrev S128x4 : Shape := ⟨2, ![128, 4]⟩
abbrev S128x3072 : Shape := ⟨2, ![128, 3072]⟩
abbrev S128x120 : Shape := ⟨2, ![128, 120]⟩
abbrev S128x128 : Shape := ⟨2, ![128, 128]⟩

abbrev nBuf : Space → Nat
  | .hbm => 46
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x8712, .f32⟩
  | .hbm, ⟨5, _⟩ => ⟨S32x4x1024, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x4x1024, .f32⟩
  | .hbm, ⟨26, _⟩ => ⟨S32x4x1024, .f32⟩
  | .hbm, ⟨27, _⟩ => ⟨S32x4x1024, .f32⟩
  | .hbm, ⟨28, _⟩ => ⟨S32x4x1024, .f32⟩
  | .hbm, ⟨29, _⟩ => ⟨S32x4x8712, .f32⟩
  | .hbm, ⟨30, _⟩ => ⟨S128x8712, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S128x1024, .f32⟩
  | .hbm, ⟨35, _⟩ => ⟨S128x512, .f32⟩
  | .hbm, ⟨36, _⟩ => ⟨S128x512, .f32⟩
  | .hbm, ⟨37, _⟩ => ⟨S128x1024, .f32⟩
  | .hbm, ⟨38, _⟩ => ⟨S128x512, .f32⟩
  | .hbm, ⟨39, _⟩ => ⟨S128x512, .f32⟩
  | .hbm, ⟨40, _⟩ => ⟨S128x4, .f32⟩
  | .hbm, ⟨41, _⟩ => ⟨S128x4, .f32⟩
  | .hbm, ⟨42, _⟩ => ⟨S128x3072, .f32⟩
  | .hbm, ⟨43, _⟩ => ⟨S_, .f32⟩
  | .hbm, ⟨44, _⟩ => ⟨S128x120, .f32⟩
  | .hbm, ⟨45, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel8.lean ====
abbrev S128x1024 : Shape := ⟨2, ![128, 1024]⟩
abbrev S128x512 : Shape := ⟨2, ![128, 512]⟩
abbrev S128x128 : Shape := ⟨2, ![128, 128]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S4x1024 : Shape := ⟨2, ![4, 1024]⟩
abbrev S1024 : Shape := ⟨1, ![1024]⟩
abbrev S4 : Shape := ⟨1, ![4]⟩
abbrev S_ : Shape := ⟨0, ![]⟩
abbrev S32x8x1024 : Shape := ⟨3, ![32, 8, 1024]⟩
abbrev S32x4x1024 : Shape := ⟨3, ![32, 4, 1024]⟩
abbrev S32x128x1024 : Shape := ⟨3, ![32, 128, 1024]⟩
abbrev S4096x1024 : Shape := ⟨2, ![4096, 1024]⟩
abbrev S32x4x512 : Shape := ⟨3, ![32, 4, 512]⟩
abbrev S32x128x512 : Shape := ⟨3, ![32, 128, 512]⟩
abbrev S4096x512 : Shape := ⟨2, ![4096, 512]⟩
abbrev S32x128x128 : Shape := ⟨3, ![32, 128, 128]⟩
abbrev S4096x128 : Shape := ⟨2, ![4096, 128]⟩
abbrev S32x8x128 : Shape := ⟨3, ![32, 8, 128]⟩
abbrev S32x4x1 : Shape := ⟨3, ![32, 4, 1]⟩
abbrev S8 : Shape := ⟨1, ![8]⟩
abbrev S128 : Shape := ⟨1, ![128]⟩
abbrev S1x128 : Shape := ⟨2, ![1, 128]⟩
abbrev S1x1024 : Shape := ⟨2, ![1, 1024]⟩
abbrev S1x8x1024 : Shape := ⟨3, ![1, 8, 1024]⟩
abbrev S1x4x128x128 : Shape := ⟨4, ![1, 4, 128, 128]⟩
abbrev S1x8x128 : Shape := ⟨3, ![1, 8, 128]⟩
abbrev S136x1024 : Shape := ⟨2, ![136, 1024]⟩
abbrev S4x128x128 : Shape := ⟨3, ![4, 128, 128]⟩
abbrev S8x128 : Shape := ⟨2, ![8, 128]⟩
abbrev S8x1024 : Shape := ⟨2, ![8, 1024]⟩
abbrev S128x1 : Shape := ⟨2, ![128, 1]⟩
abbrev S1x1 : Shape := ⟨2, ![1, 1]⟩
abbrev S1x128x128 : Shape := ⟨3, ![1, 128, 128]⟩

abbrev nBuf : Space → Nat
  | .hbm => 47
  | .vmem => 29
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x128, .f32⟩
  | .hbm, ⟨3, _⟩ => ⟨S32x3x1024, .f32⟩
  | .hbm, ⟨4, _⟩ => ⟨S32x4x128x128, .f32⟩
  | .hbm, ⟨5, _⟩ => ⟨S32x4x128, .f32⟩
  | .hbm, ⟨6, _⟩ => ⟨S32x4, .f32⟩
  | .hbm, ⟨7, _⟩ => ⟨S4x1024, .f32⟩
  | .hbm, ⟨8, _⟩ => ⟨S1024, .f32⟩
  | .hbm, ⟨9, _⟩ => ⟨S4, .f32⟩
  | .hbm, ⟨10, _⟩ => ⟨S4, .f32⟩
  | .hbm, ⟨11, _⟩ => ⟨S_, .i32⟩
  | .hbm, ⟨12, _⟩ => ⟨S_, .f32⟩
  | .hbm, ⟨13, _⟩ => ⟨S32x8x1024, .f32⟩
  | .hbm, ⟨14, _⟩ => ⟨S32x4x1024, .f32⟩
  | .hbm, ⟨15, _⟩ => ⟨S_, .i32⟩
  | .hbm, ⟨16, _⟩ => ⟨S_, .f32⟩
  | .hbm, ⟨17, _⟩ => ⟨S32x128x1024, .f32⟩
  | .hbm, ⟨18, _⟩ => ⟨S4096x1024, .f32⟩
  | .hbm, ⟨19, _⟩ => ⟨S32x4x512, .f32⟩
  | .hbm, ⟨20, _⟩ => ⟨S_, .i32⟩
  | .hbm, ⟨21, _⟩ => ⟨S_, .f32⟩
  | .hbm, ⟨22, _⟩ => ⟨S32x128x512, .f32⟩
  | .hbm, ⟨23, _⟩ => ⟨S4096x512, .f32⟩
  | .hbm, ⟨24, _⟩ => ⟨S32x4x128, .f32⟩
  | .hbm, ⟨25, _⟩ => ⟨S_, .i32⟩
  | .hbm, ⟨26, _⟩ => ⟨S_, .f32⟩
  | .hbm, ⟨27, _⟩ => ⟨S32x128x128, .f32⟩
  | .hbm, ⟨28, _⟩ => ⟨S4096x128, .f32⟩
  | .hbm, ⟨29, _⟩ => ⟨S_, .i32⟩
  | .hbm, ⟨30, _⟩ => ⟨S_, .f32⟩
  | .hbm, ⟨31, _⟩ => ⟨S32x8x128, .f32⟩
  | .hbm, ⟨32, _⟩ => ⟨S32x4x1, .f32⟩
  | .hbm, ⟨33, _⟩ => ⟨S32x4x128, .f32⟩
  | .hbm, ⟨34, _⟩ => ⟨S_, .i32⟩
  | .hbm, ⟨35, _⟩ => ⟨S_, .f32⟩
  | .hbm, ⟨36, _⟩ => ⟨S32x8x128, .f32⟩
  | .hbm, ⟨37, _⟩ => ⟨S8, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S1x1024, .f32⟩
  | .hbm, ⟨43, _⟩ => ⟨S4096x512, .f32⟩
  | .hbm, ⟨44, _⟩ => ⟨S32x4x128x128, .f32⟩
  | .hbm, ⟨45, _⟩ => ⟨S32x8x128, .f32⟩
  | .hbm, ⟨46, _⟩ => ⟨S32x8x128, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1x8x1024, .f32⟩
  | .local _ .vmem, ⟨7, _⟩ => ⟨S1x8x1024, .f32⟩
  | .local _ .vmem, ⟨8, _⟩ => ⟨S1x4x128x128, .f32⟩
  | .local _ .vmem, ⟨9, _⟩ => ⟨S1x4x128x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S4x1024, .f32⟩
  | .local _ .vmem, ⟨15, _⟩ => ⟨S1x1024, .f32⟩
  | .local _ .vmem, ⟨16, _⟩ => ⟨S1x128, .f32⟩
  | .local _ .vmem, ⟨17, _⟩ => ⟨S128x512, .f32⟩
  | .local _ .vmem, ⟨18, _⟩ => ⟨S128x512, .f32⟩
  | .local _ .vmem, ⟨19, _⟩ => ⟨S1x4x128x128, .f32⟩
  | .local _ .vmem, ⟨20, _⟩ => ⟨S1x4x128x128, .f32⟩
  | .local _ .vmem, ⟨21, _⟩ => ⟨S1x8x128, .f32⟩
  | .local _ .vmem, ⟨22, _⟩ => ⟨S1x8x128, .f32⟩
  | .local _ .vmem, ⟨23, _⟩ => ⟨S1x8x128, .f32⟩
  | .local _ .vmem, ⟨24, _⟩ => ⟨S1x8x128, .f32⟩
  | .local _ .vmem, ⟨25, _⟩ => ⟨S136x1024, .f32⟩
  | .local _ .vmem, ⟨26, _⟩ => ⟨S4x128x128, .f32⟩
  | .local _ .vmem, ⟨27, _⟩ => ⟨S8x128, .f32⟩
  | .local _ .vmem, ⟨28, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_call4_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_call5_v0 : Ref sig .tc := ⟨.hbm, 35, rfl⟩
abbrev main_v13 : Ref sig .tc := ⟨.hbm, 36, rfl⟩
abbrev main_v14 : Ref sig .tc := ⟨.hbm, 37, rfl⟩
abbrev main_c_5 : Ref sig .tc := ⟨.hbm, 38, rfl⟩
abbrev main_call6_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_144 : BitVec 32 := 0#32
  let v459 : BitVec 1 := Scalar.cmpi .eq arg1 c0_i32_144
  let v460 : BitVec 32 := Scalar.extui v459
  let c0_i32_145 : BitVec 32 := 0#32
  let v461 : BitVec 1 := Scalar.cmpi .ne v460 c0_i32_145
  v461

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel8Ideal.lean ====
variable {F : FTy → Type} [FloatOps F] [Named F]
def κ : String → Option EReal := fun
  | "mask" => some ⊥
  | _ => none
-- ==== Reference8Ideal.lean ====
abbrev S128x1024 : Shape := ⟨2, ![128, 1024]⟩
abbrev S128x512 : Shape := ⟨2, ![128, 512]⟩
abbrev S128x128 : Shape := ⟨2, ![128, 128]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S4x1024 : Shape := ⟨2, ![4, 1024]⟩
abbrev S1024 : Shape := ⟨1, ![1024]⟩
abbrev S4 : Shape := ⟨1, ![4]⟩
abbrev S32x4x4 : Shape := ⟨3, ![32, 4, 4]⟩
abbrev S1x1x4 : Shape := ⟨3, ![1, 1, 4]⟩
abbrev S_ : Shape := ⟨0, ![]⟩
abbrev S4x4 : Shape := ⟨2, ![4, 4]⟩
abbrev S32x4x4x1 : Shape := ⟨4, ![32, 4, 4, 1]⟩
abbrev S32x4x1x4 : Shape := ⟨4, ![32, 4, 1, 4]⟩
abbrev S32x4x4x4 : Shape := ⟨4, ![32, 4, 4, 4]⟩
abbrev S32x4x1 : Shape := ⟨3, ![32, 4, 1]⟩
abbrev S32x8x128 : Shape := ⟨3, ![32, 8, 128]⟩

abbrev nBuf : Space → Nat
  | .hbm => 78
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x128, .f32⟩
  | .hbm, ⟨3, _⟩ => ⟨S32x3x1024, .f32⟩
  | .hbm, ⟨4, _⟩ => ⟨S32x4x128x128, .f32⟩
  | .hbm, ⟨5, _⟩ => ⟨S32x4x128, .f32⟩
  | .hbm, ⟨6, _⟩ => ⟨S32x4, .f32⟩
  | .hbm, ⟨7, _⟩ => ⟨S4x1024, .f32⟩
  | .hbm, ⟨8, _⟩ => ⟨S1024, .f32⟩
  | .hbm, ⟨9, _⟩ => ⟨S4, .f32⟩
  | .hbm, ⟨10, _⟩ => ⟨S4, .f32⟩
  | .hbm, ⟨11, _⟩ => ⟨S32x4x128, .f32⟩
  | .hbm, ⟨12, _⟩ => ⟨S32x4x4, .f32⟩
  | .hbm, ⟨13, _⟩ => ⟨S1x1x4, .f32⟩
  | .hbm, ⟨14, _⟩ => ⟨S32x4x4, .f32⟩
  | .hbm, ⟨15, _⟩ => ⟨S32x4x4, .f32⟩
  | .hbm, ⟨16, _⟩ => ⟨S32x4x4, .f32⟩
  | .hbm, ⟨17, _⟩ => ⟨S32x4x4, .f32⟩
  | .hbm, ⟨18, _⟩ => ⟨S1x1x4, .f32⟩
  | .hbm, ⟨19, _⟩ => ⟨S32x4x4, .f32⟩
  | .hbm, ⟨20, _⟩ => ⟨S32x4x4, .f32⟩
  | .hbm, ⟨21, _⟩ => ⟨S32x4x4, .f32⟩
  | .hbm, ⟨22, _⟩ => ⟨S_, .f32⟩
  | .hbm, ⟨23, _⟩ => ⟨S32x4x4, .f32⟩
  | .hbm, ⟨24, _⟩ => ⟨S32x4x4, .f32⟩
  | .hbm, ⟨25, _⟩ => ⟨S32x4x4, .f32⟩
  | .hbm, ⟨26, _⟩ => ⟨S32x4x4, .f32⟩
  | .hbm, ⟨27, _⟩ => ⟨S32x4x4, .i1⟩
  | .hbm, ⟨28, _⟩ => ⟨S32x4x4, .f32⟩
  | .hbm, ⟨29, _⟩ => ⟨S32x4x4, .f32⟩
  | .hbm, ⟨30, _⟩ => ⟨S32x4x4, .f32⟩
  | .hbm, ⟨31, _⟩ => ⟨S32x4x4, .f32⟩
  | .hbm, ⟨32, _⟩ => ⟨S32x4x4, .f32⟩
  | .hbm, ⟨33, _⟩ => ⟨S32x4x4, .f32⟩
  | .hbm, ⟨34, _⟩ => ⟨S32x4x4, .f32⟩
  | .hbm, ⟨35, _⟩ => ⟨S32x4x4, .f32⟩
  | .hbm, ⟨36, _⟩ => ⟨S32x4x4, .f32⟩
  | .hbm, ⟨37, _⟩ => ⟨S32x4x4, .f32⟩
  | .hbm, ⟨38, _⟩ => ⟨S_, .f32⟩
  | .hbm, ⟨39, _⟩ => ⟨S_, .f32⟩
  | .hbm, ⟨40, _⟩ => ⟨S32x4x4, .f32⟩
  | .hbm, ⟨41, _⟩ => ⟨S_, .i1⟩
  | .hbm, ⟨42, _⟩ => ⟨S4x4, .i1⟩
  | .hbm, ⟨43, _⟩ => ⟨S4x4, .i32⟩
  | .hbm, ⟨44, _⟩ => ⟨S_, .i32⟩
  | .hbm, ⟨45, _⟩ => ⟨S4x4, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S_, .i1⟩
  | .hbm, ⟨50, _⟩ => ⟨S4x4, .i1⟩
  | .hbm, ⟨51, _⟩ => ⟨S4x4, .i1⟩
  | .hbm, ⟨52, _⟩ => ⟨S32x4x4x1, .f32⟩
  | .hbm, ⟨53, _⟩ => ⟨S32x4x1x4, .f32⟩
  | .hbm, ⟨54, _⟩ => ⟨S32x4x4x4, .f32⟩
  | .hbm, ⟨55, _⟩ => ⟨S32x4x4x4, .f32⟩
  | .hbm, ⟨56, _⟩ => ⟨S32x4x4x4, .f32⟩
  | .hbm, ⟨57, _⟩ => ⟨S32x4x1x4, .f32⟩
  | .hbm, ⟨58, _⟩ => ⟨S32x4x4x4, .f32⟩
  | .hbm, ⟨59, _⟩ => ⟨S32x4x4x4, .f32⟩
  | .hbm, ⟨60, _⟩ => ⟨S_, .f32⟩
  | .hbm, ⟨61, _⟩ => ⟨S_, .f32⟩
  | .hbm, ⟨62, _⟩ => ⟨S32x4x4x4, .i1⟩
  | .hbm, ⟨63, _⟩ => ⟨S32x4x4x4, .f32⟩
  | .hbm, ⟨64, _⟩ => ⟨S32x4x4x4, .f32⟩
  | .hbm, ⟨65, _⟩ => ⟨S32x4x1, .f32⟩
  | .hbm, ⟨66, _⟩ => ⟨S32x4x4, .f32⟩
  | .hbm, ⟨67, _⟩ => ⟨S32x4x4, .f32⟩
  | .hbm, ⟨68, _⟩ => ⟨S_, .f32⟩
  | .hbm, ⟨69, _⟩ => ⟨S32x4x4, .f32⟩
  | .hbm, ⟨70, _⟩ => ⟨S32x4x4, .f32⟩
  | .hbm, ⟨71, _⟩ => ⟨S32x4x1, .f32⟩
  | .hbm, ⟨72, _⟩ => ⟨S32x4, .f32⟩
  | .hbm, ⟨73, _⟩ => ⟨S32x4x1, .f32⟩
  | .hbm, ⟨74, _⟩ => ⟨S32x4x128, .f32⟩
  | .hbm, ⟨75, _⟩ => ⟨S_, .f32⟩
  | .hbm, ⟨76, _⟩ => ⟨S32x4x128, .f32⟩
  | .hbm, ⟨77, _⟩ => ⟨S32x8x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v10 : Ref sig .tc := ⟨.hbm, 36, rfl⟩
abbrev main_v11 : Ref sig .tc := ⟨.hbm, 37, rfl⟩
abbrev main_call1_call0_cst : Ref sig .tc := ⟨.hbm, 38, rfl⟩
abbrev main_call1_call0_v0 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_0 : Ref sig .tc := ⟨.hbm, 49, rfl⟩
abbrev main_call2_v5 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_1 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Proof.Tiles.lean ====
/-
  The stick-breaking attention kernel's body as eight copies of one head's step: the state of the loop over the key
  tiles is, per head, a block of weighted value sums and a column of running logarithms; a tile takes the state of every
  head by the same two functions, with or without the causal mask.
-/
module

public import proofs.«01_k».proof.Proof.Gen.KernelIdeal.Value
public import Idealize.ShloMosaic.Lib.Pipeline.ValueKit

@[expose] public section

set_option maxRecDepth 16384

noncomputable section

namespace Cert.Proof
open Cert.KernelIdeal Cert.KernelIdeal.Gen
open Idealize.ShloMosaic Idealize.ShloMosaic.TcCoe Idealize.ShloMosaic.Tactic

/-- The state the loop over the key tiles carries: per head the weighted value sums and the running logarithms. -/
abbrev T16 := FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32

/-- What a tile's load of a key or value slab is used as: the loaded rows. -/
def tile (arg : Memref sig .tc .vmem S1x4096x512 .f32) (X : BufTy.Contents (Elt Ideal) arg.view.ty) (off : Fin 3 → ℕ)
    (inb : ∀ a, off a + S1x256x128.size a ≤ S1x4096x512.size a) : FVec Ideal S256x128 .bf16 :=
  k0_pay2 (View.readAt (Elt Ideal) arg.view (Rect.unit (s := S1x4096x512) off S1x256x128.size inb).toLoadRect X)

/-- One unmasked tile's effect on the state of the eight heads. -/
def mapU (v12 : FVec Ideal S256x256 .bf16) (q : Fin 8 → FVec Ideal S512x128 .bf16) (k v : Fin 4 → FVec Ideal S256x128 .bf16)
    (a : T16) : T16 :=
  (k0_pay12 v12 (q 0) a.1 a.2.1 (k 0) (v 0),
   k0_pay13 (q 0) a.2.1 (k 0),
   k0_pay12 v12 (q 1) a.2.2.1 a.2.2.2.1 (k 0) (v 0),
   k0_pay13 (q 1) a.2.2.2.1 (k 0),
   k0_pay12 v12 (q 2) a.2.2.2.2.1 a.2.2.2.2.2.1 (k 1) (v 1),
   k0_pay13 (q 2) a.2.2.2.2.2.1 (k 1),
   k0_pay12 v12 (q 3) a.2.2.2.2.2.2.1 a.2.2.2.2.2.2.2.1 (k 1) (v 1),
   k0_pay13 (q 3) a.2.2.2.2.2.2.2.1 (k 1),
   k0_pay12 v12 (q 4) a.2.2.2.2.2.2.2.2.1 a.2.2.2.2.2.2.2.2.2.1 (k 2) (v 2),
   k0_pay13 (q 4) a.2.2.2.2.2.2.2.2.2.1 (k 2),
   k0_pay12 v12 (q 5) a.2.2.2.2.2.2.2.2.2.2.1 a.2.2.2.2.2.2.2.2.2.2.2.1 (k 2) (v 2),
   k0_pay13 (q 5) a.2.2.2.2.2.2.2.2.2.2.2.1 (k 2),
   k0_pay12 v12 (q 6) a.2.2.2.2.2.2.2.2.2.2.2.2.1 a.2.2.2.2.2.2.2.2.2.2.2.2.2.1 (k 3) (v 3),
   k0_pay13 (q 6) a.2.2.2.2.2.2.2.2.2.2.2.2.2.1 (k 3),
   k0_pay12 v12 (q 7) a.2.2.2.2.2.2.2.2.2.2.2.2.2.2.1 a.2.2.2.2.2.2.2.2.2.2.2.2.2.2.2 (k 3) (v 3),
   k0_pay13 (q 7) a.2.2.2.2.2.2.2.2.2.2.2.2.2.2.2 (k 3))

/-- One masked tile's effect on the state of the eight heads. -/
def mapM (v12 : FVec Ideal S256x256 .bf16) (q : Fin 8 → FVec Ideal S512x128 .bf16) (k v : Fin 4 → FVec Ideal S256x128 .bf16)
    (msk : IVec S512x256 1) (a : T16) : T16 :=
  (k0_pay142 v12 (q 0) a.1 a.2.1 (k 0) (v 0) msk,
   k0_pay143 (q 0) a.2.1 (k 0) msk,
   k0_pay142 v12 (q 1) a.2.2.1 a.2.2.2.1 (k 0) (v 0) msk,
   k0_pay143 (q 1) a.2.2.2.1 (k 0) msk,
   k0_pay142 v12 (q 2) a.2.2.2.2.1 a.2.2.2.2.2.1 (k 1) (v 1) msk,
   k0_pay143 (q 2) a.2.2.2.2.2.1 (k 1) msk,
   k0_pay142 v12 (q 3) a.2.2.2.2.2.2.1 a.2.2.2.2.2.2.2.1 (k 1) (v 1) msk,
   k0_pay143 (q 3) a.2.2.2.2.2.2.2.1 (k 1) msk,
   k0_pay142 v12 (q 4) a.2.2.2.2.2.2.2.2.1 a.2.2.2.2.2.2.2.2.2.1 (k 2) (v 2) msk,
   k0_pay143 (q 4) a.2.2.2.2.2.2.2.2.2.1 (k 2) msk,
   k0_pay142 v12 (q 5) a.2.2.2.2.2.2.2.2.2.2.1 a.2.2.2.2.2.2.2.2.2.2.2.1 (k 2) (v 2) msk,
   k0_pay143 (q 5) a.2.2.2.2.2.2.2.2.2.2.2.1 (k 2) msk,
   k0_pay142 v12 (q 6) a.2.2.2.2.2.2.2.2.2.2.2.2.1 a.2.2.2.2.2.2.2.2.2.2.2.2.2.1 (k 3) (v 3) msk,
   k0_pay143 (q 6) a.2.2.2.2.2.2.2.2.2.2.2.2.2.1 (k 3) msk,
   k0_pay142 v12 (q 7) a.2.2.2.2.2.2.2.2.2.2.2.2.2.2.1 a.2.2.2.2.2.2.2.2.2.2.2.2.2.2.2 (k 3) (v 3) msk,
   k0_pay143 (q 7) a.2.2.2.2.2.2.2.2.2.2.2.2.2.2.2 (k 3) msk)

/-- The four slabs of a key or value tile at trip `k` of the loop. -/
def tilesAt (i : grid0.Coords) (arg : Memref sig .tc .vmem S1x4096x512 .f32) (X : BufTy.Contents (Elt Ideal) arg.view.ty)
    (k : Fin (k0_t1_loop i).trips) : Fin 4 → FVec Ideal S256x128 .bf16 :=
  ![tile arg X (k0_off5 i k) (k0_off5_inb i k), tile arg X (k0_off6 i k) (k0_off6_inb i k),
    tile arg X (k0_off7 i k) (k0_off7_inb i k), tile arg X (k0_off8 i k) (k0_off8_inb i k)]

/-- The state before trip `j` of `n` trips with the tiles `kt`, `vt`. -/
def iterU {n : ℕ} (v12 : FVec Ideal S256x256 .bf16) (q : Fin 8 → FVec Ideal S512x128 .bf16)
    (kt vt : Fin n → Fin 4 → FVec Ideal S256x128 .bf16) (init : T16) : ℕ → T16
  | 0 => init
  | j + 1 => if h : j < n then mapU v12 q (kt ⟨j, h⟩) (vt ⟨j, h⟩) (iterU v12 q kt vt init j)
      else iterU v12 q kt vt init j

/-- One trip of the kernel's loop is one unmasked tile for every head. -/
theorem trip_eq (𝒱 : Variants) (c : Dev nD) (bd : Option 𝒱.V) (i : grid0.Coords) (arg3 : Memref sig .tc .vmem S512x512 .f32) (harg3 : arg3.IsWhole) (arg4 : Memref sig .tc .vmem S1x4096x512 .f32) (harg4 : arg4.IsWhole) (arg5 : Memref sig .tc .vmem S1x4096x512 .f32) (harg5 : arg5.IsWhole) (arg6 : Memref sig .tc .vmem S512x512 .f32) (harg6 : arg6.IsWhole) (arg2 : BitVec 32) (v0 : IVec S512x128 32) (v6 : IVec S512x256 32) (v12 : FVec Ideal S256x256 .bf16) (v42 : FVec Ideal S512x128 .bf16) (v72 : FVec Ideal S512x128 .bf16) (v102 : FVec Ideal S512x128 .bf16) (v132 : FVec Ideal S512x128 .bf16) (v162 : FVec Ideal S512x128 .bf16) (v192 : FVec Ideal S512x128 .bf16) (v222 : FVec Ideal S512x128 .bf16) (v252 : FVec Ideal S512x128 .bf16) (v272 : BitVec 32) (v565 : FVec Ideal S512x128 .f32) (v568 : FVec Ideal S512x1 .f32) (v603 : FVec Ideal S256x128 .bf16) (v608 : IVec S512x256 1) (v637 : FVec Ideal S512x128 .f32) (v640 : FVec Ideal S512x1 .f32) (v669 : FVec Ideal S512x128 .f32) (v672 : FVec Ideal S512x1 .f32) (v701 : FVec Ideal S512x128 .f32) (v704 : FVec Ideal S512x1 .f32) (v733 : FVec Ideal S512x128 .f32) (v736 : FVec Ideal S512x1 .f32) (v765 : FVec Ideal S512x128 .f32) (v768 : FVec Ideal S512x1 .f32) (v797 : FVec Ideal S512x128 .f32) (v800 : FVec Ideal S512x1 .f32) (v829 : FVec Ideal S512x128 .f32) (v832 : FVec Ideal S512x1 .f32) (v835 : FVec Ideal S512x256 .f32) (v837 : FVec Ideal S512x256 .f32) (v842 : FVec Ideal S512x256 .f32) (X_arg4 : BufTy.Contents (Elt Ideal) arg4.view.ty) (X_arg5 : BufTy.Contents (Elt Ideal) arg5.view.ty) (init : T16) (k : Fin (k0_t1_loop i).trips) :
    tripR_k0_t1 (F := Ideal) 𝒱 c bd i arg3 harg3 arg4 harg4 arg5 harg5 arg6 harg6 arg2 v0 v6 v12 v42 v72 v102 v132 v162 v192 v222 v252 v272 v565 v568 v603 v608 v637 v640 v669 v672 v701 v704 v733 v736 v765 v768 v797 v800 v829 v832 v835 v837 v842 X_arg4 X_arg5 k init
      = mapU v12 ![v42, v72, v102, v132, v162, v192, v222, v252] (tilesAt i arg4 X_arg4 k) (tilesAt i arg5 X_arg5 k) init := by
  unfold tripR_k0_t1 trip_k0_t1
  rfl

/-- The state before trip `j` of the kernel's loop. -/
theorem loop_eq (𝒱 : Variants) (c : Dev nD) (bd : Option 𝒱.V) (i : grid0.Coords) (arg3 : Memref sig .tc .vmem S512x512 .f32) (harg3 : arg3.IsWhole) (arg4 : Memref sig .tc .vmem S1x4096x512 .f32) (harg4 : arg4.IsWhole) (arg5 : Memref sig .tc .vmem S1x4096x512 .f32) (harg5 : arg5.IsWhole) (arg6 : Memref sig .tc .vmem S512x512 .f32) (harg6 : arg6.IsWhole) (arg2 : BitVec 32) (v0 : IVec S512x128 32) (v6 : IVec S512x256 32) (v12 : FVec Ideal S256x256 .bf16) (v42 : FVec Ideal S512x128 .bf16) (v72 : FVec Ideal S512x128 .bf16) (v102 : FVec Ideal S512x128 .bf16) (v132 : FVec Ideal S512x128 .bf16) (v162 : FVec Ideal S512x128 .bf16) (v192 : FVec Ideal S512x128 .bf16) (v222 : FVec Ideal S512x128 .bf16) (v252 : FVec Ideal S512x128 .bf16) (v272 : BitVec 32) (v565 : FVec Ideal S512x128 .f32) (v568 : FVec Ideal S512x1 .f32) (v603 : FVec Ideal S256x128 .bf16) (v608 : IVec S512x256 1) (v637 : FVec Ideal S512x128 .f32) (v640 : FVec Ideal S512x1 .f32) (v669 : FVec Ideal S512x128 .f32) (v672 : FVec Ideal S512x1 .f32) (v701 : FVec Ideal S512x128 .f32) (v704 : FVec Ideal S512x1 .f32) (v733 : FVec Ideal S512x128 .f32) (v736 : FVec Ideal S512x1 .f32) (v765 : FVec Ideal S512x128 .f32) (v768 : FVec Ideal S512x1 .f32) (v797 : FVec Ideal S512x128 .f32) (v800 : FVec Ideal S512x1 .f32) (v829 : FVec Ideal S512x128 .f32) (v832 : FVec Ideal S512x1 .f32) (v835 : FVec Ideal S512x256 .f32) (v837 : FVec Ideal S512x256 .f32) (v842 : FVec Ideal S512x256 .f32) (X_arg4 : BufTy.Contents (Elt Ideal) arg4.view.ty) (X_arg5 : BufTy.Contents (Elt Ideal) arg5.view.ty) (init : T16) (j : ℕ) (hj : j ≤ (k0_t1_loop i).trips) :
    st_k0_t1 (F := Ideal) 𝒱 c bd i arg3 harg3 arg4 harg4 arg5 harg5 arg6 harg6 arg2 v0 v6 v12 v42 v72 v102 v132 v162 v192 v222 v252 v272 v565 v568 v603 v608 v637 v640 v669 v672 v701 v704 v733 v736 v765 v768 v797 v800 v829 v832 v835 v837 v842 X_arg4 X_arg5 init j
      = iterU v12 ![v42, v72, v102, v132, v162, v192, v222, v252] (tilesAt i arg4 X_arg4) (tilesAt i arg5 X_arg5) init j := by
  induction j with
  | zero => rfl
  | succ j ih =>
    have h : j < (k0_t1_loop i).trips := hj
    refine (st_k0_t1_succ _ _ _ _ _ _ _ _ _ _ _ _ _ _ _ _ _ _ _ _ _ _ _ _ _ _ _ _ _ _ _ _ _ _ _ _ _ _ _ _ _ _ _ _ _ _ _ _ _ ⟨j, h⟩).trans ?_
    rw [trip_eq, ih (by omega), iterU, dif_pos h]

/-- The remainder loop makes no trip. -/
theorem rest_eq (𝒱 : Variants) (c : Dev nD) (bd : Option 𝒱.V) (i : grid0.Coords) (arg3 : Memref sig .tc .vmem S512x512 .f32) (harg3 : arg3.IsWhole) (arg4 : Memref sig .tc .vmem S1x4096x512 .f32) (harg4 : arg4.IsWhole) (arg5 : Memref sig .tc .vmem S1x4096x512 .f32) (harg5 : arg5.IsWhole) (arg6 : Memref sig .tc .vmem S512x512 .f32) (harg6 : arg6.IsWhole) (arg2 : BitVec 32) (v0 : IVec S512x128 32) (v6 : IVec S512x256 32) (v12 : FVec Ideal S256x256 .bf16) (v42 : FVec Ideal S512x128 .bf16) (v72 : FVec Ideal S512x128 .bf16) (v102 : FVec Ideal S512x128 .bf16) (v132 : FVec Ideal S512x128 .bf16) (v162 : FVec Ideal S512x128 .bf16) (v192 : FVec Ideal S512x128 .bf16) (v222 : FVec Ideal S512x128 .bf16) (v252 : FVec Ideal S512x128 .bf16) (v272 : BitVec 32) (v565 : FVec Ideal S512x128 .f32) (v568 : FVec Ideal S512x1 .f32) (v603 : FVec Ideal S256x128 .bf16) (v608 : IVec S512x256 1) (v637 : FVec Ideal S512x128 .f32) (v640 : FVec Ideal S512x1 .f32) (v669 : FVec Ideal S512x128 .f32) (v672 : FVec Ideal S512x1 .f32) (v701 : FVec Ideal S512x128 .f32) (v704 : FVec Ideal S512x1 .f32) (v733 : FVec Ideal S512x128 .f32) (v736 : FVec Ideal S512x1 .f32) (v765 : FVec Ideal S512x128 .f32) (v768 : FVec Ideal S512x1 .f32) (v797 : FVec Ideal S512x128 .f32) (v800 : FVec Ideal S512x1 .f32) (v829 : FVec Ideal S512x128 .f32) (v832 : FVec Ideal S512x1 .f32) (v835 : FVec Ideal S512x256 .f32) (v837 : FVec Ideal S512x256 .f32) (v842 : FVec Ideal S512x256 .f32) (v869 : BitVec 32) (X_arg4 : BufTy.Contents (Elt Ideal) arg4.view.ty) (X_arg5 : BufTy.Contents (Elt Ideal) arg5.view.ty) (init : T16) (j : ℕ) (hj : j = 0) :
    st_k0_t2 (F := Ideal) 𝒱 c bd i arg3 harg3 arg4 harg4 arg5 harg5 arg6 harg6 arg2 v0 v6 v12 v42 v72 v102 v132 v162 v192 v222 v252 v272 v565 v568 v603 v608 v637 v640 v669 v672 v701 v704 v733 v736 v765 v768 v797 v800 v829 v832 v835 v837 v842 v869 X_arg4 X_arg5 init j = init := by
  subst hj; rfl

end Cert.Proof

end
-- ==== Proof.Body.lean ====
/-
  The attention kernel's output block at a grid point: four stores, each choosing per lane between the two heads that
  share a slab of 128 lanes, of the state that the two masked tiles and then the loop over the earlier tiles leave.
-/
module

public import proofs.«01_k».proof.Proof.Tiles

@[expose] public section

set_option maxRecDepth 16384

noncomputable section

namespace Cert.Proof
open Cert.KernelIdeal Cert.KernelIdeal.Gen
open Idealize.ShloMosaic Idealize.ShloMosaic.TcCoe Idealize.ShloMosaic.Tactic

/-- The number of a lane within a slab. -/
def lanes : IVec S512x128 32 := iota .tc S512x128 32 [1] iota_S512x128_d1_w32

/-- A slab of queries with the lanes of the other head of its pair set to zero: `e` is the head's number in the pair. -/
def qsel (e : BitVec 32) (sl : FVec Ideal S512x128 .f32) : FVec Ideal S512x128 .bf16 :=
  have v0 : IVec S512x128 32 := lanes
  have v103 : IVec S512x128 32 := broadcast S512x128 64#32
  have v104 : IVec S512x128 32 := divsi v0 v103
  have v105 : IVec S512x128 32 := broadcast S512x128 0#32
  have v106 : IVec S512x128 1 := cmpi .sgt v0 v105
  have v107 : IVec S512x128 32 := extui 32 v106 natLt_1_32
  have v108 : IVec S512x128 32 := broadcast S512x128 0#32
  have v109 : IVec S512x128 1 := cmpi .slt v0 v108
  have v110 : IVec S512x128 32 := extui 32 v109 natLt_1_32
  have v111 : IVec S512x128 32 := subi v107 v110
  let v112 : BitVec 1 := Scalar.cmpi .sgt 64#32 0#32
  let v113 : BitVec 32 := Scalar.extui v112
  let v114 : BitVec 1 := Scalar.cmpi .slt 64#32 0#32
  let v115 : BitVec 32 := Scalar.extui v114
  let v116 : BitVec 32 := Scalar.subi v113 v115
  have v117 : IVec S512x128 32 := broadcast S512x128 v116
  have v118 : IVec S512x128 1 := cmpi .ne v111 v117
  have v119 : IVec S512x128 32 := broadcast S512x128 64#32
  have v120 : IVec S512x128 32 := remsi v0 v119
  have v121 : IVec S512x128 32 := broadcast S512x128 0#32
  have v122 : IVec S512x128 1 := cmpi .ne v120 v121
  have v123 : IVec S512x128 1 := andi v118 v122
  have v124 : IVec S512x128 32 := broadcast S512x128 1#32
  have v125 : IVec S512x128 32 := subi v104 v124
  have v126 : IVec S512x128 32 := select v123 v125 v104
  have v127 : IVec S512x128 32 := broadcast S512x128 e
  have v128 : IVec S512x128 1 := cmpi .eq v126 v127
  have cst_33 : Ideal .f32 := Scalar.ofBits .f32 0x00000000#32
  have v130 : FVec Ideal S512x128 .f32 := broadcast S512x128 cst_33
  have v131 : FVec Ideal S512x128 .f32 := select v128 sl v130
  have v132 : FVec Ideal S512x128 .bf16 := truncf .bf16 v131 bitsLt_bf16_f32
  v132

/-- The scaled block of queries. -/
def qscaled (arg : Memref sig .tc .vmem S512x512 .f32) (X : BufTy.Contents (Elt Ideal) arg.view.ty) : FVec Ideal S512x512 .f32 :=
  k0_pay90 (View.readAt (Elt Ideal) arg.view (Rect.unit (s := S512x512) ![0, 0] S512x512.size inb_S512x512_S512x512_0_0).toLoadRect X)

/-- The eight heads' queries. -/
def qheads (v3 : FVec Ideal S512x512 .f32) : Fin 8 → FVec Ideal S512x128 .bf16 :=
  ![qsel 0#32 (extractStridedSlice S512x128 ![0, 0] v3 slices_S512x512_o0_0_S512x128),
    qsel 1#32 (extractStridedSlice S512x128 ![0, 0] v3 slices_S512x512_o0_0_S512x128),
    qsel 0#32 (extractStridedSlice S512x128 ![0, 128] v3 slices_S512x512_o0_128_S512x128),
    qsel 1#32 (extractStridedSlice S512x128 ![0, 128] v3 slices_S512x512_o0_128_S512x128),
    qsel 0#32 (extractStridedSlice S512x128 ![0, 256] v3 slices_S512x512_o0_256_S512x128),
    qsel 1#32 (extractStridedSlice S512x128 ![0, 256] v3 slices_S512x512_o0_256_S512x128),
    qsel 0#32 (extractStridedSlice S512x128 ![0, 384] v3 slices_S512x512_o0_384_S512x128),
    qsel 1#32 (extractStridedSlice S512x128 ![0, 384] v3 slices_S512x512_o0_384_S512x128)]

/-- The four slabs of masked tile `r` (0 or 1) of the two that the block of queries itself covers. -/
def tilesM (i : grid0.Coords) (arg : Memref sig .tc .vmem S1x4096x512 .f32) (X : BufTy.Contents (Elt Ideal) arg.view.ty)
    (r : Fin 2) : Fin 4 → FVec Ideal S256x128 .bf16 :=
  ![tile arg X (k0_off1 i (BitVec.ofNat 32 r.val)) (k0_off1_inb i r), tile arg X (k0_off2 i (BitVec.ofNat 32 r.val)) (k0_off2_inb i r),
    tile arg X (k0_off3 i (BitVec.ofNat 32 r.val)) (k0_off3_inb i r), tile arg X (k0_off4 i (BitVec.ofNat 32 r.val)) (k0_off4_inb i r)]

/-- The state before any tile: no value summed, no logarithm. -/
def zero16 : T16 := (k0_pay112, k0_pay113, k0_pay112, k0_pay113, k0_pay112, k0_pay113, k0_pay112, k0_pay113, k0_pay112, k0_pay113, k0_pay112, k0_pay113, k0_pay112, k0_pay113, k0_pay112, k0_pay113)

/-- The masks of the two tiles: the last first. -/
def mask1 (i : grid0.Coords) : IVec S512x256 1 := kernelRun0_A.sl.r_18 i
def mask0 (i : grid0.Coords) : IVec S512x256 1 := kernelRun0_A.sl.r_53 i

/-- The state after every tile. -/
def final16 (i : grid0.Coords) (v3 : FVec Ideal S512x512 .f32) (arg4 : Memref sig .tc .vmem S1x4096x512 .f32)
    (X4 : BufTy.Contents (Elt Ideal) arg4.view.ty) (arg5 : Memref sig .tc .vmem S1x4096x512 .f32)
    (X5 : BufTy.Contents (Elt Ideal) arg5.view.ty) : T16 :=
  iterU k0_pay92 (qheads v3) (tilesAt i arg4 X4) (tilesAt i arg5 X5)
    (mapM k0_pay92 (qheads v3) (tilesM i arg4 X4 0) (tilesM i arg5 X5 0) (mask0 i)
      (mapM k0_pay92 (qheads v3) (tilesM i arg4 X4 1) (tilesM i arg5 X5 1) (mask1 i) zero16))
    (k0_t1_loop i).trips

/-- The four stores of a grid point, the last first. -/
def stores (T : T16) : List (View.Piece (Elt Ideal) S512x512 .f32) :=
  [⟨Rect.unit (s := S512x512) ![0, 384] S512x128.size inb_S512x512_S512x128_0_384, k0_pay1 (F := Ideal) lanes T.2.2.2.2.2.2.2.2.2.2.2.2.1 T.2.2.2.2.2.2.2.2.2.2.2.2.2.2.1⟩,
   ⟨Rect.unit (s := S512x512) ![0, 256] S512x128.size inb_S512x512_S512x128_0_256, k0_pay1 (F := Ideal) lanes T.2.2.2.2.2.2.2.2.1 T.2.2.2.2.2.2.2.2.2.2.1⟩,
   ⟨Rect.unit (s := S512x512) ![0, 128] S512x128.size inb_S512x512_S512x128_0_128, k0_pay1 (F := Ideal) lanes T.2.2.2.2.1 T.2.2.2.2.2.2.1⟩,
   ⟨Rect.unit (s := S512x512) ![0, 0] S512x128.size inb_S512x512_S512x128_0_0, k0_pay1 (F := Ideal) lanes T.1 T.2.2.1⟩]

/-- The remainder loop has no trip at any grid point. -/
theorem rest_trips : ∀ t : Fin grid0.N, (k0_t2_loop (grid0.coords t)).trips = 0 := by decide +kernel

/-- The queries as the run spells them. -/
def wordsQ (c : Dev nD) (arg3 : Memref sig .tc .vmem S512x512 .f32) (harg3 : arg3.IsWhole) (x0 : Vec Ideal S512x512 .f32) :
    Fin 8 → FVec Ideal S512x128 .bf16 :=
  ![kernelRun0_A.sl.r_1 c arg3 harg3 x0, kernelRun0_A.sl.r_2 c arg3 harg3 x0, kernelRun0_A.sl.r_3 c arg3 harg3 x0, kernelRun0_A.sl.r_4 c arg3 harg3 x0, kernelRun0_A.sl.r_5 c arg3 harg3 x0, kernelRun0_A.sl.r_6 c arg3 harg3 x0, kernelRun0_A.sl.r_7 c arg3 harg3 x0, kernelRun0_A.sl.r_8 c arg3 harg3 x0]

theorem wordsQ_eq (c : Dev nD) (arg3 : Memref sig .tc .vmem S512x512 .f32) (harg3 : arg3.IsWhole) (x0 : Vec Ideal S512x512 .f32) :
    wordsQ c arg3 harg3 x0 = qheads (qscaled arg3 (harg3.unread x0)) := by
  unfold wordsQ qheads
  congr 1

/-- The state after the last tile, as the run spells it. -/
def words1 (c : Dev nD) (i : grid0.Coords) (arg3 : Memref sig .tc .vmem S512x512 .f32) (harg3 : arg3.IsWhole)
    (arg4 : Memref sig .tc .vmem S1x4096x512 .f32) (harg4 : arg4.IsWhole) (arg5 : Memref sig .tc .vmem S1x4096x512 .f32) (harg5 : arg5.IsWhole)
    (x0 : Vec Ideal S512x512 .f32) (x1 x2 : Vec Ideal S1x4096x512 .f32) : T16 :=
  (kernelRun0_A.sl.r_19 c i arg3 harg3 arg4 harg4 arg5 harg5 x0 x1 x2, kernelRun0_A.sl.r_20 c i arg3 harg3 arg4 harg4 x0 x1, kernelRun0_A.sl.r_24 c i arg3 harg3 arg4 harg4 arg5 harg5 x0 x1 x2, kernelRun0_A.sl.r_25 c i arg3 harg3 arg4 harg4 x0 x1, kernelRun0_A.sl.r_28 c i arg3 harg3 arg4 harg4 arg5 harg5 x0 x1 x2, kernelRun0_A.sl.r_29 c i arg3 harg3 arg4 harg4 x0 x1, kernelRun0_A.sl.r_30 c i arg3 harg3 arg4 harg4 arg5 harg5 x0 x1 x2, kernelRun0_A.sl.r_31 c i arg3 harg3 arg4 harg4 x0 x1, kernelRun0_A.sl.r_33 c i arg3 harg3 arg4 harg4 arg5 harg5 x0 x1 x2, kernelRun0_A.sl.r_34 c i arg3 harg3 arg4 harg4 x0 x1, kernelRun0_A.sl.r_37 c i arg3 harg3 arg4 harg4 arg5 harg5 x0 x1 x2, kernelRun0_A.sl.r_38 c i arg3 harg3 arg4 harg4 x0 x1, kernelRun0_A.sl.r_39 c i arg3 harg3 arg4 harg4 arg5 harg5 x0 x1 x2, kernelRun0_A.sl.r_41 c i arg3 harg3 arg4 harg4 x0 x1, kernelRun0_A.sl.r_42 c i arg3 harg3 arg4 harg4 arg5 harg5 x0 x1 x2, kernelRun0_A.sl.r_43 c i arg3 harg3 arg4 harg4 x0 x1)

/-- The state after the two masked tiles, as the run spells it. -/
def words0 (c : Dev nD) (i : grid0.Coords) (arg3 : Memref sig .tc .vmem S512x512 .f32) (harg3 : arg3.IsWhole)
    (arg4 : Memref sig .tc .vmem S1x4096x512 .f32) (harg4 : arg4.IsWhole) (arg5 : Memref sig .tc .vmem S1x4096x512 .f32) (harg5 : arg5.IsWhole)
    (x0 : Vec Ideal S512x512 .f32) (x1 x2 : Vec Ideal S1x4096x512 .f32) : T16 :=
  (kernelRun0_A.sl.r_57 c i arg3 harg3 arg4 harg4 arg5 harg5 x0 x1 x2, kernelRun0_A.sl.r_58 c i arg3 harg3 arg4 harg4 x0 x1, kernelRun0_A.sl.r_61 c i arg3 harg3 arg4 harg4 arg5 harg5 x0 x1 x2, kernelRun0_A.sl.r_62 c i arg3 harg3 arg4 harg4 x0 x1, kernelRun0_A.sl.r_63 c i arg3 harg3 arg4 harg4 arg5 harg5 x0 x1 x2, kernelRun0_A.sl.r_64 c i arg3 harg3 arg4 harg4 x0 x1, kernelRun0_A.sl.r_66 c i arg3 harg3 arg4 harg4 arg5 harg5 x0 x1 x2, kernelRun0_A.sl.r_67 c i arg3 harg3 arg4 harg4 x0 x1, kernelRun0_A.sl.r_70 c i arg3 harg3 arg4 harg4 arg5 harg5 x0 x1 x2, kernelRun0_A.sl.r_71 c i arg3 harg3 arg4 harg4 x0 x1, kernelRun0_A.sl.r_73 c i arg3 harg3 arg4 harg4 arg5 harg5 x0 x1 x2, kernelRun0_A.sl.r_74 c i arg3 harg3 arg4 harg4 x0 x1, kernelRun0_A.sl.r_75 c i arg3 harg3 arg4 harg4 arg5 harg5 x0 x1 x2, kernelRun0_A.sl.r_76 c i arg3 harg3 arg4 harg4 x0 x1, k0_pay208 k0_pay92 (kernelRun0_A.sl.r_42 c i arg3 harg3 arg4 harg4 arg5 harg5 x0 x1 x2) (kernelRun0_A.sl.r_43 c i arg3 harg3 arg4 harg4 x0 x1) (kernelRun0_A.sl.r_52 c i arg5 harg5 x2) (kernelRun0_A.sl.r_53 i) (kernelRun0_A.sl.r_77 c i arg3 harg3 arg4 harg4 x0 x1) (kernelRun0_A.sl.r_78 c i arg3 harg3 arg4 harg4 x0 x1) (kernelRun0_A.sl.r_79 c i arg3 harg3 arg4 harg4 x0 x1), k0_pay209 (kernelRun0_A.sl.r_43 c i arg3 harg3 arg4 harg4 x0 x1) (kernelRun0_A.sl.r_53 i) (kernelRun0_A.sl.r_78 c i arg3 harg3 arg4 harg4 x0 x1) (kernelRun0_A.sl.r_79 c i arg3 harg3 arg4 harg4 x0 x1))

set_option maxHeartbeats 2000000 in
/-- The last tile is a masked tile from the empty state. -/
theorem words1_eq (c : Dev nD) (i : grid0.Coords) (arg3 : Memref sig .tc .vmem S512x512 .f32) (harg3 : arg3.IsWhole)
    (arg4 : Memref sig .tc .vmem S1x4096x512 .f32) (harg4 : arg4.IsWhole) (arg5 : Memref sig .tc .vmem S1x4096x512 .f32) (harg5 : arg5.IsWhole)
    (x0 : Vec Ideal S512x512 .f32) (x1 x2 : Vec Ideal S1x4096x512 .f32) :
    words1 c i arg3 harg3 arg4 harg4 arg5 harg5 x0 x1 x2
      = mapM k0_pay92 (wordsQ c arg3 harg3 x0) (tilesM i arg4 (harg4.unread x1) 1) (tilesM i arg5 (harg5.unread x2) 1) (mask1 i) zero16 := by
  unfold words1 mapM
  repeat' refine congrArg₂ Prod.mk ?_ ?_
  all_goals rfl

set_option maxHeartbeats 2000000 in
/-- The tile before it is a masked tile from there. -/
theorem words0_eq (c : Dev nD) (i : grid0.Coords) (arg3 : Memref sig .tc .vmem S512x512 .f32) (harg3 : arg3.IsWhole)
    (arg4 : Memref sig .tc .vmem S1x4096x512 .f32) (harg4 : arg4.IsWhole) (arg5 : Memref sig .tc .vmem S1x4096x512 .f32) (harg5 : arg5.IsWhole)
    (x0 : Vec Ideal S512x512 .f32) (x1 x2 : Vec Ideal S1x4096x512 .f32) :
    words0 c i arg3 harg3 arg4 harg4 arg5 harg5 x0 x1 x2
      = mapM k0_pay92 (wordsQ c arg3 harg3 x0) (tilesM i arg4 (harg4.unread x1) 0) (tilesM i arg5 (harg5.unread x2) 0) (mask0 i)
          (words1 c i arg3 harg3 arg4 harg4 arg5 harg5 x0 x1 x2) := by
  unfold words0 mapM
  repeat' refine congrArg₂ Prod.mk ?_ ?_
  all_goals rfl

/-- What the kernel leaves in its block at a grid point: the four stores of the final state. -/
theorem outs_eq (m : (ℓ : Loc nD τ sig) → Buf (Elt Ideal) ℓ) (c : Dev nD) (t : Fin grid0.N) :
    outsAt0 m c t = View.canon (stores (final16 (grid0.coords t)
      (qscaled (ms0_0 t) ((hs0_0 t).unread (iblk m c 0 t))) (ms0_1 t) ((hs0_1 t).unread (iblk m c 1 t))
      (ms0_2 t) ((hs0_2 t).unread (iblk m c 2 t)))) := by
  unfold final16
  rw [← wordsQ_eq c (ms0_0 t) (hs0_0 t) (iblk m c 0 t),
    ← words1_eq c (grid0.coords t) (ms0_0 t) (hs0_0 t) (ms0_1 t) (hs0_1 t) (ms0_2 t) (hs0_2 t) (iblk m c 0 t) (iblk m c 1 t) (iblk m c 2 t),
    ← words0_eq c (grid0.coords t) (ms0_0 t) (hs0_0 t) (ms0_1 t) (hs0_1 t) (ms0_2 t) (hs0_2 t) (iblk m c 0 t) (iblk m c 1 t) (iblk m c 2 t)]
  unfold outsAt0 out0_A_3
  rw [View.read_writes_eq_canon _ _ _ (cover0_A_3 c _ _ _ _ _ _ _ _ _ _ _ _)]
  unfold kernelRun0_A
  dsimp only
  unfold kernelRun0_A.sl.r_80 kernelRun0_A.sl.r_81 kernelRun0_A.sl.r_82
  rw [rest_eq (hj := rest_trips t), loop_eq (hj := le_refl _)]
  rfl

end Cert.Proof

end
-- ==== Proof.Stick.lean ====
/-
  The numbers of stick-breaking attention on the extended reals, for one row of queries: the logarithms the kernel takes
  to base two and those the reference takes to base e, and the two weights they give.
-/
module

public import Idealize.ShloMosaic.PureOps.Ideal
public import Mathlib.Data.EReal.Operations
public import Mathlib.Analysis.SpecialFunctions.Pow.Real
public import Mathlib.Algebra.BigOperators.Intervals

@[expose] public section

noncomputable section

namespace Cert.Proof.Stick
open Idealize.ShloMosaic

/-- One over the logarithm of two. -/
def L : ℝ := (Real.log 2)⁻¹

theorem L_pos : 0 < L := inv_pos.mpr (Real.log_pos (by norm_num))

/-- The kernel's logarithm, to base two, of the stick's remainder at a logit `y` (already times `L`). -/
def lk2 (y : EReal) : EReal := min (0 - y) 0 - Ideal.log (1 + Ideal.exp2 (min y (0 - y))) * (L : EReal)

/-- The reference's log-sigmoid. -/
def lsg (x : EReal) : EReal :=
  -(max (-x) 0 + Ideal.log1p (Ideal.exp (-(max (-x - 0) (-(-x - 0))))))

/-- The real function both compute at a finite logit. -/
def lkR (r : ℝ) : ℝ := min (-r) 0 - Real.log (1 + Real.exp (-|r|))

theorem two_rpow_mul_L (r : ℝ) : (2 : ℝ) ^ (r * L) = Real.exp r := by
  rw [Real.rpow_def_of_pos (by norm_num)]
  congr 1
  unfold L
  have h : Real.log 2 ≠ 0 := (Real.log_pos (by norm_num)).ne'
  field_simp

theorem log_coe (x : ℝ) : Ideal.log (x : EReal) = if x ≤ 0 then ⊥ else ((Real.log x : ℝ) : EReal) := rfl

theorem log_one : Ideal.log 1 = 0 := by
  have h := log_coe 1
  rw [if_neg (by norm_num), Real.log_one] at h
  exact h

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem log_one_add_exp (r : ℝ) : Ideal.log (1 + ((Real.exp r : ℝ) : EReal)) = ((Real.log (1 + Real.exp r) : ℝ) : EReal) := by
  have h : (1 : EReal) + ((Real.exp r : ℝ) : EReal) = ((1 + Real.exp r : ℝ) : EReal) := by push_cast; rfl
  rw [h]
  have := Real.exp_pos r
  rw [log_coe, if_neg (by linarith)]

theorem lsg_coe (r : ℝ) : lsg (r : EReal) = ((lkR (-r) : ℝ) : EReal) := by
  unfold lsg Ideal.log1p lkR
  have h1 : (-(r : EReal) - 0) = ((-r : ℝ) : EReal) := by rw [sub_zero]; rfl
  have h2 : -(max ((-r : ℝ) : EReal) (-((-r : ℝ) : EReal))) = ((-|(-r)| : ℝ) : EReal) := by
    rw [← EReal.coe_neg, ← coe_max, ← EReal.coe_neg, abs_eq_max_neg]
  rw [h1, h2, Ideal.exp_coe, log_one_add_exp]
  have h3 : max (-(r : EReal)) 0 = ((max (-r) 0 : ℝ) : EReal) := by
    rw [coe_max]; rfl
  rw [h3, ← EReal.coe_add, ← EReal.coe_neg]
  congr 1
  rw [neg_add, ← min_neg_neg]; simp only [neg_neg, neg_zero]; ring

theorem lk2_coe (r : ℝ) : lk2 ((r : EReal) * (L : EReal)) = ((lkR r * L : ℝ) : EReal) := by
  unfold lk2 lkR
  have hL := L_pos
  have h0 : (0 : EReal) - (r : EReal) * (L : EReal) = ((-(r * L) : ℝ) : EReal) := by
    rw [zero_sub, ← EReal.coe_mul, ← EReal.coe_neg]
  have h1 : min ((r : EReal) * (L : EReal)) ((-(r * L) : ℝ) : EReal) = ((-|r| * L : ℝ) : EReal) := by
    rw [← EReal.coe_mul, ← coe_min]
    congr 1
    rcases le_total 0 r with h | h
    · rw [abs_of_nonneg h, min_eq_right] <;> nlinarith
    · rw [abs_of_nonpos h, min_eq_left] <;> nlinarith
  have h2 : min ((-(r * L) : ℝ) : EReal) 0 = ((min (-r) 0 * L : ℝ) : EReal) := by
    rw [← EReal.coe_zero, ← coe_min]
    congr 1
    rcases le_total 0 r with h | h
    · rw [min_eq_left, min_eq_left] <;> nlinarith
    · rw [min_eq_right, min_eq_right] <;> nlinarith
  rw [h0, h1, h2, Ideal.exp2_coe]
  have h3 : Real.rpow 2 (-|r| * L) = Real.exp (-|r|) := two_rpow_mul_L _
  rw [h3, log_one_add_exp, ← EReal.coe_mul, ← EReal.coe_sub]
  congr 1
  ring

theorem lsg_top : lsg ⊤ = 0 := by
  simp [lsg, Ideal.log1p, log_one]

theorem lsg_bot : lsg ⊥ = ⊥ := by
  simp [lsg, Ideal.log1p, log_one]

theorem top_mul_L : (⊤ : EReal) * (L : EReal) = ⊤ := EReal.top_mul_coe_of_pos L_pos
theorem bot_mul_L : (⊥ : EReal) * (L : EReal) = ⊥ := EReal.bot_mul_coe_of_pos L_pos

/-- The kernel's logarithm is the reference's in units of `L`. -/
theorem lk2_mul_L (z : EReal) : lk2 (z * (L : EReal)) = lsg (-z) * (L : EReal) := by
  induction z with
  | bot =>
    rw [bot_mul_L, EReal.neg_bot, lsg_top, zero_mul]
    simp [lk2, log_one]
  | top =>
    rw [top_mul_L, EReal.neg_top, lsg_bot, bot_mul_L]
    simp [lk2, log_one]
  | coe r => rw [lk2_coe, ← EReal.coe_neg, lsg_coe, neg_neg, EReal.coe_mul]

theorem lkR_add (r : ℝ) : r + lkR r = lkR (-r) := by
  unfold lkR
  rw [abs_neg, neg_neg]
  rcases le_total 0 r with h | h
  · rw [min_eq_left (by linarith), min_eq_right h]; ring
  · rw [min_eq_right (by linarith), min_eq_left h]; ring

/-- The two weights of a key are the same number: the kernel adds up what the logit, the remainder of the key itself and
the remainder `S` of the later keys give; the reference subtracts the key's own remainder from the running sum. -/
theorem weight (z S : EReal) :
    Ideal.exp2 (z * (L : EReal) + lk2 (z * (L : EReal)) + S * (L : EReal))
      = Ideal.exp (lsg z + ((lsg (-z) + S) - lsg (-z))) := by
  rw [lk2_mul_L]
  induction z with
  | bot => simp [bot_mul_L, lsg_top, lsg_bot]
  | top => simp [top_mul_L, bot_mul_L, lsg_top, lsg_bot]
  | coe r =>
    rw [← EReal.coe_neg, lsg_coe, lsg_coe, neg_neg]
    induction S with
    | bot => rw [bot_mul_L]; simp
    | top =>
      rw [top_mul_L, ← EReal.coe_mul, ← EReal.coe_mul, ← EReal.coe_add, EReal.coe_add_top, EReal.coe_add_top,
        EReal.top_sub_coe, EReal.coe_add_top]; rfl
    | coe s =>
      simp only [← EReal.coe_mul, ← EReal.coe_add, ← EReal.coe_sub, Ideal.exp2_coe, Ideal.exp_coe]
      congr 1
      have : r * L + lkR r * L + s * L = (lkR (-r) + (lkR r + s - lkR r)) * L := by rw [← lkR_add]; ring
      rw [this]
      exact two_rpow_mul_L _

theorem add_mul_L (a b : EReal) : (a + b) * (L : EReal) = a * (L : EReal) + b * (L : EReal) :=
  EReal.right_distrib_of_nonneg_of_ne_top (EReal.coe_nonneg.mpr L_pos.le) (EReal.coe_ne_top _) a b

theorem sum_mul_L {ι : Type*} (s : Finset ι) (f : ι → EReal) : (∑ i ∈ s, f i) * (L : EReal) = ∑ i ∈ s, f i * (L : EReal) := by
  classical
  induction s using Finset.induction_on with
  | empty => simp
  | insert a s h ih => rw [Finset.sum_insert h, Finset.sum_insert h, add_mul_L, ih]

/-- The remainder of key `k` in row `t`: nothing from the row's own position on. -/
def lkm (z : ℕ → EReal) (t k : ℕ) : EReal := if k < t then lsg (-(z k)) else 0

/-- The reference's weight of key `k` in row `t`, the sums over the keys below `N`. -/
def w (z : ℕ → EReal) (t N k : ℕ) : EReal :=
  if k < t then Ideal.exp (lsg (z k) + ((∑ j ∈ Finset.Ico k N, lkm z t j) - lkm z t k)) else 0

/-- The running logarithm before tile `J`, in base two: the remainders of the keys from `256 J` on. -/
def runAt (z : ℕ → EReal) (t T J : ℕ) : EReal := (∑ k ∈ Finset.Ico (256 * J) T, lkm z t k) * (L : EReal)

/-- The weighted values of the keys from `256 J` on. -/
def accAt (z v : ℕ → EReal) (t T J : ℕ) : EReal := ∑ k ∈ Finset.Ico (256 * J) T, w z t T k * v k

/-- A tile's remainder at its column `jj`, in base two. -/
def tlk (z : ℕ → EReal) (t J jj : ℕ) : EReal := if 256 * J + jj < t then lk2 (z (256 * J + jj) * (L : EReal)) else 0

theorem tlk_eq (z : ℕ → EReal) (t J jj : ℕ) : tlk z t J jj = lkm z t (256 * J + jj) * (L : EReal) := by
  unfold tlk lkm
  split
  · exact lk2_mul_L _
  · rw [zero_mul]

theorem sum_tile (f : ℕ → EReal) (J : ℕ) : ∑ jj ∈ Finset.range 256, f (256 * J + jj) = ∑ k ∈ Finset.Ico (256 * J) (256 * (J + 1)), f k := by
  rw [Finset.sum_Ico_eq_sum_range]
  congr 2
  omega

/-- A tile's step of the running logarithm. -/
theorem runAt_step (z : ℕ → EReal) (t T J : ℕ) (h : 256 * (J + 1) ≤ T) :
    runAt z t T J = runAt z t T (J + 1) + ∑ jj ∈ Finset.range 256, tlk z t J jj := by
  simp only [tlk_eq]
  rw [← sum_mul_L, sum_tile (lkm z t), runAt, runAt, ← add_mul_L, add_comm (∑ k ∈ Finset.Ico (256 * (J + 1)) T, _),
    Finset.sum_Ico_consecutive _ (by omega) h]

/-- The remainders of the tile's later columns. -/
theorem tile_suffix (z : ℕ → EReal) (t J jj : ℕ) :
    ∑ i ∈ Finset.range 256, tlk z t J i * (if jj < i then 1 else 0)
      = (∑ k ∈ Finset.Ico (256 * J + jj + 1) (256 * (J + 1)), lkm z t k) * (L : EReal) := by
  rw [sum_mul_L, Finset.sum_congr rfl (g := fun i => (fun k => if 256 * J + jj < k then lkm z t k * (L : EReal) else 0) (256 * J + i))
    (fun i _ => by simp only [tlk_eq]; by_cases h : jj < i <;> simp [h]),
    sum_tile (fun k => if 256 * J + jj < k then lkm z t k * (L : EReal) else 0), ← Finset.sum_filter]
  refine Finset.sum_congr ?_ fun _ _ => rfl
  ext k
  simp only [Finset.mem_filter, Finset.mem_Ico]
  omega

/-- A tile's weight at its column `jj`, as the kernel computes it from the running logarithm. -/
theorem tile_weight (z : ℕ → EReal) (t T J jj : ℕ) (hj : jj < 256) (h : 256 * (J + 1) ≤ T) :
    (if 256 * J + jj < t then
      Ideal.exp2 (z (256 * J + jj) * (L : EReal) + tlk z t J jj + (∑ i ∈ Finset.range 256, tlk z t J i * (if jj < i then 1 else 0))
        + runAt z t T (J + 1)) else 0) = w z t T (256 * J + jj) := by
  unfold w
  split
  next hlt =>
    rw [tile_suffix, runAt, add_assoc _ _ ((∑ k ∈ Finset.Ico (256 * (J + 1)) T, _) * _), ← add_mul_L,
      Finset.sum_Ico_consecutive _ (by omega) h, Finset.sum_eq_sum_Ico_succ_bot (by omega : 256 * J + jj < T)]
    simp only [tlk, lkm, if_pos hlt]
    exact weight _ _
  · rfl

/-- A tile's step of the weighted values. -/
theorem accAt_step (z v : ℕ → EReal) (t T J : ℕ) (h : 256 * (J + 1) ≤ T) :
    accAt z v t T J = accAt z v t T (J + 1) + ∑ jj ∈ Finset.range 256, w z t T (256 * J + jj) * v (256 * J + jj) := by
  rw [sum_tile (fun k => w z t T k * v k), accAt, accAt, add_comm, Finset.sum_Ico_consecutive _ (by omega) h]

/-- The keys from the row's own position on take no part: the sums may run to any later end. -/
theorem accAt_zero (z v : ℕ → EReal) (t T N : ℕ) (ht : t ≤ T) (hT : T ≤ N) :
    accAt z v t T 0 = ∑ k ∈ Finset.range N, w z t N k * v k := by
  have hw : ∀ k, w z t T k = w z t N k := fun k => by
    unfold w
    split
    next hk =>
      rw [← Finset.sum_Ico_consecutive (lkm z t) (by omega : k ≤ T) hT,
        Finset.sum_eq_zero (s := Finset.Ico T N) (f := lkm z t) (fun j hj => if_neg (by have := (Finset.mem_Ico.mp hj).1; omega)), add_zero]
    · rfl
  rw [accAt, Finset.range_eq_Ico, ← Finset.sum_Ico_consecutive _ (Nat.zero_le T) hT,
    Finset.sum_eq_zero (s := Finset.Ico T N) (fun j hj => by
      rw [w, if_neg (by have := (Finset.mem_Ico.mp hj).1; omega), zero_mul]), add_zero]
  exact Finset.sum_congr rfl fun k _ => by rw [hw]

end Cert.Proof.Stick

end
-- ==== Proof.Head.lean ====
/-
  The kernel's step on one head, read at an index: the logits, the logarithms, the weights and the running sums.
-/
module

public import proofs.«01_k».proof.Proof.Body
public import proofs.«01_k».proof.Proof.Stick
public import Idealize.ShloMosaic.Lib.Pointwise

@[expose] public section

set_option maxRecDepth 16384

noncomputable section

namespace Cert.Proof
open Cert.KernelIdeal Cert.KernelIdeal.Gen
open Idealize.ShloMosaic Idealize.ShloMosaic.TcCoe Idealize.ShloMosaic.Tactic
open Stick

/-- The named constant is one over the logarithm of two. -/
theorem log2e_eq : (Named.named (F := Ideal) κ "log2e" (φ := .f32) 0x3FB8AA3B#32 : EReal) = ((L : ℝ) : EReal) :=
  IdealRules.named_const.ideal_named_scalar _ _ _ _ rfl

/-- The logit of a row of queries and a row of keys. -/
def zt (q : FVec Ideal S512x128 .bf16) (k : FVec Ideal S256x128 .bf16) (r : Fin 512) (j : Fin 256) : EReal :=
  ∑ l : Fin 128, q (ix2 r l) * k (ix2 j l)

theorem pay10_at (q : FVec Ideal S512x128 .bf16) (k : FVec Ideal S256x128 .bf16) (r : Fin 512) (j : Fin 256) :
    k0_pay10 (F := Ideal) q k (ix2 r j) = zt q k r j * (L : EReal) := by
  unfold k0_pay10 zt
  pointwise
  rw [log2e_eq]

theorem exp2_ideal (φ : FTy) (x : EReal) : FloatOps.exp2 (F := Ideal) (φ := φ) x = Ideal.exp2 x := rfl

theorem pay11_at (q : FVec Ideal S512x128 .bf16) (k : FVec Ideal S256x128 .bf16) (r : Fin 512) (j : Fin 256) :
    k0_pay11 (F := Ideal) q k (ix2 r j) = lk2 (zt q k r j * (L : EReal)) := by
  unfold k0_pay11 lk2
  pointwise
  rw [pay10_at, log2e_eq, exp2_ideal]

theorem toInt_small (a : ℕ) (ha : a < 4096) : (BitVec.ofNat 32 a).toInt = (a : ℤ) := by
  rw [BitVec.toInt_eq_toNat_bmod, BitVec.toNat_ofNat, Int.bmod_def]
  omega

/-- The signed value of a small difference of two small words. -/
theorem toInt_sub_small (a b : ℕ) (ha : a < 4096) (hb : b < 4096) :
    (BitVec.ofNat 32 a - BitVec.ofNat 32 b).toInt = (a : ℤ) - b := by
  rw [BitVec.toInt_sub, toInt_small a ha, toInt_small b hb, Int.bmod_def]
  omega

/-- The matrix that sums a row's later columns. -/
theorem pay92_at (i j : Fin 256) : k0_pay92 (F := Ideal) (ix2 i j) = if j.val < i.val then 1 else 0 := by
  unfold k0_pay92
  pointwise
  have h : IntOp.cmpi CmpIPredicate.sgt (BitVec.ofNat 32 i.val) (BitVec.ofNat 32 j.val) = BitVec.ofBool (decide (j.val < i.val)) := by
    unfold IntOp.cmpi
    have h2 : (BitVec.ofNat 32 j.val).slt (BitVec.ofNat 32 i.val) = decide (j.val < i.val) := by
      rw [BitVec.slt_eq_decide, toInt_small _ (by omega), toInt_small _ (by omega)]
      simp
    simp [h2]
  rw [h]
  by_cases hji : j.val < i.val
  · rw [if_pos hji, decide_eq_true hji]
    have h1 : (BitVec.setWidth 32 (BitVec.ofBool true)).toInt = 1 := by decide
    show (((BitVec.setWidth 32 (BitVec.ofBool true)).toInt : ℝ) : EReal) = 1
    rw [h1]; norm_num
  · rw [if_neg hji, decide_eq_false hji]
    have h1 : (BitVec.setWidth 32 (BitVec.ofBool false)).toInt = 0 := by decide
    show (((BitVec.setWidth 32 (BitVec.ofBool false)).toInt : ℝ) : EReal) = 0
    rw [h1]; norm_num

theorem pay12_at (q : FVec Ideal S512x128 .bf16) (acc : FVec Ideal S512x128 .f32) (run : FVec Ideal S512x1 .f32)
    (k v : FVec Ideal S256x128 .bf16) (r : Fin 512) (l : Fin 128) :
    k0_pay12 (F := Ideal) k0_pay92 q acc run k v (ix2 r l) = acc (ix2 r l) + ∑ j : Fin 256,
      Ideal.exp2 (zt q k r j * (L : EReal) + lk2 (zt q k r j * (L : EReal))
        + (∑ i : Fin 256, lk2 (zt q k r i * (L : EReal)) * (if j.val < i.val then 1 else 0)) + run (ix2 r 0)) * v (ix2 j l) := by
  unfold k0_pay12
  pointwise
  simp only [pay10_at, pay11_at, pay92_at, exp2_ideal]

theorem pay13_at (q : FVec Ideal S512x128 .bf16) (run : FVec Ideal S512x1 .f32)
    (k : FVec Ideal S256x128 .bf16) (r : Fin 512) :
    k0_pay13 (F := Ideal) q run k (ix2 r 0) = run (ix2 r 0) + ∑ j : Fin 256, lk2 (zt q k r j * (L : EReal)) := by
  unfold k0_pay13
  pointwise
  simp only [pay11_at]

theorem pay141_at (q : FVec Ideal S512x128 .bf16) (k : FVec Ideal S256x128 .bf16) (msk : IVec S512x256 1) (r : Fin 512) (j : Fin 256) :
    k0_pay141 (F := Ideal) q k msk (ix2 r j) = if msk (ix2 r j) = 1#1 then lk2 (zt q k r j * (L : EReal)) else 0 := by
  have h : k0_pay141 (F := Ideal) q k msk = select msk (k0_pay11 q k) (broadcast S512x256 (Scalar.ofBits (F := Ideal) .f32 0#32)) := rfl
  rw [h]
  pointwise
  rw [pay11_at]
  rfl

theorem pay142_at (q : FVec Ideal S512x128 .bf16) (acc : FVec Ideal S512x128 .f32) (run : FVec Ideal S512x1 .f32)
    (k v : FVec Ideal S256x128 .bf16) (msk : IVec S512x256 1) (r : Fin 512) (l : Fin 128) :
    k0_pay142 (F := Ideal) k0_pay92 q acc run k v msk (ix2 r l) = acc (ix2 r l) + ∑ j : Fin 256,
      (if msk (ix2 r j) = 1#1 then Ideal.exp2 (zt q k r j * (L : EReal) + k0_pay141 (F := Ideal) q k msk (ix2 r j)
        + (∑ i : Fin 256, k0_pay141 (F := Ideal) q k msk (ix2 r i) * (if j.val < i.val then 1 else 0)) + run (ix2 r 0)) else 0) * v (ix2 j l) := by
  have h140 : k0_pay140 (F := Ideal) q k = k0_pay10 q k := rfl
  unfold k0_pay142
  rw [h140]
  pointwise
  simp only [pay10_at, pay92_at, exp2_ideal]
  congr 1
  refine Finset.sum_congr rfl fun j _ => ?_
  unfold Scalar.select
  by_cases h : msk (ix2 r j) = 1#1
  · rw [if_pos h, if_pos (show msk (ix2 r j) = 1 from h)]
  · rw [if_neg h, if_neg (show ¬ msk (ix2 r j) = 1 from h), zero_mul]

theorem pay143_at (q : FVec Ideal S512x128 .bf16) (run : FVec Ideal S512x1 .f32)
    (k : FVec Ideal S256x128 .bf16) (msk : IVec S512x256 1) (r : Fin 512) :
    k0_pay143 (F := Ideal) q run k msk (ix2 r 0) = run (ix2 r 0) + ∑ j : Fin 256, k0_pay141 (F := Ideal) q k msk (ix2 r j) := by
  unfold k0_pay143
  pointwise

/-- The column number less the row number. -/
theorem pay91_at (r : Fin 512) (j : Fin 256) : k0_pay91 (ix2 r j) = BitVec.ofNat 32 j.val - BitVec.ofNat 32 r.val := by
  unfold k0_pay91
  pointwise
  rfl

theorem ofBool_eq_one (b : Bool) : BitVec.ofBool b = 1#1 ↔ b = true := by cases b <;> decide

/-- The bound of the last tile's mask at every grid point. -/
theorem bound1 : ∀ t : Fin grid0.N,
    (let i := grid0.coords t
     let v272 : BitVec 32 := Scalar.select (kernelRun0_A.sl.v270 i) (kernelRun0_A.sl.v271 i) (kernelRun0_A.sl.v256 i)
     Scalar.subi (Scalar.muli (BitVec.ofNat 32 (i 2)) 512#32) (Scalar.muli (Scalar.addi v272 1#32) 256#32)) = 0#32 - 256#32 := by
  decide +kernel

theorem bound0 : ∀ t : Fin grid0.N,
    (let i := grid0.coords t
     Scalar.subi (Scalar.muli (BitVec.ofNat 32 (i 2)) 512#32) (Scalar.muli (kernelRun0_A.sl.v569 i) 256#32)) = 0#32 := by
  decide +kernel

theorem mask1_at (t : Fin grid0.N) (r : Fin 512) (j : Fin 256) :
    mask1 (grid0.coords t) (ix2 r j) = 1#1 ↔ 256 + j.val < r.val := by
  have h : mask1 (grid0.coords t) = cmpi .slt k0_pay91 (broadcast S512x256 (0#32 - 256#32)) := by
    rw [← bound1 t]; rfl
  rw [h]
  show IntOp.cmpi .slt (k0_pay91 (ix2 r j)) (0#32 - 256#32) = 1#1 ↔ _
  rw [pay91_at]
  unfold IntOp.cmpi
  have h2 : (BitVec.ofNat 32 j.val - BitVec.ofNat 32 r.val).slt (0#32 - 256#32) = decide (256 + j.val < r.val) := by
    rw [BitVec.slt_eq_decide, toInt_sub_small _ _ (by omega) (by omega)]
    congr 1
    have : (0#32 - 256#32).toInt = -256 := by decide
    rw [this]
    apply propext
    omega
  simp only [ofBool_eq_one, h2, decide_eq_true_eq]

theorem mask0_at (t : Fin grid0.N) (r : Fin 512) (j : Fin 256) :
    mask0 (grid0.coords t) (ix2 r j) = 1#1 ↔ j.val < r.val := by
  have h : mask0 (grid0.coords t) = cmpi .slt k0_pay91 (broadcast S512x256 0#32) := by
    rw [← bound0 t]; rfl
  rw [h]
  show IntOp.cmpi .slt (k0_pay91 (ix2 r j)) 0#32 = 1#1 ↔ _
  rw [pay91_at]
  unfold IntOp.cmpi
  have h2 : (BitVec.ofNat 32 j.val - BitVec.ofNat 32 r.val).slt 0#32 = decide (j.val < r.val) := by
    rw [BitVec.slt_eq_decide, toInt_sub_small _ _ (by omega) (by omega)]
    congr 1
    have : (0#32).toInt = 0 := by decide
    rw [this]
    apply propext
    omega
  simp only [ofBool_eq_one, h2, decide_eq_true_eq]

/-- The head a lane belongs to, as the kernel divides the lane's number by 64. -/
theorem lane_head : ∀ (e : Fin 2) (l : Fin 128),
    (IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        (BitVec.ofNat 32 e.val)) = BitVec.ofBool (decide (l.val / 64 = e.val)) := by decide +kernel

theorem select_ofBool {α : Type} (p : Prop) [Decidable p] (a b : α) :
    Scalar.select (BitVec.ofBool (decide p)) a b = if p then a else b := by
  unfold Scalar.select
  by_cases h : p <;> simp [h]

/-- A slab of queries at a lane: its own head's lanes, and zero in the other half. -/
theorem qsel_at (e : Fin 2) (sl : FVec Ideal S512x128 .f32) (r : Fin 512) (l : Fin 128) :
    qsel (BitVec.ofNat 32 e.val) sl (ix2 r l) = if l.val / 64 = e.val then sl (ix2 r l) else 0 := by
  unfold qsel lanes
  pointwise
  rw [lane_head, select_ofBool]

theorem lane_half : ∀ l : Fin 128,
    IntOp.cmpi CmpIPredicate.slt (BitVec.ofNat 32 l.val) 64#32 = BitVec.ofBool (decide (l.val < 64)) := by decide +kernel

/-- A store at a lane: the even head's sums in the first half, the odd head's in the second. -/
theorem pay1_at (a b : FVec Ideal S512x128 .f32) (r : Fin 512) (l : Fin 128) :
    k0_pay1 (F := Ideal) lanes a b (ix2 r l) = if l.val < 64 then a (ix2 r l) else b (ix2 r l) := by
  unfold k0_pay1 lanes
  pointwise
  rw [lane_half, select_ofBool]

end Cert.Proof

end
-- ==== Proof.Inv.lean ====
/-
  What the state of the loop holds after the tiles from the last down to tile `J`, for every head: the running logarithm
  and the weighted values of the keys from `256 J` on.
-/
module

public import proofs.«01_k».proof.Proof.Head

@[expose] public section

set_option maxRecDepth 16384

noncomputable section

namespace Cert.Proof
open Cert.KernelIdeal Cert.KernelIdeal.Gen
open Idealize.ShloMosaic Idealize.ShloMosaic.TcCoe Idealize.ShloMosaic.Tactic
open Stick

/-- One head's state after the keys from `256 J` on: `Z` its logits, `V` the values by lane, row `r` standing at `t0 + r`. -/
def Inv (Z : Fin 512 → ℕ → EReal) (V : Fin 128 → ℕ → EReal) (t0 T J : ℕ) (acc : FVec Ideal S512x128 .f32)
    (run : FVec Ideal S512x1 .f32) : Prop :=
  (∀ r : Fin 512, run (ix2 r 0) = runAt (Z r) (t0 + r.val) T J)
    ∧ ∀ (r : Fin 512) (l : Fin 128), acc (ix2 r l) = accAt (Z r) (V l) (t0 + r.val) T J

variable {Z : Fin 512 → ℕ → EReal} {V : Fin 128 → ℕ → EReal} {t0 T J : ℕ} {acc : FVec Ideal S512x128 .f32}
  {run : FVec Ideal S512x1 .f32} {q : FVec Ideal S512x128 .bf16} {k v : FVec Ideal S256x128 .bf16} {msk : IVec S512x256 1}

/-- A masked tile takes the state one tile down. -/
theorem Inv.masked (h : Inv Z V t0 T (J + 1) acc run) (hT : 256 * (J + 1) ≤ T)
    (hz : ∀ (r : Fin 512) (j : Fin 256), zt q k r j = Z r (256 * J + j.val))
    (hv : ∀ (j : Fin 256) (l : Fin 128), v (ix2 j l) = V l (256 * J + j.val))
    (hm : ∀ (r : Fin 512) (j : Fin 256), msk (ix2 r j) = 1#1 ↔ 256 * J + j.val < t0 + r.val) :
    Inv Z V t0 T J (k0_pay142 (F := Ideal) k0_pay92 q acc run k v msk) (k0_pay143 (F := Ideal) q run k msk) := by
  have h141 : ∀ (r : Fin 512) (j : Fin 256), k0_pay141 (F := Ideal) q k msk (ix2 r j) = tlk (Z r) (t0 + r.val) J j.val := fun r j => by
    rw [pay141_at, hz, tlk]
    simp only [hm]
  refine ⟨fun r => ?_, fun r l => ?_⟩
  · rw [pay143_at, h.1 r, runAt_step (Z r) _ T J hT, Finset.sum_range]
    simp only [h141]
  · rw [pay142_at, h.2 r l, accAt_step (Z r) (V l) _ T J hT, Finset.sum_range]
    congr 1
    refine Finset.sum_congr rfl fun j _ => ?_
    rw [hv, ← tile_weight (Z r) (t0 + r.val) T J j.val j.isLt hT, h.1 r, Finset.sum_range]
    simp only [h141, hm, hz]

/-- A tile whose keys all lie before every row needs no mask. -/
theorem Inv.plain (h : Inv Z V t0 T (J + 1) acc run) (hT : 256 * (J + 1) ≤ T) (ht : 256 * (J + 1) ≤ t0)
    (hz : ∀ (r : Fin 512) (j : Fin 256), zt q k r j = Z r (256 * J + j.val))
    (hv : ∀ (j : Fin 256) (l : Fin 128), v (ix2 j l) = V l (256 * J + j.val)) :
    Inv Z V t0 T J (k0_pay12 (F := Ideal) k0_pay92 q acc run k v) (k0_pay13 (F := Ideal) q run k) := by
  have hlk : ∀ (r : Fin 512) (j : Fin 256), lk2 (zt q k r j * (L : EReal)) = tlk (Z r) (t0 + r.val) J j.val := fun r j => by
    rw [hz, tlk, if_pos (by have := j.isLt; omega)]
  refine ⟨fun r => ?_, fun r l => ?_⟩
  · rw [pay13_at, h.1 r, runAt_step (Z r) _ T J hT, Finset.sum_range]
    simp only [hlk]
  · rw [pay12_at, h.2 r l, accAt_step (Z r) (V l) _ T J hT, Finset.sum_range]
    congr 1
    refine Finset.sum_congr rfl fun j _ => ?_
    rw [hv, ← tile_weight (Z r) (t0 + r.val) T J j.val j.isLt hT, h.1 r, Finset.sum_range,
      if_pos (by have := j.isLt; omega)]
    simp only [hlk]
    simp only [hz]

/-- Before any tile the state is zero. -/
theorem Inv.start (hJ : 256 * J = T) : Inv Z V t0 T J (k0_pay112 (F := Ideal)) (k0_pay113 (F := Ideal)) := by
  refine ⟨fun r => ?_, fun r l => ?_⟩
  · rw [runAt, hJ, Finset.Ico_self, Finset.sum_empty, zero_mul]
    unfold k0_pay113
    pointwise
  · rw [accAt, hJ, Finset.Ico_self, Finset.sum_empty]
    unfold k0_pay112
    pointwise

/-- A head's weighted values in the state of the eight heads. -/
def accOf (a : T16) : Fin 8 → FVec Ideal S512x128 .f32 :=
  ![a.1, a.2.2.1, a.2.2.2.2.1, a.2.2.2.2.2.2.1, a.2.2.2.2.2.2.2.2.1, a.2.2.2.2.2.2.2.2.2.2.1, a.2.2.2.2.2.2.2.2.2.2.2.2.1,
    a.2.2.2.2.2.2.2.2.2.2.2.2.2.2.1]

/-- A head's running logarithm in the state of the eight heads. -/
def runOf (a : T16) : Fin 8 → FVec Ideal S512x1 .f32 :=
  ![a.2.1, a.2.2.2.1, a.2.2.2.2.2.1, a.2.2.2.2.2.2.2.1, a.2.2.2.2.2.2.2.2.2.1, a.2.2.2.2.2.2.2.2.2.2.2.1,
    a.2.2.2.2.2.2.2.2.2.2.2.2.2.1, a.2.2.2.2.2.2.2.2.2.2.2.2.2.2.2]

/-- The slab of 128 lanes that a head lies in. -/
def slab (h : Fin 8) : Fin 4 := ⟨h.val / 2, by omega⟩

theorem accOf_mapM (v12 : FVec Ideal S256x256 .bf16) (qs : Fin 8 → FVec Ideal S512x128 .bf16) (ks vs : Fin 4 → FVec Ideal S256x128 .bf16)
    (msk : IVec S512x256 1) (a : T16) (h : Fin 8) :
    accOf (mapM v12 qs ks vs msk a) h = k0_pay142 v12 (qs h) (accOf a h) (runOf a h) (ks (slab h)) (vs (slab h)) msk := by
  fin_cases h <;> rfl

theorem runOf_mapM (v12 : FVec Ideal S256x256 .bf16) (qs : Fin 8 → FVec Ideal S512x128 .bf16) (ks vs : Fin 4 → FVec Ideal S256x128 .bf16)
    (msk : IVec S512x256 1) (a : T16) (h : Fin 8) :
    runOf (mapM v12 qs ks vs msk a) h = k0_pay143 (qs h) (runOf a h) (ks (slab h)) msk := by
  fin_cases h <;> rfl

theorem accOf_mapU (v12 : FVec Ideal S256x256 .bf16) (qs : Fin 8 → FVec Ideal S512x128 .bf16) (ks vs : Fin 4 → FVec Ideal S256x128 .bf16)
    (a : T16) (h : Fin 8) :
    accOf (mapU v12 qs ks vs a) h = k0_pay12 v12 (qs h) (accOf a h) (runOf a h) (ks (slab h)) (vs (slab h)) := by
  fin_cases h <;> rfl

theorem runOf_mapU (v12 : FVec Ideal S256x256 .bf16) (qs : Fin 8 → FVec Ideal S512x128 .bf16) (ks vs : Fin 4 → FVec Ideal S256x128 .bf16)
    (a : T16) (h : Fin 8) :
    runOf (mapU v12 qs ks vs a) h = k0_pay13 (qs h) (runOf a h) (ks (slab h)) := by
  fin_cases h <;> rfl

theorem accOf_zero16 (h : Fin 8) : accOf zero16 h = k0_pay112 := by fin_cases h <;> rfl
theorem runOf_zero16 (h : Fin 8) : runOf zero16 h = k0_pay113 := by fin_cases h <;> rfl

/-- A block of keys or values at key `n` and lane `l`, and zero past its end. -/
def rowOf (x : Vec Ideal S1x4096x512 .f32) (n l : ℕ) : EReal :=
  if h : n < 4096 ∧ l < 512 then x (ix3 0 ⟨n, h.1⟩ ⟨l, h.2⟩) else 0

/-- A tile read out of a block: rows from `256 J`, lanes from `128 s`. -/
theorem tile_at (arg : Memref sig .tc .vmem S1x4096x512 .f32) (harg : arg.IsWhole) (x : Vec Ideal S1x4096x512 .f32)
    (off : Fin 3 → ℕ) (inb : ∀ a, off a + S1x256x128.size a ≤ S1x4096x512.size a) (J s : ℕ) (hoff : off = ![0, 256 * J, 128 * s])
    (j : Fin 256) (l : Fin 128) :
    tile arg (harg.unread x) off inb (ix2 j l) = rowOf x (256 * J + j.val) (128 * s + l.val) := by
  subst hoff
  have h1 : 256 * J + 256 ≤ 4096 := inb 1
  have h2 : 128 * s + 128 ≤ 512 := inb 2
  unfold tile k0_pay2
  rw [View.readAt_eq_ld, harg.read_unread]
  rw [rowOf, dif_pos ⟨by have := j.isLt; omega, by have := l.isLt; omega⟩]
  pointwise

/-- The logits of a head, before the factor `L`. -/
def logit (q : FVec Ideal S512x128 .bf16) (x : Vec Ideal S1x4096x512 .f32) (s : ℕ) (r : Fin 512) (n : ℕ) : EReal :=
  ∑ l : Fin 128, q (ix2 r l) * rowOf x n (128 * s + l.val)

/-- The values of a lane. -/
def vals (x : Vec Ideal S1x4096x512 .f32) (s : ℕ) (l : Fin 128) (n : ℕ) : EReal := rowOf x n (128 * s + l.val)

/-- The loop's trips: the tiles before the block of queries. -/
theorem trips_eq : ∀ t : Fin grid0.N, (k0_t1_loop (grid0.coords t)).trips = 2 * (grid0.coords t 2).val := by decide +kernel

theorem offM_eq : ∀ (t : Fin grid0.N) (r : Fin 2),
    k0_off1 (grid0.coords t) (BitVec.ofNat 32 r.val) = ![0, 256 * (2 * (grid0.coords t 2).val + r.val), 0]
    ∧ k0_off2 (grid0.coords t) (BitVec.ofNat 32 r.val) = ![0, 256 * (2 * (grid0.coords t 2).val + r.val), 128]
    ∧ k0_off3 (grid0.coords t) (BitVec.ofNat 32 r.val) = ![0, 256 * (2 * (grid0.coords t 2).val + r.val), 256]
    ∧ k0_off4 (grid0.coords t) (BitVec.ofNat 32 r.val) = ![0, 256 * (2 * (grid0.coords t 2).val + r.val), 384] := by decide +kernel

theorem offU_eq : ∀ (t : Fin grid0.N) (k : Fin (k0_t1_loop (grid0.coords t)).trips),
    k0_off5 (grid0.coords t) k = ![0, 256 * (2 * (grid0.coords t 2).val - 1 - k.val), 0]
    ∧ k0_off6 (grid0.coords t) k = ![0, 256 * (2 * (grid0.coords t 2).val - 1 - k.val), 128]
    ∧ k0_off7 (grid0.coords t) k = ![0, 256 * (2 * (grid0.coords t 2).val - 1 - k.val), 256]
    ∧ k0_off8 (grid0.coords t) k = ![0, 256 * (2 * (grid0.coords t 2).val - 1 - k.val), 384] := by decide +kernel

theorem tilesM_at (t : Fin grid0.N) (arg : Memref sig .tc .vmem S1x4096x512 .f32) (harg : arg.IsWhole) (x : Vec Ideal S1x4096x512 .f32)
    (r : Fin 2) (s : Fin 4) (j : Fin 256) (l : Fin 128) :
    tilesM (grid0.coords t) arg (harg.unread x) r s (ix2 j l)
      = rowOf x (256 * (2 * (grid0.coords t 2).val + r.val) + j.val) (128 * s.val + l.val) := by
  obtain ⟨h1, h2, h3, h4⟩ := offM_eq t r
  fin_cases s
  · exact tile_at arg harg x _ _ _ 0 h1 j l
  · exact tile_at arg harg x _ _ _ 1 h2 j l
  · exact tile_at arg harg x _ _ _ 2 h3 j l
  · exact tile_at arg harg x _ _ _ 3 h4 j l

theorem tilesAt_at (t : Fin grid0.N) (arg : Memref sig .tc .vmem S1x4096x512 .f32) (harg : arg.IsWhole) (x : Vec Ideal S1x4096x512 .f32)
    (k : Fin (k0_t1_loop (grid0.coords t)).trips) (s : Fin 4) (j : Fin 256) (l : Fin 128) :
    tilesAt (grid0.coords t) arg (harg.unread x) k s (ix2 j l)
      = rowOf x (256 * (2 * (grid0.coords t 2).val - 1 - k.val) + j.val) (128 * s.val + l.val) := by
  obtain ⟨h1, h2, h3, h4⟩ := offU_eq t k
  fin_cases s
  · exact tile_at arg harg x _ _ _ 0 h1 j l
  · exact tile_at arg harg x _ _ _ 1 h2 j l
  · exact tile_at arg harg x _ _ _ 2 h3 j l
  · exact tile_at arg harg x _ _ _ 3 h4 j l

/-- After all tiles, every head's state holds the sums over all keys. -/
theorem final_inv (t : Fin grid0.N) (v3 : FVec Ideal S512x512 .f32) (arg4 : Memref sig .tc .vmem S1x4096x512 .f32) (harg4 : arg4.IsWhole)
    (x1 : Vec Ideal S1x4096x512 .f32) (arg5 : Memref sig .tc .vmem S1x4096x512 .f32) (harg5 : arg5.IsWhole)
    (x2 : Vec Ideal S1x4096x512 .f32) (h : Fin 8) :
    Inv (logit (qheads v3 h) x1 (slab h).val) (vals x2 (slab h).val) (512 * (grid0.coords t 2).val) (512 * (grid0.coords t 2).val + 512) 0
      (accOf (final16 (grid0.coords t) v3 arg4 (harg4.unread x1) arg5 (harg5.unread x2)) h)
      (runOf (final16 (grid0.coords t) v3 arg4 (harg4.unread x1) arg5 (harg5.unread x2)) h) := by
  set qi := (grid0.coords t 2).val with hqi
  unfold final16
  have h0 : Inv (logit (qheads v3 h) x1 (slab h).val) (vals x2 (slab h).val) (512 * qi) (512 * qi + 512) (2 * qi + 2)
      (accOf zero16 h) (runOf zero16 h) := by
    rw [accOf_zero16, runOf_zero16]
    exact Inv.start (by omega)
  have h1 := h0.masked (q := qheads v3 h) (k := tilesM (grid0.coords t) arg4 (harg4.unread x1) 1 (slab h))
    (v := tilesM (grid0.coords t) arg5 (harg5.unread x2) 1 (slab h)) (msk := mask1 (grid0.coords t)) (by omega)
    (fun r j => Finset.sum_congr rfl fun l _ => by rw [tilesM_at]; rfl) (fun j l => by rw [tilesM_at]; rfl)
    (fun r j => by rw [mask1_at]; omega)
  rw [← accOf_mapM, ← runOf_mapM _ _ _ (tilesM (grid0.coords t) arg5 (harg5.unread x2) 1)] at h1
  have h2 := h1.masked (q := qheads v3 h) (k := tilesM (grid0.coords t) arg4 (harg4.unread x1) 0 (slab h))
    (v := tilesM (grid0.coords t) arg5 (harg5.unread x2) 0 (slab h)) (msk := mask0 (grid0.coords t)) (by omega)
    (fun r j => Finset.sum_congr rfl fun l _ => by rw [tilesM_at]; rfl) (fun j l => by rw [tilesM_at]; rfl)
    (fun r j => by rw [mask0_at]; omega)
  rw [← accOf_mapM, ← runOf_mapM _ _ _ (tilesM (grid0.coords t) arg5 (harg5.unread x2) 0)] at h2
  generalize mapM k0_pay92 (qheads v3) (tilesM (grid0.coords t) arg4 (harg4.unread x1) 0) _ (mask0 (grid0.coords t)) _ = A at h2 ⊢
  have key : ∀ n, n ≤ 2 * qi → Inv (logit (qheads v3 h) x1 (slab h).val) (vals x2 (slab h).val) (512 * qi) (512 * qi + 512) (2 * qi - n)
      (accOf (iterU k0_pay92 (qheads v3) (tilesAt (grid0.coords t) arg4 (harg4.unread x1)) (tilesAt (grid0.coords t) arg5 (harg5.unread x2)) A n) h)
      (runOf (iterU k0_pay92 (qheads v3) (tilesAt (grid0.coords t) arg4 (harg4.unread x1)) (tilesAt (grid0.coords t) arg5 (harg5.unread x2)) A n) h) := by
    intro n
    induction n with
    | zero => exact fun _ => h2
    | succ n ih =>
      intro hn
      have hlt : n < (k0_t1_loop (grid0.coords t)).trips := by rw [trips_eq]; omega
      have hi := ih (by omega)
      rw [iterU, dif_pos hlt, accOf_mapU, runOf_mapU]
      rw [show 2 * qi - n = (2 * qi - (n + 1)) + 1 by omega] at hi
      have e : 2 * qi - (n + 1) = 2 * qi - 1 - n := by omega
      refine hi.plain (by omega) (by omega) (fun r j => Finset.sum_congr rfl fun l _ => ?_) (fun j l => ?_)
      · rw [tilesAt_at, ← hqi, e]
      · rw [tilesAt_at, ← hqi, e]; rfl
  have hfin := key (k0_t1_loop (grid0.coords t)).trips (trips_eq t).le
  rwa [show 2 * qi - (k0_t1_loop (grid0.coords t)).trips = 0 by rw [trips_eq]; omega] at hfin

end Cert.Proof

end
-- ==== Proof.Out.lean ====
/-
  The attention kernel's result array, index by index, as a function of the three argument arrays.
-/
module

public import proofs.«01_k».proof.Proof.Inv
public import Idealize.ShloMosaic.Lib.StableHlo.Run

@[expose] public section

set_option maxRecDepth 16384

noncomputable section

namespace Cert.Proof
open Cert.KernelIdeal Cert.KernelIdeal.Gen
open Idealize.ShloMosaic Idealize.ShloMosaic.TcCoe Idealize.ShloMosaic.Tactic
open Stick

/-- The element of a `[32768, 512]` array at row `i` and lane `l`, and zero outside it. -/
def at2 (x : Vec Ideal S32768x512 .f32) (i l : ℕ) : EReal :=
  if h : i < 32768 ∧ l < 512 then x (ix2 ⟨i, h.1⟩ ⟨l, h.2⟩) else 0

/-- The logits of row `i` at lane `col`'s head: the inner products over the head's 64 lanes, times one eighth. -/
def logits (Q K : Vec Ideal S32768x512 .f32) (i col n : ℕ) : EReal :=
  (∑ d : Fin 64, at2 Q i (col / 64 * 64 + d.val) * at2 K (i / 4096 * 4096 + n) (col / 64 * 64 + d.val)) * ((0.125 : ℝ) : EReal)

/-- Stick-breaking attention at row `i` and lane `col`: the earlier keys' values by their weights. -/
def attn (Q K Vv : Vec Ideal S32768x512 .f32) (i col : ℕ) : EReal :=
  ∑ n ∈ Finset.range 4096, w (logits Q K i col) (i % 4096) 4096 n * at2 Vv (i / 4096 * 4096 + n) col

/-- One store of the four holds, where it meets a column, that column's head. -/
theorem store_at (a b : FVec Ideal S512x128 .f32) (s : ℕ) (r : Fin 512) (col : Fin 512) (v : EReal)
    (h : ∀ l : Fin 128, col.val = 128 * s + l.val → v = if l.val < 64 then a (ix2 r l) else b (ix2 r l)) :
    View.TileAt (Val := Elt Ideal) (S := S512x512) (e := .f32) (ix2 r col) ![0, 128 * s] S512x128.size (k0_pay1 (F := Ideal) lanes a b) v := by
  intro x hx
  idx_vars x
  have h0 := hx 0
  have h1 := hx 1
  simp at h0 h1
  have e0 : x0 = r := Fin.ext (by omega)
  subst e0
  exact (pay1_at a b x0 x1).trans (h x1 h1).symm

/-- The four stores read back: at a column, its head's sums. -/
theorem stores_at (T : T16) (r : Fin 512) (col : Fin 512) :
    View.canon (stores T) (ix2 r col) = accOf T ⟨col.val / 64, by omega⟩ (ix2 r ⟨col.val % 128, by omega⟩) := by
  unfold stores
  refine View.canon_eq_of_allAt _ _ _ (View.cover_of_tiled_head _ _ _ rfl _) ?_
  have key : ∀ (s : Fin 4) (l : Fin 128), col.val = 128 * s.val + l.val →
      accOf T ⟨col.val / 64, by omega⟩ (ix2 r ⟨col.val % 128, by omega⟩)
        = if l.val < 64 then accOf T ⟨2 * s.val, by omega⟩ (ix2 r l) else accOf T ⟨2 * s.val + 1, by omega⟩ (ix2 r l) := by
    intro s l h
    have hl : (⟨col.val % 128, by omega⟩ : Fin 128) = l := Fin.ext (by show col.val % 128 = l.val; omega)
    rw [hl]
    split
    · rw [show (⟨col.val / 64, by omega⟩ : Fin 8) = ⟨2 * s.val, by omega⟩ from Fin.ext (by show col.val / 64 = 2 * s.val; omega)]
    · rw [show (⟨col.val / 64, by omega⟩ : Fin 8) = ⟨2 * s.val + 1, by omega⟩ from Fin.ext (by show col.val / 64 = 2 * s.val + 1; omega)]
  refine View.allAt_cons_unit _ _ _ _ _ (store_at _ _ 3 r col _ (key 3)) ?_
  refine View.allAt_cons_unit _ _ _ _ _ (store_at _ _ 2 r col _ (key 2)) ?_
  refine View.allAt_cons_unit _ _ _ _ _ (store_at _ _ 1 r col _ (key 1)) ?_
  exact View.allAt_cons_unit _ _ _ _ _ (store_at _ _ 0 r col _ (key 0)) (View.allAt_nil _ _)

theorem idx0 : ∀ t : Fin cfg0.N, win0_0.index t 0 = 8 * (grid0.coords t 0).val + (grid0.coords t 2).val ∧ win0_0.index t 1 = 0 :=
  (by decide +kernel : ∀ t : Fin grid0.N, win0_0.index t 0 = 8 * (grid0.coords t 0).val + (grid0.coords t 2).val ∧ win0_0.index t 1 = 0)
theorem idx1 : ∀ t : Fin cfg0.N, win0_1.index t 0 = (grid0.coords t 0).val ∧ win0_1.index t 1 = 0 ∧ win0_1.index t 2 = 0 :=
  (by decide +kernel : ∀ t : Fin grid0.N, win0_1.index t 0 = (grid0.coords t 0).val ∧ win0_1.index t 1 = 0 ∧ win0_1.index t 2 = 0)
theorem idx2 : ∀ t : Fin cfg0.N, win0_2.index t 0 = (grid0.coords t 0).val ∧ win0_2.index t 1 = 0 ∧ win0_2.index t 2 = 0 :=
  (by decide +kernel : ∀ t : Fin grid0.N, win0_2.index t 0 = (grid0.coords t 0).val ∧ win0_2.index t 1 = 0 ∧ win0_2.index t 2 = 0)
theorem idx3 : ∀ t : Fin cfg0.N, win0_3.index t 0 = 8 * (grid0.coords t 0).val + (grid0.coords t 2).val ∧ win0_3.index t 1 = 0 :=
  (by decide +kernel : ∀ t : Fin grid0.N, win0_3.index t 0 = 8 * (grid0.coords t 0).val + (grid0.coords t 2).val ∧ win0_3.index t 1 = 0)
theorem coords_lt (t : Fin cfg0.N) : (grid0.coords t 0).val < 8 ∧ (grid0.coords t 2).val < 8 :=
  ⟨(grid0.coords t 0).isLt, (grid0.coords t 2).isLt⟩

variable (m : (ℓ : Loc nD τ sig) → Buf (Elt Ideal) ℓ) (c : Dev nD)

theorem blk0_at (t : Fin cfg0.N) (r : Fin 512) (l : Fin 512) :
    iblk m c 0 t (ix2 r l) = at2 (m ((c : Thread nD τ).loc main_arg0)) (512 * (8 * (grid0.coords t 0).val + (grid0.coords t 2).val) + r.val) l.val := by
  obtain ⟨hb, hq⟩ := coords_lt t
  rw [at2, dif_pos ⟨by omega, l.isLt⟩]
  blk_ext! [iblk, V, V_main_arg0, idx0 t]

theorem blk1_at (t : Fin cfg0.N) (n : Fin 4096) (l : Fin 512) :
    iblk m c 1 t (ix3 0 n l) = at2 (m ((c : Thread nD τ).loc main_arg1)) (4096 * (grid0.coords t 0).val + n.val) l.val := by
  obtain ⟨hb, hq⟩ := coords_lt t
  rw [at2, dif_pos ⟨by omega, l.isLt⟩]
  blk_ext! [iblk, V, idx1 t]

theorem blk2_at (t : Fin cfg0.N) (n : Fin 4096) (l : Fin 512) :
    iblk m c 2 t (ix3 0 n l) = at2 (m ((c : Thread nD τ).loc main_arg2)) (4096 * (grid0.coords t 0).val + n.val) l.val := by
  obtain ⟨hb, hq⟩ := coords_lt t
  rw [at2, dif_pos ⟨by omega, l.isLt⟩]
  blk_ext! [iblk, V, idx2 t]

theorem eighth_mul_sum {ι : Type*} (s : Finset ι) (f : ι → EReal) :
    (∑ i ∈ s, f i) * ((0.125 : ℝ) : EReal) = ∑ i ∈ s, f i * ((0.125 : ℝ) : EReal) := by
  classical
  induction s using Finset.induction_on with
  | empty => simp
  | insert a s h ih =>
    rw [Finset.sum_insert h, Finset.sum_insert h, ← ih]
    exact EReal.right_distrib_of_nonneg_of_ne_top (EReal.coe_nonneg.mpr (by norm_num)) (EReal.coe_ne_top _) _ _

/-- The constant the queries are scaled by. -/
theorem eighth : Ideal.ofBits FTy.f32 0x3E000000#32 = ((0.125 : ℝ) : EReal) := by
  simp [Ideal.ofBits, Ideal.ieee, -EReal.coe_mul]; norm_num

/-- A head's queries at a lane. -/
theorem qheads_at (v3 : FVec Ideal S512x512 .f32) (h : Fin 8) (r : Fin 512) (l : Fin 128) :
    qheads v3 h (ix2 r l) = if l.val / 64 = h.val % 2 then v3 (ix2 r ⟨128 * (h.val / 2) + l.val, by omega⟩) else 0 := by
  have key : ∀ (e : Fin 2) (sl : FVec Ideal S512x128 .f32) (n : Fin 512), sl (ix2 r l) = v3 (ix2 r n) →
      qsel (BitVec.ofNat 32 e.val) sl (ix2 r l) = if l.val / 64 = e.val then v3 (ix2 r n) else 0 := by
    intro e sl n h
    rw [qsel_at, h]
  fin_cases h
  · exact key 0 _ ⟨128 * 0 + l.val, by omega⟩ (by pointwise)
  · exact key 1 _ ⟨128 * 0 + l.val, by omega⟩ (by pointwise)
  · exact key 0 _ ⟨128 * 1 + l.val, by omega⟩ (by pointwise)
  · exact key 1 _ ⟨128 * 1 + l.val, by omega⟩ (by pointwise)
  · exact key 0 _ ⟨128 * 2 + l.val, by omega⟩ (by pointwise)
  · exact key 1 _ ⟨128 * 2 + l.val, by omega⟩ (by pointwise)
  · exact key 0 _ ⟨128 * 3 + l.val, by omega⟩ (by pointwise)
  · exact key 1 _ ⟨128 * 3 + l.val, by omega⟩ (by pointwise)

theorem qscaled_at (arg : Memref sig .tc .vmem S512x512 .f32) (harg : arg.IsWhole) (x : Vec Ideal S512x512 .f32) (r l : Fin 512) :
    qscaled arg (harg.unread x) (ix2 r l) = x (ix2 r l) * ((0.125 : ℝ) : EReal) := by
  unfold qscaled k0_pay90
  rw [View.readAt_eq_ld, harg.read_unread]
  pointwise
  rw [eighth]

/-- A sum over 128 lanes of which one head's 64 count. -/
theorem sum_head (g : ℕ → EReal) (e : ℕ) (he : e < 2) :
    ∑ l : Fin 128, (if l.val / 64 = e then g l.val else 0) = ∑ d : Fin 64, g (64 * e + d.val) := by
  rw [show (128 : ℕ) = 64 + 64 from rfl, Fin.sum_univ_add]
  simp only [Fin.val_castAdd, Fin.val_natAdd]
  have h1 : ∀ d : Fin 64, d.val / 64 = 0 := fun d => by omega
  have h2 : ∀ d : Fin 64, (64 + d.val) / 64 = 1 := fun d => by omega
  simp only [h1, h2]
  interval_cases e <;> simp

/-- A head's logits in the kernel are the specification's. -/
theorem logit_eq (Q K : Vec Ideal S32768x512 .f32) (arg : Memref sig .tc .vmem S512x512 .f32) (harg : arg.IsWhole)
    (x0 : Vec Ideal S512x512 .f32) (x1 : Vec Ideal S1x4096x512 .f32) (b qi : ℕ) (hqi : qi < 8)
    (h0 : ∀ r l : Fin 512, x0 (ix2 r l) = at2 Q (512 * (8 * b + qi) + r.val) l.val)
    (h1 : ∀ (n : Fin 4096) (l : Fin 512), x1 (ix3 0 n l) = at2 K (4096 * b + n.val) l.val)
    (r : Fin 512) (col : Fin 512) (n : ℕ) (hn : n < 4096) (h : Fin 8) (hh : h.val = col.val / 64) :
    logit (qheads (qscaled arg (harg.unread x0)) h) x1 (slab h).val r n
      = logits Q K (512 * (8 * b + qi) + r.val) col.val n := by
  have hc := col.isLt
  unfold logit logits
  rw [eighth_mul_sum]
  have hrow : (512 * (8 * b + qi) + r.val) / 4096 * 4096 = 4096 * b := by have := r.isLt; omega
  rw [hrow]
  refine (Finset.sum_congr rfl fun l _ => ?_).trans ((sum_head (fun l => at2 Q (512 * (8 * b + qi) + r.val) (128 * (h.val / 2) + l)
    * at2 K (4096 * b + n) (128 * (h.val / 2) + l) * ((0.125 : ℝ) : EReal)) (h.val % 2) (by omega)).trans ?_)
  · rw [qheads_at]
    have hl := l.isLt
    split
    · rw [qscaled_at, h0, rowOf, dif_pos ⟨hn, by show 128 * (h.val / 2) + l.val < 512; omega⟩, h1]
      exact mul_right_comm _ _ _
    · exact zero_mul _
  · refine Finset.sum_congr rfl fun d _ => ?_
    have e : 128 * (h.val / 2) + (64 * (h.val % 2) + d.val) = col.val / 64 * 64 + d.val := by omega
    show at2 Q _ (128 * (h.val / 2) + (64 * (h.val % 2) + d.val)) * at2 K _ (128 * (h.val / 2) + (64 * (h.val % 2) + d.val)) * _ = _
    rw [e]

theorem w_congr (z z' : ℕ → EReal) (t N k : ℕ) (hk : k < N) (h : ∀ n, n < N → z n = z' n) : w z t N k = w z' t N k := by
  unfold w
  have hl : ∀ n, n < N → lkm z t n = lkm z' t n := fun n hn => by unfold lkm; rw [h n hn]
  rw [h k hk, hl k hk, Finset.sum_congr rfl fun j hj => hl j (Finset.mem_Ico.mp hj).2]

/-- What a grid point leaves in its block of the result. -/
theorem outs_at (t : Fin cfg0.N) (r col : Fin 512) :
    outsAt0 m c t (ix2 r col) = attn (m ((c : Thread nD τ).loc main_arg0)) (m ((c : Thread nD τ).loc main_arg1))
      (m ((c : Thread nD τ).loc main_arg2)) (512 * (8 * (grid0.coords t 0).val + (grid0.coords t 2).val) + r.val) col.val := by
  obtain ⟨hb, hq⟩ := coords_lt t
  have hr := r.isLt
  have hc := col.isLt
  rw [outs_eq, stores_at, (final_inv t _ (ms0_1 t) (hs0_1 t) (iblk m c 1 t) (ms0_2 t) (hs0_2 t) (iblk m c 2 t) _).2,
    accAt_zero _ _ _ _ 4096 (by omega) (by omega), attn]
  have ht : (512 * (8 * (grid0.coords t 0).val + (grid0.coords t 2).val) + r.val) % 4096 = 512 * (grid0.coords t 2).val + r.val := by omega
  have hrow : (512 * (8 * (grid0.coords t 0).val + (grid0.coords t 2).val) + r.val) / 4096 * 4096 = 4096 * (grid0.coords t 0).val := by omega
  rw [ht]
  refine Finset.sum_congr rfl fun n hn => ?_
  have hn' := Finset.mem_range.mp hn
  congr 1
  · exact w_congr _ _ _ _ _ hn' fun k hk => logit_eq _ _ (ms0_0 t) (hs0_0 t) (iblk m c 0 t) (iblk m c 1 t) _ _ hq (blk0_at m c t) (blk1_at m c t)
      r col k hk _ rfl
  · unfold vals
    have e : 128 * (slab ⟨col.val / 64, by omega⟩).val + col.val % 128 = col.val := by
      show 128 * (col.val / 64 / 2) + col.val % 128 = col.val
      omega
    show rowOf _ n (128 * (slab ⟨col.val / 64, by omega⟩).val + col.val % 128) = _
    rw [e, rowOf, dif_pos ⟨hn', hc⟩, hrow]
    exact blk2_at m c t ⟨n, hn'⟩ col

/-- The kernel's result array. -/
theorem out_eq : (dats m 0 c).arrAt 3 cfg0.N = fun i => attn (m ((c : Thread nD τ).loc main_arg0)) (m ((c : Thread nD τ).loc main_arg1))
    (m ((c : Thread nD τ).loc main_arg2)) (i 0).val (i 1).val := by
  refine (dats m 0 c).arrAt_eq_of_covers 3 _ (by decide +kernel) fun t hf y => ?_
  rw [after0_3]
  blk_simp [idx3 t]
  have ey : (show S512x512.Idx from y) = ix2 (show Fin 512 from y 0) (show Fin 512 from y 1) := by
    funext a; fin_cases a <;> rfl
  refine (congrArg (outsAt0 m c t) ey).trans ((outs_at m c t _ _).trans ?_)
  rw [Nat.mul_comm 512]

end Cert.Proof

end
-- ==== Proof.Ref.lean ====
/-
  The reference's result, index by index.
-/
module

public import proofs.«01_k».proof.Proof.Gen.ReferenceIdeal.Run
public import proofs.«01_k».proof.Proof.Out
public import Idealize.ShloMosaic.Lib.Pointwise
public import Idealize.ShloMosaic.Lib.Pipeline.ValueKit

@[expose] public section

set_option maxRecDepth 16384

noncomputable section

namespace Cert.Proof.Ref
open Cert.ReferenceIdeal Cert.ReferenceIdeal.Gen Cert.ReferenceIdeal.Value
open Idealize.ShloMosaic Idealize.ShloMosaic.TcCoe Idealize.ShloMosaic.Tactic
open Stick

/-- A left fold of additions is the start plus the sum. -/
theorem foldl_add {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

/-- The window of the suffix sum. -/
abbrev W : Shape := ⟨4, ![1, 1, 1, 4096]⟩

theorem W_numel : W.numel = 4096 := by decide +kernel

theorem W_symm (n : Fin W.numel) : W.rowMajor.symm n = ix4 (0 : Fin 1) (0 : Fin 1) (0 : Fin 1) (n.cast W_numel) :=
  (W.rowMajor.symm_apply_eq).2 (Fin.ext (by
    rw [rowMajor_val4 _ 4096 4096 4096 rfl rfl rfl]
    show n.val = _ + _ + _ + n.val
    simp [ix4]))

/-- The reversed running sum along the last axis, read at an index, is the sum from there to the end. -/
theorem suffix_at (x : FVec Ideal S8x8x4096x4096 .f32) (z : FVec Ideal S_ .f32) (hz : ∀ i, z i = 0)
    (b : Fin 8) (h : Fin 8) (t s : Fin 4096) (f : ℕ → EReal) (hx : ∀ j : Fin 4096, x (ix4 b h t j) = f j.val) :
    Host.reduceWindowAdd ![1, 1, 1, 4096] ![1, 1, 1, 1] ![0, 0, 0, 0] ![0, 0, 0, 4095] x z
        reduceWindows_S8x8x4096x4096_S8x8x4096x4096_w1s1p0_0_w1s1p0_0_w1s1p0_0_w4096s1p0_4095 h_S_ (ix4 b h t s)
      = ∑ j ∈ Finset.Ico s.val 4096, f j := by
  have hs := s.isLt
  unfold Host.reduceWindowAdd
  rw [Ideal.hostReduceWindowAdd_def]
  unfold Ideal.hostReduceWindowAdd Host.reduceWindow
  refine (foldl_add _ _ _).trans ?_
  rw [hz, zero_add, ← Fin.sum_univ_def]
  refine (Finset.sum_congr (g := fun n : Fin W.numel => if s.val + n.val < 4096 then f (s.val + n.val) else 0) rfl fun n _ => ?_).trans ?_
  · have hn : n.val < 4096 := (n.cast W_numel).isLt
    have hw := W_symm n
    split
    · next hin =>
      have h3 := hin 3
      rw [hw] at h3
      change 0 ≤ s.val * 1 + n.val ∧ s.val * 1 + n.val - 0 < 4096 at h3
      rw [if_pos (by omega)]
      refine (congrArg x (funext fun a => Fin.ext ?_)).trans (hx ⟨s.val + n.val, by omega⟩)
      refine (congrArg (fun v : W.Idx => (ix4 b h t s a).val * (![1, 1, 1, 1] : Fin 4 → ℕ) a + (v a).val - (![0, 0, 0, 0] : Fin 4 → ℕ) a) hw).trans ?_
      match a with
      | ⟨0, _⟩ => exact (Nat.mul_one _)
      | ⟨1, _⟩ => exact (Nat.mul_one _)
      | ⟨2, _⟩ => exact (Nat.mul_one _)
      | ⟨3, _⟩ => exact congrArg (· + n.val) (Nat.mul_one _)
    · next hin =>
      rw [if_neg fun hle => hin fun a => by
        rw [hw]
        match a with
        | ⟨0, _⟩ => exact ⟨Nat.zero_le _, by show b.val * 1 + 0 - 0 < _; rw [Nat.mul_one]; exact b.isLt⟩
        | ⟨1, _⟩ => exact ⟨Nat.zero_le _, by show h.val * 1 + 0 - 0 < _; rw [Nat.mul_one]; exact h.isLt⟩
        | ⟨2, _⟩ => exact ⟨Nat.zero_le _, by show t.val * 1 + 0 - 0 < _; rw [Nat.mul_one]; exact t.isLt⟩
        | ⟨3, _⟩ => exact ⟨Nat.zero_le _, by show s.val * 1 + n.val - 0 < 4096; omega⟩]
  · rw [← Finset.sum_range (n := W.numel) (f := fun n => if s.val + n < 4096 then f (s.val + n) else 0), W_numel,
      Finset.sum_Ico_eq_sum_range, ← Finset.sum_filter]
    refine Finset.sum_congr ?_ fun _ _ => rfl
    ext a
    simp only [Finset.mem_filter, Finset.mem_range]
    omega

/-- The logits, all heads. -/
def zV (Q K : FVec Ideal S32768x512 .f32) : FVec Ideal S8x8x4096x4096 .f32 :=
  mulf (Host.dotGeneral dot_S8x4096x8x64_S8x4096x8x64_S8x8x4096x4096_3_3_1_1_02_02 none
      (shapeCast S8x4096x8x64 Q shapeCasts_S32768x512_S8x4096x8x64) (shapeCast S8x4096x8x64 K shapeCasts_S32768x512_S8x4096x8x64))
    (broadcastInDim S8x8x4096x4096 ![] bcast_S_S8x8x4096x4096 (constant S_ .f32 0x3E000000#32))

/-- The mask: keys strictly before the query. -/
def mV : IVec S8x8x4096x4096 1 :=
  broadcastInDim S8x8x4096x4096 ![2, 3] bcast_S4096x4096_S8x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The zero array of a mask. -/
def oV : FVec Ideal S8x8x4096x4096 .f32 := broadcastInDim S8x8x4096x4096 ![] bcast_S_S8x8x4096x4096 (constant S_ .f32 0x00000000#32)

/-- The log-sigmoid, elementwise. -/
def lsV (x : FVec Ideal S8x8x4096x4096 .f32) : FVec Ideal S8x8x4096x4096 .f32 :=
  Host.negf (select (cmpf .une (subf (Host.negf x) oV) (subf (Host.negf x) oV)) (addf (Host.negf x) oV)
    (addf (maximumf (Host.negf x) oV) (Host.log1p (Host.exp (Host.negf (Host.absf (subf (Host.negf x) oV)))))))

/-- The logarithm of the remainders, masked. -/
def lkV (z : FVec Ideal S8x8x4096x4096 .f32) : FVec Ideal S8x8x4096x4096 .f32 := select mV (lsV (Host.negf z)) oV

/-- The suffix sums. -/
def sV (x : FVec Ideal S8x8x4096x4096 .f32) : FVec Ideal S8x8x4096x4096 .f32 :=
  Host.reduceWindowAdd ![1, 1, 1, 4096] ![1, 1, 1, 1] ![0, 0, 0, 0] ![0, 0, 0, 4095] x
    (broadcastInDim S_ ![] bcast_S_S_ (constant S_ .f32 0x00000000#32))
    reduceWindows_S8x8x4096x4096_S8x8x4096x4096_w1s1p0_0_w1s1p0_0_w1s1p0_0_w4096s1p0_4095 h_S_

/-- The weights. -/
def wV (z : FVec Ideal S8x8x4096x4096 .f32) : FVec Ideal S8x8x4096x4096 .f32 :=
  select mV (Host.exp (addf (lsV z) (subf (sV (lkV z)) (lkV z)))) oV

variable (m : (ℓ : Loc nD τ sig) → Buf (Elt Ideal) ℓ) (c : Dev nD)

/-- The reference's result in the parts above. -/
theorem res_eq : res_main_v23 (F := Ideal) m c =
    shapeCast S32768x512 (transpose S8x4096x8x64 [0, 3, 1, 2]
      (Host.dotGeneral (φ₁ := .f32) dot_S8x4096x8x64_S8x8x4096x4096_S8x8x64x4096_1_3_3_2_02_01 none
        (shapeCast S8x4096x8x64 (m ((c.tc : Thread nD τ).loc main_arg2)) shapeCasts_S32768x512_S8x4096x8x64)
        (wV (zV (m ((c.tc : Thread nD τ).loc main_arg0)) (m ((c.tc : Thread nD τ).loc main_arg1)))))
      transposes_S8x8x64x4096_S8x4096x8x64_0_3_1_2) shapeCasts_S8x4096x8x64_S32768x512 := rfl

/-- The logits, read at an index. -/
theorem zV_at (Q K : FVec Ideal S32768x512 .f32) (i : Fin 32768) (l : Fin 512) (b h : Fin 8) (t s : Fin 4096)
    (hb : b.val = i.val / 4096) (ht : t.val = i.val % 4096) (hh : h.val = l.val / 64) :
    zV Q K (ix4 b h t s) = logits Q K i.val l.val s.val := by
  unfold zV logits
  pointwise
  rw [eighth]
  refine congrArg (· * ((0.125 : ℝ) : EReal)) (Finset.sum_congr rfl fun x _ => ?_)
  have hi := i.isLt
  have hl := l.isLt
  have hx := x.isLt
  have hs := s.isLt
  unfold at2
  rw [dif_pos (by omega), dif_pos (by omega)]
  congr 2
  · congr 1 <;> apply Fin.ext <;> dsimp only <;> omega
  · congr 1 <;> apply Fin.ext <;> dsimp only <;> omega

/-- The log-sigmoid, read at an index. -/
theorem lsV_at (x : FVec Ideal S8x8x4096x4096 .f32) (b h : Fin 8) (t s : Fin 4096) : lsV x (ix4 b h t s) = lsg (x (ix4 b h t s)) := by
  unfold lsV oV lsg
  pointwise
  rw [if_neg (by simp)]
  rfl

/-- The mask, read at an index. -/
theorem mV_at (b h : Fin 8) (t s : Fin 4096) : mV (ix4 b h t s) = BitVec.ofBool (decide (s.val < t.val)) := by
  unfold mV
  pointwise
  show BitVec.ofBool (BitVec.slt _ _) = _
  rw [BitVec.slt_eq_decide, toInt_small _ (by omega), toInt_small _ (by omega)]
  simp

theorem oV_at (j : S8x8x4096x4096.Idx) : oV j = 0 := by
  unfold oV
  pointwise

/-- The masked logarithms, read at an index. -/
theorem lkV_at (z : FVec Ideal S8x8x4096x4096 .f32) (b h : Fin 8) (t s : Fin 4096) (f : ℕ → EReal)
    (hz : ∀ n : Fin 4096, z (ix4 b h t n) = f n.val) : lkV z (ix4 b h t s) = lkm f t.val s.val := by
  unfold lkV lkm
  show Scalar.select (mV _) (lsV (Host.negf z) _) (oV _) = _
  rw [mV_at, select_ofBool, lsV_at, oV_at]
  show (if _ then lsg (-(z _)) else _) = _
  rw [hz]

/-- The weights, read at an index. -/
theorem wV_at (z : FVec Ideal S8x8x4096x4096 .f32) (b h : Fin 8) (t s : Fin 4096) (f : ℕ → EReal)
    (hz : ∀ n : Fin 4096, z (ix4 b h t n) = f n.val) : wV z (ix4 b h t s) = w f t.val 4096 s.val := by
  unfold wV w
  show Scalar.select (mV _) (Ideal.exp (lsV z _ + (sV (lkV z) _ - lkV z _))) (oV _) = _
  rw [mV_at, select_ofBool, lsV_at, oV_at, lkV_at z b h t s f hz, hz]
  unfold sV
  rw [suffix_at _ _ (fun i => by pointwise) b h t s (lkm f t.val) fun j => lkV_at z b h t j f hz]

/-- The reference's result: stick-breaking attention at every row and lane. -/
theorem res_at : res_main_v23 (F := Ideal) m c = fun i => attn (m ((c.tc : Thread nD τ).loc main_arg0))
    (m ((c.tc : Thread nD τ).loc main_arg1)) (m ((c.tc : Thread nD τ).loc main_arg2)) (i 0).val (i 1).val := by
  rw [res_eq]
  refine funext fun (y : S32768x512.Idx) => ?_
  obtain ⟨i, l, rfl⟩ : ∃ (i : Fin 32768) (l : Fin 512), y = ix2 i l := ⟨y 0, y 1, by funext a; fin_cases a <;> rfl⟩
  pointwise
  show _ = attn _ _ _ i.val l.val
  unfold attn
  rw [Finset.sum_range]
  refine Finset.sum_congr rfl fun x _ => ?_
  have hi := i.isLt
  have hl := l.isLt
  have hx := x.isLt
  rw [wV_at _ _ _ _ x (logits _ _ i.val l.val) fun n => zV_at _ _ i l _ _ _ n rfl rfl rfl, mul_comm]
  unfold at2
  rw [dif_pos (by omega)]

end Cert.Proof.Ref

end
-- ==== Proof.Proj.lean ====
/-
  The input projection's result arrays, index by index: the normed and modulated input times a column of the weights.
-/
module

public import proofs.«01_k».proof.Proof.Gen.Kernel2Ideal.Value
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.Proj
open Cert.Kernel2Ideal Cert.Kernel2Ideal.Gen
open Idealize.ShloMosaic Idealize.ShloMosaic.TcCoe Idealize.ShloMosaic.Tactic

/-- The normed and modulated input of a row, from that row of the input, the gain, the shift and the scale. -/
def hid (x g sh sc : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + sc d) + sh d

/-- The normed and modulated input of row `i` at column `d`. -/
def hidAt (x : Vec Ideal S32768x1024 .f32) (g : Vec Ideal S1024 .f32) (sh sc : Vec Ideal S8x1x1024 .f32) (i : Fin 32768) (d : Fin 1024) : EReal :=
  hid (fun k => x (ix2 i k)) (fun k => g (ix1 k)) (fun k => sh (ix3 (⟨i.val / 4096, by omega⟩ : Fin 8) (0 : Fin 1) k))
    (fun k => sc (ix3 (⟨i.val / 4096, by omega⟩ : Fin 8) (0 : Fin 1) k)) d

/-- The projection of row `i` on column `j` of the weights, and zero outside the arrays. -/
def projAt (x : Vec Ideal S32768x1024 .f32) (g : Vec Ideal S1024 .f32) (sh sc : Vec Ideal S8x1x1024 .f32) (w : Vec Ideal S1024x8712 .f32) (i j : ℕ) : EReal :=
  if h : i < 32768 ∧ j < 8712 then ∑ d : Fin 1024, hidAt x g sh sc ⟨i, h.1⟩ d * w (ix2 d (⟨j, h.2⟩ : Fin 8712)) else 0

theorem pay4_at (x : Vec Ideal S256x1024 .f32) (g : Vec Ideal S1x1024 .f32) (sh sc : Vec Ideal S1x1x1024 .f32) (r : Fin 256) (d : Fin 1024) :
    k0_pay4 (F := Ideal) x g sh sc (ix2 r d)
      = hid (fun k => x (ix2 r k)) (fun k => g (ix2 0 k)) (fun k => sh (ix3 0 0 k)) (fun k => sc (ix3 0 0 k)) d := by
  unfold k0_pay4 hid
  pointwise

theorem pay1_at (v : FVec Ideal S256x1024 .bf16) (w : Vec Ideal S1024x512 .bf16) (r : Fin 256) (l : Fin 512) :
    k0_pay1 (F := Ideal) v w (ix2 r l) = ∑ d : Fin 1024, v (ix2 r d) * w (ix2 d l) := by
  unfold k0_pay1
  pointwise

variable (m : (ℓ : Loc nD τ sig) → Buf (Elt Ideal) ℓ) (c : Dev nD)

/-- The weights of the eight gates left out. -/
def wMain (w : Vec Ideal S1024x8712 .f32) : Vec Ideal S1024x8704 .bf16 :=
  truncf (F := Ideal) .bf16 (concatenate S1024x8704 1 [⟨S1024x5632, extractStridedSlice S1024x5632 ![0, 0] w slices_S1024x8712_S1024x5632_0_0⟩,
    ⟨S1024x3072, extractStridedSlice S1024x3072 ![0, 5640] w slices_S1024x8712_S1024x3072_0_5640⟩] concatenates_S1024x5632_S1024x3072_S1024x8704_d1) bitsLt_bf16_f32

/-- The weights of the eight gates, padded to 128 columns. -/
def wIf (w : Vec Ideal S1024x8712 .f32) : Vec Ideal S1024x128 .f32 :=
  pad S1024x128 ![0, 0] ![0, 120] ![0, 0] (extractStridedSlice S1024x8 ![0, 5632] w slices_S1024x8712_S1024x8_0_5632)
    (sitofp (F := Ideal) .f32 (constantI S_ 32 0#32)) pads_S1024x8_S1024x128_000_01200 h_S_

theorem V_v3 : V m c main_v3 = wMain (m ((c : Thread nD τ).loc main_arg4)) := by
  unfold V
  simp only [hostOps0, hostOps0_1, hostOps0_2, List.flatten_cons, List.flatten_nil, List.append_nil, List.cons_append, List.nil_append]
  after_results_simp
  rfl

theorem V_v5 : V m c main_v5 = wIf (m ((c : Thread nD τ).loc main_arg4)) := by
  unfold V
  simp only [hostOps0, hostOps0_1, hostOps0_2, List.flatten_cons, List.flatten_nil, List.append_nil, List.cons_append, List.nil_append]
  after_results_simp
  rfl

theorem V_v6 : V m c main_v6 = shapeCast S1x1024 (m ((c : Thread nD τ).loc main_arg1) : Vec Ideal S1024 .f32) shapeCasts_S1024_S1x1024 := by
  unfold V
  simp only [hostOps0, hostOps0_1, hostOps0_2, List.flatten_cons, List.flatten_nil, List.append_nil, List.cons_append, List.nil_append]
  after_results_simp
  rfl

theorem wMain_at (w : Vec Ideal S1024x8712 .f32) (d : Fin 1024) (j : Fin 8704) :
    wMain w (ix2 d j) = w (ix2 d ⟨if j.val < 5632 then j.val else 8 + j.val, by split <;> omega⟩) := by
  unfold wMain
  pointwise
  by_cases h : j.val < 5632
  · refine (dif_pos h).trans (congrArg w (congrArg (ix2 d) (Fin.ext (if_pos h).symm)))
  · refine (dif_neg h).trans (congrArg w (congrArg (ix2 d) (Fin.ext (Eq.trans ?_ (if_neg h).symm))))
    dsimp only
    omega

theorem wIf_at (w : Vec Ideal S1024x8712 .f32) (d : Fin 1024) (j : Fin 128) :
    wIf w (ix2 d j) = (if h : j.val < 8 then w (ix2 d ⟨5632 + j.val, by omega⟩) else 0 : EReal) := by
  unfold wIf
  pointwise
  split
  · rfl
  · show (((0#32 : BitVec 32).toInt : ℝ) : EReal) = 0
    simp

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem lt_N (t : Fin cfg0.N) : t.val < 128 := t.isLt

theorem blk0_at (t : Fin cfg0.N) (r : Fin 256) (k : Fin 1024) :
    iblk m c 0 t (ix2 r k) = m ((c : Thread nD τ).loc main_arg0) (ix2 (⟨256 * t.val + r.val, by have := lt_N t; omega⟩ : Fin 32768) k) := by
  blk_ext! [iblk, V, V_main_arg0, idx0 t]
theorem blk1_at (t : Fin cfg0.N) (k : Fin 1024) :
    iblk m c 1 t (ix2 0 k) = m ((c : Thread nD τ).loc main_arg1) (ix1 k) := by
  have h : iblk m c 1 t (ix2 0 k) = V m c main_v6 (ix2 (0 : Fin 1) k) := by
    blk_ext! [iblk, idx1 t]
  rw [h, V_v6]
  pointwise
theorem blk2_at (t : Fin cfg0.N) (k : Fin 1024) :
    iblk m c 2 t (ix3 0 0 k) = m ((c : Thread nD τ).loc main_arg2) (ix3 (⟨t.val / 16, by have := lt_N t; omega⟩ : Fin 8) (0 : Fin 1) k) := by
  blk_ext! [iblk, V, V_main_arg2, idx2 t]
theorem blk3_at (t : Fin cfg0.N) (k : Fin 1024) :
    iblk m c 3 t (ix3 0 0 k) = m ((c : Thread nD τ).loc main_arg3) (ix3 (⟨t.val / 16, by have := lt_N t; omega⟩ : Fin 8) (0 : Fin 1) k) := by
  blk_ext! [iblk, V, V_main_arg3, idx3 t]
theorem blk4_at (t : Fin cfg0.N) (d : Fin 1024) (j : Fin 8704) :
    iblk m c 4 t (ix2 d j) = wMain (m ((c : Thread nD τ).loc main_arg4)) (ix2 d j) := by
  rw [← V_v3]
  blk_ext! [iblk, idx4 t]
theorem blk5_at (t : Fin cfg0.N) (d : Fin 1024) (j : Fin 128) :
    iblk m c 5 t (ix2 d j) = wIf (m ((c : Thread nD τ).loc main_arg4)) (ix2 d j) := by
  rw [← V_v5]
  blk_ext! [iblk, idx5 t]

theorem zero2 : (![0, 0] : Fin 2 → ℕ) = fun _ => 0 := by
  funext a; fin_cases a <;> rfl
theorem zero3 : (![0, 0, 0] : Fin 3 → ℕ) = fun _ => 0 := by
  funext a; fin_cases a <;> rfl

theorem ld0 (t : Fin cfg0.N) : View.ld (iblk m c 0 t) r0_0 = iblk m c 0 t := View.ld_unit_zero zero2 _ _
theorem ld1 (t : Fin cfg0.N) : View.ld (iblk m c 1 t) r0_1 = iblk m c 1 t := View.ld_unit_zero zero2 _ _
theorem ld2 (t : Fin cfg0.N) : View.ld (iblk m c 2 t) r0_2 = iblk m c 2 t := View.ld_unit_zero zero3 _ _
theorem ld3 (t : Fin cfg0.N) : View.ld (iblk m c 3 t) r0_2 = iblk m c 3 t := View.ld_unit_zero zero3 _ _
theorem ld5 (t : Fin cfg0.N) : View.ld (iblk m c 5 t) r0_15 = iblk m c 5 t := View.ld_unit_zero zero2 _ _

/-- The normed and modulated input of row `i` at column `d`. -/
abbrev hrow (i : Fin 32768) (d : Fin 1024) : EReal :=
  hidAt (m ((c : Thread nD τ).loc main_arg0)) (m ((c : Thread nD τ).loc main_arg1)) (m ((c : Thread nD τ).loc main_arg2)) (m ((c : Thread nD τ).loc main_arg3)) i d

/-- The rows of the normed and modulated input at a grid point. -/
theorem h_at (t : Fin cfg0.N) (r : Fin 256) (d : Fin 1024) :
    k0_pay4 (F := Ideal) (View.ld (iblk m c 0 t) r0_0) (View.ld (iblk m c 1 t) r0_1) (View.ld (iblk m c 2 t) r0_2) (View.ld (iblk m c 3 t) r0_2) (ix2 r d)
      = hrow m c ⟨256 * t.val + r.val, by have := lt_N t; omega⟩ d := by
  rw [ld0, ld1, ld2, ld3, pay4_at]
  simp only [blk0_at, blk1_at, blk2_at, blk3_at]
  have e : (⟨t.val / 16, by have := lt_N t; omega⟩ : Fin 8) = ⟨(256 * t.val + r.val) / 4096, by have := lt_N t; omega⟩ :=
    Fin.ext (by show t.val / 16 = (256 * t.val + r.val) / 4096; omega)
  rw [e]
  rfl

/-- A block of the weights' columns. -/
theorem ld_cols (t : Fin cfg0.N) (o n : ℕ) (inb : ∀ a, (![0, o] : Fin 2 → ℕ) a + (![1024, n] : Fin 2 → ℕ) a ≤ S1024x8704.size a) (d : Fin 1024) (l : Fin n)
    (j : Fin 8712) (hj : j.val = if o + l.val < 5632 then o + l.val else 8 + (o + l.val)) :
    View.ld (iblk m c 4 t) (Rect.unit (s := S1024x8704) ![0, o] ![1024, n] inb) (ix2 d l) = m ((c : Thread nD τ).loc main_arg4) (ix2 d j) := by
  have hb : o + n ≤ 8704 := inb 1
  have hl := l.isLt
  refine Eq.trans ?_ ((blk4_at m c t d ⟨o + l.val, by omega⟩).trans ((wMain_at _ d _).trans ?_))
  · refine congrArg (iblk m c 4 t) (funext fun a => Fin.ext ?_)
    match a with
    | ⟨0, _⟩ => show 0 + 1 * d.val = d.val; omega
    | ⟨1, _⟩ => show o + 1 * l.val = o + l.val; omega
  · exact congrArg _ (congrArg (ix2 d) (Fin.ext hj.symm))

/-- The projection of the launch's arrays. -/
abbrev proj (i j : ℕ) : EReal :=
  projAt (m ((c : Thread nD τ).loc main_arg0)) (m ((c : Thread nD τ).loc main_arg1)) (m ((c : Thread nD τ).loc main_arg2)) (m ((c : Thread nD τ).loc main_arg3))
    (m ((c : Thread nD τ).loc main_arg4)) i j

/-- The input's rows in the narrow format, at a grid point. -/
abbrev vrow (t : Fin cfg0.N) : FVec Ideal S256x1024 .bf16 :=
  k0_pay5 (View.ld (iblk m c 0 t) r0_0) (View.ld (iblk m c 1 t) r0_1) (View.ld (iblk m c 2 t) r0_2) (View.ld (iblk m c 3 t) r0_2)

/-- A block of a result: the input's rows times a range of the weights' columns. -/
theorem block_at (t : Fin cfg0.N) (o' o n : ℕ) (inb : ∀ a, (![0, o'] : Fin 2 → ℕ) a + (![1024, n] : Fin 2 → ℕ) a ≤ S1024x8704.size a)
    (hh : o' + n ≤ 5632 ∧ o = o' ∨ 5632 ≤ o' ∧ o = 8 + o') (r : Fin 256) (l : Fin n) (v : EReal)
    (hv : v = ∑ d : Fin 1024, vrow m c t (ix2 r d) * View.ld (iblk m c 4 t) (Rect.unit (s := S1024x8704) ![0, o'] ![1024, n] inb) (ix2 d l)) :
    v = proj m c (t.val * 256 + r.val) (o + l.val) := by
  have hl := l.isLt
  have ht := lt_N t
  have hb : o' + n ≤ 8704 := inb 1
  have e : (⟨t.val * 256 + r.val, by omega⟩ : Fin 32768) = ⟨256 * t.val + r.val, by omega⟩ := Fin.ext (by show t.val * 256 + r.val = 256 * t.val + r.val; omega)
  rw [hv, proj, projAt, dif_pos ⟨by omega, by omega⟩, e]
  refine Finset.sum_congr rfl fun d _ => congrArg₂ (· * ·) (h_at m c t r d) (ld_cols m c t o' n inb d l _ ?_)
  show o + l.val = _
  split <;> omega

theorem pay9_at (v : FVec Ideal S256x1024 .bf16) (w : Vec Ideal S1024x1024 .bf16) (r : Fin 256) (l : Fin 1024) :
    k0_pay9 (F := Ideal) v w (ix2 r l) = ∑ d : Fin 1024, v (ix2 r d) * w (ix2 d l) := by
  unfold k0_pay9
  pointwise
theorem pay2_at (v : FVec Ideal S256x1024 .bf16) (w : Vec Ideal S1024x3072 .bf16) (r : Fin 256) (l : Fin 3072) :
    k0_pay2 (F := Ideal) v w (ix2 r l) = ∑ d : Fin 1024, v (ix2 r d) * w (ix2 d l) := by
  unfold k0_pay2
  pointwise
theorem pay3_at (v : FVec Ideal S256x1024 .f32) (w : Vec Ideal S1024x128 .f32) (r : Fin 256) (l : Fin 128) :
    k0_pay3 (F := Ideal) v w (ix2 r l) = ∑ d : Fin 1024, v (ix2 r d) * w (ix2 d l) := by
  unfold k0_pay3
  pointwise

/-- An index of a block, by its two coordinates. -/
theorem two (n : ℕ) (y : (⟨2, ![256, n]⟩ : Shape).Idx) : y = ix2 (show Fin 256 from y 0) (show Fin n from y 1) := by
  funext a
  match a with
  | ⟨0, _⟩ => rfl
  | ⟨1, _⟩ => rfl

/-- A window of 512 columns. -/
theorem piece512 (t : Fin cfg0.N) (o' o : ℕ) (inb : ∀ a, (![0, o'] : Fin 2 → ℕ) a + (![1024, 512] : Fin 2 → ℕ) a ≤ S1024x8704.size a)
    (hh : o' + 512 ≤ 5632 ∧ o = o' ∨ 5632 ≤ o' ∧ o = 8 + o') (y : S256x512.Idx) :
    View.canon (Val := Elt Ideal) (e := .f32) [⟨r0_4, k0_pay1 (vrow m c t) (View.ld (iblk m c 4 t) (Rect.unit (s := S1024x8704) ![0, o'] ![1024, 512] inb))⟩] y
      = proj m c (t.val * 256 + (y 0).val) (o + (y 1).val) := by
  rw [View.canon_unit_zero zero2]
  exact (congrArg _ (two 512 y)).trans (block_at m c t o' o 512 inb hh _ _ _ (pay1_at _ _ _ _))

/-- A window of 1024 columns. -/
theorem piece1024 (t : Fin cfg0.N) (o' o : ℕ) (inb : ∀ a, (![0, o'] : Fin 2 → ℕ) a + (![1024, 1024] : Fin 2 → ℕ) a ≤ S1024x8704.size a)
    (hh : o' + 1024 ≤ 5632 ∧ o = o' ∨ 5632 ≤ o' ∧ o = 8 + o') (y : S256x1024.Idx) :
    View.canon (Val := Elt Ideal) (e := .f32) [⟨r0_0, k0_pay9 (vrow m c t) (View.ld (iblk m c 4 t) (Rect.unit (s := S1024x8704) ![0, o'] ![1024, 1024] inb))⟩] y
      = proj m c (t.val * 256 + (y 0).val) (o + (y 1).val) := by
  rw [View.canon_unit_zero zero2]
  exact (congrArg _ (two 1024 y)).trans (block_at m c t o' o 1024 inb hh _ _ _ (pay9_at _ _ _ _))

/-- The window of the 3072 gate columns. -/
theorem pieceGates (t : Fin cfg0.N) (y : S256x3072.Idx) :
    View.canon (Val := Elt Ideal) (e := .f32) [⟨r0_14, k0_pay2 (vrow m c t) (View.ld (iblk m c 4 t) r0_13)⟩] y
      = proj m c (t.val * 256 + (y 0).val) (5640 + (y 1).val) := by
  rw [View.canon_unit_zero zero2]
  exact (congrArg _ (two 3072 y)).trans (block_at m c t 5632 5640 3072 inb_S1024x8704_S1024x3072_0_5632 (by omega) _ _ _ (pay2_at _ _ _ _))

/-- The window of the eight scalar gates, padded with zeros. -/
theorem pieceIf (t : Fin cfg0.N) (y : S256x128.Idx) :
    out0_16 (iblk m c 0 t) (iblk m c 1 t) (iblk m c 2 t) (iblk m c 3 t) (iblk m c 4 t) (iblk m c 5 t) y
      = if (y 1).val < 8 then proj m c (t.val * 256 + (y 0).val) (5632 + (y 1).val) else 0 := by
  unfold_out out0_16
  rw [View.canon_unit_zero zero2, ld5]
  refine (congrArg _ (two 128 y)).trans ((pay3_at _ _ _ _).trans ?_)
  generalize hr : (show Fin 256 from y 0) = r
  generalize hl : (show Fin 128 from y 1) = l
  have er : (y 0).val = r.val := congrArg Fin.val hr
  have el : (y 1).val = l.val := congrArg Fin.val hl
  rw [er, el]
  have ht := lt_N t
  have e : (⟨t.val * 256 + r.val, by omega⟩ : Fin 32768) = ⟨256 * t.val + r.val, by omega⟩ := Fin.ext (by show t.val * 256 + r.val = 256 * t.val + r.val; omega)
  split
  · next h =>
    rw [proj, projAt, dif_pos ⟨by omega, by omega⟩, e]
    exact Finset.sum_congr rfl fun d _ => congrArg₂ (· * ·) (h_at m c t r d) ((blk5_at m c t d l).trans ((wIf_at _ d l).trans (dif_pos h)))
  · next h =>
    refine (Finset.sum_congr rfl fun d _ => congrArg (_ * ·) ((blk5_at m c t d l).trans ((wIf_at _ d l).trans (dif_neg h)))).trans ?_
    exact Finset.sum_eq_zero fun d _ => mul_zero _

theorem idx7 : ∀ t : Fin cfg0.N, win0_7.index t 0 = t.val ∧ win0_7.index t 1 = 0 := idx6
theorem idx8 : ∀ t : Fin cfg0.N, win0_8.index t 0 = t.val ∧ win0_8.index t 1 = 0 := idx6
theorem idx9 : ∀ t : Fin cfg0.N, win0_9.index t 0 = t.val ∧ win0_9.index t 1 = 0 := idx6
theorem idx10 : ∀ t : Fin cfg0.N, win0_10.index t 0 = t.val ∧ win0_10.index t 1 = 0 := idx6
theorem idx11 : ∀ t : Fin cfg0.N, win0_11.index t 0 = t.val ∧ win0_11.index t 1 = 0 := idx6
theorem idx12 : ∀ t : Fin cfg0.N, win0_12.index t 0 = t.val ∧ win0_12.index t 1 = 0 := idx6
theorem idx13 : ∀ t : Fin cfg0.N, win0_13.index t 0 = t.val ∧ win0_13.index t 1 = 0 := idx6
theorem idx14 : ∀ t : Fin cfg0.N, win0_14.index t 0 = t.val ∧ win0_14.index t 1 = 0 := idx6
theorem idx15 : ∀ t : Fin cfg0.N, win0_15.index t 0 = t.val ∧ win0_15.index t 1 = 0 := idx6
theorem idx16 : ∀ t : Fin cfg0.N, win0_16.index t 0 = t.val ∧ win0_16.index t 1 = 0 := idx6

theorem arr6 : (dats m 0 c).arrAt 6 cfg0.N = fun i => proj m c (i 0).val (i 1).val := by
  refine (dats m 0 c).arrAt_eq_of_covers 6 _ (by decide +kernel) fun t hf y => ?_
  rw [after0_6]
  blk_simp [idx6 t]
  refine (piece512 m c t 0 0 inb_S1024x8704_S1024x512_0_0 (by omega) y).trans ?_
  rw [Nat.zero_add]

theorem arr7 : (dats m 0 c).arrAt 7 cfg0.N = fun i => proj m c (i 0).val (512 + (i 1).val) := by
  refine (dats m 0 c).arrAt_eq_of_covers 7 _ (by decide +kernel) fun t hf y => ?_
  rw [after0_7]
  blk_simp [idx7 t]
  exact piece512 m c t 512 512 inb_S1024x8704_S1024x512_0_512 (by omega) y

theorem arr8 : (dats m 0 c).arrAt 8 cfg0.N = fun i => proj m c (i 0).val (1024 + (i 1).val) := by
  refine (dats m 0 c).arrAt_eq_of_covers 8 _ (by decide +kernel) fun t hf y => ?_
  rw [after0_8]
  blk_simp [idx8 t]
  exact piece512 m c t 1024 1024 inb_S1024x8704_S1024x512_0_1024 (by omega) y

theorem arr9 : (dats m 0 c).arrAt 9 cfg0.N = fun i => proj m c (i 0).val (1536 + (i 1).val) := by
  refine (dats m 0 c).arrAt_eq_of_covers 9 _ (by decide +kernel) fun t hf y => ?_
  rw [after0_9]
  blk_simp [idx9 t]
  exact piece1024 m c t 1536 1536 inb_S1024x8704_S1024x1024_0_1536 (by omega) y

theorem arr10 : (dats m 0 c).arrAt 10 cfg0.N = fun i => proj m c (i 0).val (2560 + (i 1).val) := by
  refine (dats m 0 c).arrAt_eq_of_covers 10 _ (by decide +kernel) fun t hf y => ?_
  rw [after0_10]
  blk_simp [idx10 t]
  exact piece512 m c t 2560 2560 inb_S1024x8704_S1024x512_0_2560 (by omega) y

theorem arr11 : (dats m 0 c).arrAt 11 cfg0.N = fun i => proj m c (i 0).val (3072 + (i 1).val) := by
  refine (dats m 0 c).arrAt_eq_of_covers 11 _ (by decide +kernel) fun t hf y => ?_
  rw [after0_11]
  blk_simp [idx11 t]
  exact piece512 m c t 3072 3072 inb_S1024x8704_S1024x512_0_3072 (by omega) y

theorem arr12 : (dats m 0 c).arrAt 12 cfg0.N = fun i => proj m c (i 0).val (3584 + (i 1).val) := by
  refine (dats m 0 c).arrAt_eq_of_covers 12 _ (by decide +kernel) fun t hf y => ?_
  rw [after0_12]
  blk_simp [idx12 t]
  exact piece1024 m c t 3584 3584 inb_S1024x8704_S1024x1024_0_3584 (by omega) y

theorem arr13 : (dats m 0 c).arrAt 13 cfg0.N = fun i => proj m c (i 0).val (4608 + (i 1).val) := by
  refine (dats m 0 c).arrAt_eq_of_covers 13 _ (by decide +kernel) fun t hf y => ?_
  rw [after0_13]
  blk_simp [idx13 t]
  exact piece512 m c t 4608 4608 inb_S1024x8704_S1024x512_0_4608 (by omega) y

theorem arr14 : (dats m 0 c).arrAt 14 cfg0.N = fun i => proj m c (i 0).val (5120 + (i 1).val) := by
  refine (dats m 0 c).arrAt_eq_of_covers 14 _ (by decide +kernel) fun t hf y => ?_
  rw [after0_14]
  blk_simp [idx14 t]
  exact piece512 m c t 5120 5120 inb_S1024x8704_S1024x512_0_5120 (by omega) y

theorem arr15 : (dats m 0 c).arrAt 15 cfg0.N = fun i => proj m c (i 0).val (5640 + (i 1).val) := by
  refine (dats m 0 c).arrAt_eq_of_covers 15 _ (by decide +kernel) fun t hf y => ?_
  rw [after0_15]
  blk_simp [idx15 t]
  exact pieceGates m c t y

theorem arr16 : (dats m 0 c).arrAt 16 cfg0.N = fun i => if (i 1).val < 8 then proj m c (i 0).val (5632 + (i 1).val) else 0 := by
  refine (dats m 0 c).arrAt_eq_of_covers 16 _ (by decide +kernel) fun t hf y => ?_
  rw [after0_16]
  blk_simp [idx16 t]
  exact pieceIf m c t y

end Cert.Proof.Proj

end
-- ==== Proof.ProjRef.lean ====
/-
  The input projection's reference, index by index.
-/
module

public import proofs.«01_k».proof.Proof.Gen.Reference2Ideal.Run
public import proofs.«01_k».proof.Proof.Proj

@[expose] public section

set_option maxRecDepth 16384

noncomputable section

namespace Cert.Proof.Proj
open Cert.Reference2Ideal Cert.Reference2Ideal.Gen
open Idealize.ShloMosaic Idealize.ShloMosaic.TcCoe Idealize.ShloMosaic.Tactic

variable (x : FVec Ideal S32768x1024 .f32) (g : FVec Ideal S1024 .f32) (sh sc : FVec Ideal S8x1x1024 .f32) (w : FVec Ideal S1024x8712 .f32)

/-- The normed and modulated input. -/
def refH : FVec Ideal S8x4096x1024 .f32 :=
  addf (mulf (mulf (mulf (shapeCast _ x shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ x shapeCasts_S32768x1024_S8x4096x1024) (shapeCast _ x shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- The whole projection. -/
def refY : FVec Ideal S32768x8712 .f32 :=
  shapeCast _ (Host.dotGeneral (φ₁ := .f32) dot_S8x4096x1024_S1024x8712_S8x4096x8712_2_0_01_1_n_n none (refH x g sh sc) w) shapeCasts_S8x4096x8712_S32768x8712

theorem refH_at (b : Fin 8) (t : Fin 4096) (d : Fin 1024) (i : Fin 32768) (hb : b.val = i.val / 4096) (ht : t.val = i.val % 4096) :
    refH x g sh sc (ix3 b t d) = hidAt x g sh sc i d := by
  unfold refH hidAt hid
  pointwise
  have e : (⟨b.val * 4096 + t.val, by omega⟩ : Fin 32768) = i := Fin.ext (by show b.val * 4096 + t.val = i.val; omega)
  have eb : (⟨i.val / 4096, by omega⟩ : Fin 8) = b := Fin.ext hb.symm
  simp only [e, eb]

theorem refY_at (i : Fin 32768) (j : Fin 8712) : refY x g sh sc w (ix2 i j) = projAt x g sh sc w i.val j.val := by
  rw [projAt, dif_pos ⟨i.isLt, j.isLt⟩]
  unfold refY
  pointwise
  refine Finset.sum_congr rfl fun d _ => ?_
  rw [refH_at x g sh sc _ _ d i rfl rfl]

/-- A range of columns. -/
theorem slice_at (o n : ℕ) (hs : S32768x8712.Slices ![0, o] ⟨2, ![32768, n]⟩) (ho : o + n ≤ 8712) :
    extractStridedSlice ⟨2, ![32768, n]⟩ ![0, o] (refY x g sh sc w) hs = fun i => projAt x g sh sc w (i 0).val (o + (i 1).val) := by
  funext y
  obtain ⟨i, l, rfl⟩ : ∃ i l, y = ix2 i l := ⟨y 0, y 1, by funext a; fin_cases a <;> rfl⟩
  have hl := l.isLt
  refine Eq.trans ?_ (refY_at x g sh sc w i ⟨o + l.val, by omega⟩)
  refine congrArg (refY x g sh sc w) (funext fun a => Fin.ext ?_)
  match a with
  | ⟨0, _⟩ => show 0 + i.val = i.val; omega
  | ⟨1, _⟩ => rfl

/-- The eight scalar gates' columns, padded with zeros. -/
theorem gates_at : (concatenate S32768x128 1 [⟨S32768x4, ((extractStridedSlice S32768x4 ![0, 5632] (refY x g sh sc w) slices_S32768x8712_S32768x4_0_5632) : (⟨S32768x4, .f32⟩ : BufTy).Contents (Elt Ideal))⟩,
      ⟨S32768x4, ((extractStridedSlice S32768x4 ![0, 5636] (refY x g sh sc w) slices_S32768x8712_S32768x4_0_5636) : (⟨S32768x4, .f32⟩ : BufTy).Contents (Elt Ideal))⟩,
      ⟨S32768x120, ((broadcastInDim S32768x120 ![] bcast_S_S32768x120 (constant (F := Ideal) S_ .f32 0x00000000#32)) : (⟨S32768x120, .f32⟩ : BufTy).Contents (Elt Ideal))⟩]
      concatenates_S32768x4_S32768x4_S32768x120_S32768x128_d1 : (⟨S32768x128, .f32⟩ : BufTy).Contents (Elt Ideal))
    = fun i => if (i 1).val < 8 then projAt x g sh sc w (i 0).val (5632 + (i 1).val) else 0 := by
  rw [slice_at x g sh sc w 5632 4 slices_S32768x8712_S32768x4_0_5632 (by omega), slice_at x g sh sc w 5636 4 slices_S32768x8712_S32768x4_0_5636 (by omega)]
  funext y
  obtain ⟨i, l, rfl⟩ : ∃ i l, y = ix2 i l := ⟨y 0, y 1, by funext a; fin_cases a <;> rfl⟩
  show _ = if l.val < 8 then projAt x g sh sc w i.val (5632 + l.val) else 0
  pointwise
  by_cases h4 : l.val < 4
  · rw [if_pos (by omega)]
    exact dif_pos h4
  · refine (dif_neg h4).trans ?_
    by_cases h8 : l.val < 8
    · rw [if_pos h8]
      refine (dif_pos (by omega)).trans (congrArg _ (by omega))
    · rw [if_neg h8]
      exact dif_neg (by omega)

end Cert.Proof.Proj

end
-- ==== Proof.ProjAlg.lean ====
/-
  The input projection: the kernel's results are the reference's.
-/
module

public import proofs.«01_k».proof.Defs
public import proofs.«01_k».proof.Proof.ProjRef

@[expose] public section

set_option maxRecDepth 16384

noncomputable section

namespace Cert.Proof.Proj
open Idealize.ShloMosaic Idealize.SL.Sem

theorem algebraic : Cert.algebraic_Kernel2Ideal_Reference2Ideal := by
  intro m g m' g' _ hm
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    Cert.Kernel2Ideal.Value.run_blocks m g,
    (θ_run Cert.Reference2Ideal.defs _ _).mono (fun r h c => ?_) (Cert.Reference2Ideal.Value.run m' g')⟩
  · obtain ⟨h0, h1, h2, h3, h4, h5, h6, h7, h8, h9, h10, ha⟩ := h c
    have key : ∀ i j, projAt (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4)) i j = proj m c i j := by
      intro i j
      rw [(hm c).1, (hm c).2.1, (hm c).2.2.1, (hm c).2.2.2.1, (hm c).2.2.2.2]
    have sl := fun o n hs ho => (slice_at (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4)) o n hs ho).trans
          (funext fun i => key (i 0).val (o + (i 1).val))
    refine ⟨h0.trans (((sl 0 512 _ (by omega)).trans (funext fun i => congrArg (proj m c _) (Nat.zero_add _))).trans (arr6 m c).symm),
      h1.trans ((sl 512 512 _ (by omega)).trans (arr7 m c).symm), h2.trans ((sl 1024 512 _ (by omega)).trans (arr8 m c).symm),
      h3.trans ((sl 1536 1024 _ (by omega)).trans (arr9 m c).symm), h4.trans ((sl 2560 512 _ (by omega)).trans (arr10 m c).symm),
      h5.trans ((sl 3072 512 _ (by omega)).trans (arr11 m c).symm), h6.trans ((sl 3584 1024 _ (by omega)).trans (arr12 m c).symm),
      h7.trans ((sl 4608 512 _ (by omega)).trans (arr13 m c).symm), h8.trans ((sl 5120 512 _ (by omega)).trans (arr14 m c).symm),
      h9.trans ((sl 5640 3072 _ (by omega)).trans (arr15 m c).symm),
      h10.trans (((gates_at _ _ _ _ _).trans (funext fun i => ?_)).trans (arr16 m c).symm), ha⟩
    show (if (i 1).val < 8 then _ else 0) = if (i 1).val < 8 then _ else 0
    rw [key]

theorem frame_reference : Cert.quiescent_Reference2Ideal := by
  intro m g _
  exact (θ_run Cert.Reference2Ideal.defs _ _).mono
    (fun r h => ⟨fun c => (h c).2.2.2.2.2.2.2.2.2.2.2, sem_eq_zero_of_no_sems (by decide) r.2⟩) (Cert.Reference2Ideal.Value.run m g)

end Cert.Proof.Proj

end
-- ==== Proof.Merge.lean ====
/-
  The merge's result array, index by index: gated branch projections, merged, projected and added to the input.
-/
module

public import proofs.«01_k».proof.Proof.Gen.Kernel3Ideal.Value
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.Merge
open Cert.Kernel3Ideal Cert.Kernel3Ideal.Gen
open Idealize.ShloMosaic Idealize.ShloMosaic.TcCoe Idealize.ShloMosaic.Tactic

/-- The sigmoid. -/
def sg (x : EReal) : EReal := Ideal.div 1 (1 + Ideal.exp (-x))

/-- One head's lanes, divided by their root mean square. -/
def nrm (x : Fin 128 → EReal) (k : Fin 128) : EReal :=
  x k * Ideal.rsqrt (Ideal.div (∑ j : Fin 128, x j * x j) (Ideal.ofBits .f32 0x43000000#32) + Ideal.ofBits .f32 0x358637BD#32)

/-- The 128 lanes of head `h` of a row of `N`. -/
def head {N : ℕ} (x : Fin N → EReal) (h : ℕ) (k : Fin 128) : EReal :=
  if hk : 128 * h + k.val < N then x ⟨128 * h + k.val, hk⟩ else 0

/-- The differential branch's row: each head normed, times the gain and the layer's constant. -/
def dfRow (x : Fin 1024 → EReal) (g : Fin 128 → EReal) (l : Fin 1024) : EReal :=
  nrm (head x (l.val / 128)) ⟨l.val % 128, by omega⟩ * (g ⟨l.val % 128, by omega⟩ * Ideal.ofBits .f32 0x3F4CCCCD#32)

/-- The matrix memory's row: each head normed, times the gain and the sigmoid of the output gate. -/
def mlRow (x o g : Fin 512 → EReal) (l : Fin 512) : EReal :=
  nrm (head x (l.val / 128)) ⟨l.val % 128, by omega⟩ * g l * sg (o l)

/-- The merged row before its projection. -/
def mixRow (sb df ml : Fin 1024 → EReal) (gt : Fin 3072 → EReal) (k : Fin 1024) : EReal :=
  sg (gt ⟨k.val, by omega⟩) * sb k + sg (gt ⟨1024 + k.val, by omega⟩) * df k + sg (gt ⟨2048 + k.val, by omega⟩) * ml k

/-- The merge's row: the input plus the modulated projection of the merged branches. -/
def mergeRow (x ga : Fin 1024 → EReal) (sb : Fin 512 → EReal) (df : Fin 1024 → EReal) (mh mo : Fin 512 → EReal) (gt : Fin 3072 → EReal)
    (gd : Fin 128 → EReal) (gm : Fin 512 → EReal) (wsb : Fin 512 → Fin 1024 → EReal) (wdf : Fin 1024 → Fin 1024 → EReal)
    (wml : Fin 512 → Fin 1024 → EReal) (wo : Fin 1024 → Fin 1024 → EReal) (l : Fin 1024) : EReal :=
  x l + ga l * ∑ k : Fin 1024, mixRow (fun k => ∑ d : Fin 512, sb d * wsb d k) (fun k => ∑ d : Fin 1024, dfRow df gd d * wdf d k)
    (fun k => ∑ d : Fin 512, mlRow mh mo gm d * wml d k) gt k * wo k l

theorem pay3_at (g : Vec Ideal S1x128 .f32) (k : Fin 128) :
    k0_pay3 (F := Ideal) g (ix2 0 k) = g (ix2 0 k) * Ideal.ofBits .f32 0x3F4CCCCD#32 := by
  unfold k0_pay3
  pointwise

theorem pay8_at (g : FVec Ideal S1x128 .f32) (x : Vec Ideal S256x128 .f32) (r : Fin 256) (k : Fin 128) :
    k0_pay8 (F := Ideal) g x (ix2 r k) = nrm (fun j => x (ix2 r j)) k * g (ix2 0 k) := by
  unfold k0_pay8 nrm
  pointwise

theorem pay12_at (x : Vec Ideal S256x128 .f32) (g : Vec Ideal S1x128 .f32) (o : Vec Ideal S256x128 .f32) (r : Fin 256) (k : Fin 128) :
    k0_pay12 (F := Ideal) x g o (ix2 r k) = nrm (fun j => x (ix2 r j)) k * g (ix2 0 k) * sg (o (ix2 r k)) := by
  unfold k0_pay12 nrm sg
  pointwise
  simp only [zero_sub]

theorem pay2_at (x : Vec Ideal S256x512 .f32) (w : Vec Ideal S512x1024 .bf16) (r : Fin 256) (l : Fin 1024) :
    k0_pay2 (F := Ideal) x w (ix2 r l) = ∑ d : Fin 512, x (ix2 r d) * w (ix2 d l) := by
  unfold k0_pay2
  pointwise

theorem pay19_at (v g : FVec Ideal S256x1024 .f32) (r : Fin 256) (l : Fin 1024) :
    k0_pay19 (F := Ideal) v g (ix2 r l) = sg (g (ix2 r l)) * v (ix2 r l) := by
  unfold k0_pay19 sg
  pointwise
  simp only [zero_sub]

theorem pay1_at (ml sb df : FVec Ideal S256x1024 .f32) (g : Vec Ideal S256x1024 .f32) (w : Vec Ideal S1024x1024 .bf16) (x : Vec Ideal S256x1024 .f32)
    (ga : Vec Ideal S1x1x1024 .f32) (r : Fin 256) (l : Fin 1024) :
    k0_pay1 (F := Ideal) ml sb df g w x ga (ix2 r l)
      = x (ix2 r l) + ga (ix3 0 0 l) * ∑ k : Fin 1024, (sb (ix2 r k) + df (ix2 r k) + sg (g (ix2 r k)) * ml (ix2 r k)) * w (ix2 k l) := by
  unfold k0_pay1 sg
  pointwise
  simp only [zero_sub]

/-- The differential branch's eight heads side by side. -/
def dfCat (g : FVec Ideal S1x128 .f32) (x : Fin 8 → Vec Ideal S256x128 .f32) : FVec Ideal S256x1024 .bf16 :=
  concatenate S256x1024 1 [⟨S256x128, k0_pay8 g (x 0)⟩, ⟨S256x128, k0_pay8 g (x 1)⟩, ⟨S256x128, k0_pay8 g (x 2)⟩, ⟨S256x128, k0_pay8 g (x 3)⟩,
    ⟨S256x128, k0_pay8 g (x 4)⟩, ⟨S256x128, k0_pay8 g (x 5)⟩, ⟨S256x128, k0_pay8 g (x 6)⟩, ⟨S256x128, k0_pay8 g (x 7)⟩]
    concatenates_S256x128_S256x128_S256x128_S256x128_S256x128_S256x128_S256x128_S256x128_S256x1024_d1

/-- The matrix memory's four heads side by side. -/
def mlCat (x o : Fin 4 → Vec Ideal S256x128 .f32) (g : Fin 4 → Vec Ideal S1x128 .f32) : FVec Ideal S256x512 .bf16 :=
  concatenate S256x512 1 [⟨S256x128, k0_pay12 (x 0) (g 0) (o 0)⟩, ⟨S256x128, k0_pay12 (x 1) (g 1) (o 1)⟩, ⟨S256x128, k0_pay12 (x 2) (g 2) (o 2)⟩,
    ⟨S256x128, k0_pay12 (x 3) (g 3) (o 3)⟩] concatenates_S256x128_S256x128_S256x128_S256x128_S256x512_d1

theorem dfCat_at (g : FVec Ideal S1x128 .f32) (x : Fin 8 → Vec Ideal S256x128 .f32) (r : Fin 256) (l : Fin 1024) :
    dfCat g x (ix2 r l) = k0_pay8 (F := Ideal) g (x ⟨l.val / 128, by omega⟩) (ix2 r ⟨l.val % 128, by omega⟩) := by
  have key : ∀ (n : Fin 8) (k : Fin 128), l.val = 128 * n.val + k.val →
      k0_pay8 (F := Ideal) g (x n) (ix2 r k) = k0_pay8 (F := Ideal) g (x ⟨l.val / 128, by omega⟩) (ix2 r ⟨l.val % 128, by omega⟩) := by
    intro n k h
    have e1 : n = ⟨l.val / 128, by omega⟩ := Fin.ext (by show n.val = l.val / 128; omega)
    have e2 : k = ⟨l.val % 128, by omega⟩ := Fin.ext (by show k.val = l.val % 128; omega)
    rw [← e1, ← e2]
  unfold dfCat
  pointwise
  split_ifs <;> exact key _ _ (by simp <;> omega)

theorem mlCat_at (x o : Fin 4 → Vec Ideal S256x128 .f32) (g : Fin 4 → Vec Ideal S1x128 .f32) (r : Fin 256) (l : Fin 512) :
    mlCat x o g (ix2 r l) = k0_pay12 (F := Ideal) (x ⟨l.val / 128, by omega⟩) (g ⟨l.val / 128, by omega⟩) (o ⟨l.val / 128, by omega⟩)
      (ix2 r ⟨l.val % 128, by omega⟩) := by
  have key : ∀ (n : Fin 4) (k : Fin 128), l.val = 128 * n.val + k.val → k0_pay12 (F := Ideal) (x n) (g n) (o n) (ix2 r k)
      = k0_pay12 (F := Ideal) (x ⟨l.val / 128, by omega⟩) (g ⟨l.val / 128, by omega⟩) (o ⟨l.val / 128, by omega⟩) (ix2 r ⟨l.val % 128, by omega⟩) := by
    intro n k h
    have e1 : n = ⟨l.val / 128, by omega⟩ := Fin.ext (by show n.val = l.val / 128; omega)
    have e2 : k = ⟨l.val % 128, by omega⟩ := Fin.ext (by show k.val = l.val % 128; omega)
    rw [← e1, ← e2]
  unfold mlCat
  pointwise
  split_ifs <;> exact key _ _ (by simp <;> omega)

theorem pay11_eq (g : Vec Ideal S1x128 .f32) (x : Fin 8 → Vec Ideal S256x128 .f32) (w : Vec Ideal S1024x1024 .bf16) :
    k0_pay11 (F := Ideal) (k0_pay3 g) (k0_pay4 g (x 0)) (k0_pay5 g (x 1)) (k0_pay7 (k0_pay3 g) (x 2) (k0_pay6 (x 2))) (k0_pay8 (k0_pay3 g) (x 3))
        (k0_pay9 (k0_pay3 g) (x 4)) (x 5) (k0_pay10 (x 5)) (x 6) (x 7) w
      = matmul (F := Ideal) (φ₂ := .bf16) dot_S256x1024_S1024x1024_S256x1024_1_0_0_1_n_n none (dfCat (k0_pay3 g) x)
          (shapeCast S1024x1024 w shapeCasts_S1024x1024_S1024x1024) (constant S256x1024 .f32 0x00000000#32) := rfl

theorem pay18_eq (x o : Fin 4 → Vec Ideal S256x128 .f32) (g : Fin 4 → Vec Ideal S1x128 .f32) (w : Vec Ideal S512x1024 .bf16) :
    k0_pay18 (F := Ideal) (k0_pay12 (x 0) (g 0) (o 0)) (k0_pay14 (k0_pay13 (x 1) (g 1)) (o 1) (Scalar.ofBits .f32 0x00000000#32)) (k0_pay15 (x 2) (g 2) (o 2))
        (x 3) (k0_pay16 (x 3)) (k0_pay17 (F := Ideal)) (g 3) (o 3) w
      = matmul (F := Ideal) (φ₂ := .bf16) dot_S256x512_S512x1024_S256x1024_1_0_0_1_n_n none (mlCat x o g)
          (shapeCast S512x1024 w shapeCasts_S512x1024_S512x1024) (constant S256x1024 .f32 0x00000000#32) := rfl

theorem mm1024_at (v : FVec Ideal S256x1024 .bf16) (w : FVec Ideal S1024x1024 .bf16) (r : Fin 256) (l : Fin 1024) :
    matmul (F := Ideal) (φ₂ := .bf16) dot_S256x1024_S1024x1024_S256x1024_1_0_0_1_n_n none v (shapeCast S1024x1024 w shapeCasts_S1024x1024_S1024x1024)
      (constant (F := Ideal) S256x1024 .f32 0x00000000#32) (ix2 r l) = ∑ d : Fin 1024, v (ix2 r d) * w (ix2 d l) := by
  pointwise
theorem mm512_at (v : FVec Ideal S256x512 .bf16) (w : FVec Ideal S512x1024 .bf16) (r : Fin 256) (l : Fin 1024) :
    matmul (F := Ideal) (φ₂ := .bf16) dot_S256x512_S512x1024_S256x1024_1_0_0_1_n_n none v (shapeCast S512x1024 w shapeCasts_S512x1024_S512x1024)
      (constant (F := Ideal) S256x1024 .f32 0x00000000#32) (ix2 r l) = ∑ d : Fin 512, v (ix2 r d) * w (ix2 d l) := by
  pointwise

/-- A load of a range of columns, at an index. -/
theorem ld_at {φ : EltTy} {a b : ℕ} (X : Vec Ideal ⟨2, ![a, b]⟩ φ) (o n : ℕ) (inb : ∀ i, (![0, o] : Fin 2 → ℕ) i + (![a, n] : Fin 2 → ℕ) i ≤ (⟨2, ![a, b]⟩ : Shape).size i)
    (r : Fin a) (l : Fin n) (h : o + l.val < b) :
    View.ld X (Rect.unit (s := ⟨2, ![a, b]⟩) ![0, o] ![a, n] inb) (ix2 r l) = X (ix2 r ⟨o + l.val, h⟩) := by
  refine congrArg X (funext fun i => Fin.ext ?_)
  match i with
  | ⟨0, _⟩ => show 0 + 1 * r.val = r.val; omega
  | ⟨1, _⟩ => show o + 1 * l.val = o + l.val; omega

theorem zero2 : (![0, 0] : Fin 2 → ℕ) = fun _ => 0 := by
  funext a; fin_cases a <;> rfl
theorem zero3 : (![0, 0, 0] : Fin 3 → ℕ) = fun _ => 0 := by
  funext a; fin_cases a <;> rfl

theorem inb8 (q : Fin 8) : ∀ a, (![0, 128 * q.val] : Fin 2 → ℕ) a + (![256, 128] : Fin 2 → ℕ) a ≤ S256x1024.size a := by
  intro a
  match a with
  | ⟨0, _⟩ => show 0 + 256 ≤ 256; omega
  | ⟨1, _⟩ => show 128 * q.val + 128 ≤ 1024; omega
theorem inb4 (n : ℕ) (q : Fin 4) : ∀ a, (![0, 128 * q.val] : Fin 2 → ℕ) a + (![n, 128] : Fin 2 → ℕ) a ≤ (⟨2, ![n, 512]⟩ : Shape).size a := by
  intro a
  match a with
  | ⟨0, _⟩ => show 0 + n ≤ n; omega
  | ⟨1, _⟩ => show 128 * q.val + 128 ≤ 512; omega

/-- Head `q`'s lanes of the differential branch's block. -/
def hd8 (x : Vec Ideal S256x1024 .f32) (q : Fin 8) : Vec Ideal S256x128 .f32 := View.ld x (Rect.unit (s := S256x1024) ![0, 128 * q.val] ![256, 128] (inb8 q))
/-- Head `q`'s lanes of a block of the matrix memory. -/
def hd4 (n : ℕ) (x : Vec Ideal ⟨2, ![n, 512]⟩ .f32) (q : Fin 4) : Vec Ideal ⟨2, ![n, 128]⟩ .f32 :=
  View.ld x (Rect.unit (s := ⟨2, ![n, 512]⟩) ![0, 128 * q.val] ![n, 128] (inb4 n q))

theorem hd8_at (x : Vec Ideal S256x1024 .f32) (q : Fin 8) (r : Fin 256) (j : Fin 128) :
    hd8 x q (ix2 r j) = head (fun k => x (ix2 r k)) q.val j :=
  (ld_at x _ 128 (inb8 q) r j (by omega)).trans (by rw [head, dif_pos (by omega)])
theorem hd4_at (n : ℕ) (x : Vec Ideal ⟨2, ![n, 512]⟩ .f32) (q : Fin 4) (r : Fin n) (j : Fin 128) :
    hd4 n x q (ix2 r j) = head (fun k => x (ix2 r k)) q.val j :=
  (ld_at x _ 128 (inb4 n q) r j (by omega)).trans (by rw [head, dif_pos (by omega)])

theorem head_self (x : Fin 512 → EReal) (l : Fin 512) : head x (l.val / 128) ⟨l.val % 128, by omega⟩ = x l :=
  (dif_pos (by dsimp only; omega)).trans (congrArg x (Fin.ext (by dsimp only; omega)))

theorem dfHead_at (g : Vec Ideal S1x128 .f32) (x : Vec Ideal S256x1024 .f32) (r : Fin 256) (l : Fin 1024) :
    dfCat (k0_pay3 g) (hd8 x) (ix2 r l) = dfRow (fun k => x (ix2 r k)) (fun k => g (ix2 0 k)) l := by
  rw [dfCat_at, pay8_at, pay3_at]
  simp only [hd8_at]
  rfl

theorem mlHead_at (g : Vec Ideal S1x512 .f32) (x o : Vec Ideal S256x512 .f32) (r : Fin 256) (l : Fin 512) :
    mlCat (hd4 256 x) (hd4 256 o) (hd4 1 g) (ix2 r l) = mlRow (fun k => x (ix2 r k)) (fun k => o (ix2 r k)) (fun k => g (ix2 0 k)) l := by
  rw [mlCat_at, pay12_at, hd4_at 1 g, hd4_at 256 o]
  simp only [hd4_at 256 x, head_self]
  rfl

/-- The merge's block, at an index. -/
theorem out_at (x0 : Vec Ideal S256x1024 .f32) (x1 : Vec Ideal S1x1x1024 .f32) (x2 : Vec Ideal S256x512 .f32) (x3 : Vec Ideal S256x1024 .f32)
    (x4 x5 : Vec Ideal S256x512 .f32) (x6 : Vec Ideal S256x3072 .f32) (x7 : Vec Ideal S1x128 .f32) (x8 : Vec Ideal S1x512 .f32) (x9 : Vec Ideal S512x1024 .bf16)
    (x10 : Vec Ideal S1024x1024 .bf16) (x11 : Vec Ideal S512x1024 .bf16) (x12 : Vec Ideal S1024x1024 .bf16) (r : Fin 256) (l : Fin 1024) :
    out0_13 (F := Ideal) x0 x1 x2 x3 x4 x5 x6 x7 x8 x9 x10 x11 x12 (ix2 r l)
      = mergeRow (fun k => x0 (ix2 r k)) (fun k => x1 (ix3 0 0 k)) (fun k => x2 (ix2 r k)) (fun k => x3 (ix2 r k)) (fun k => x4 (ix2 r k)) (fun k => x5 (ix2 r k))
          (fun k => x6 (ix2 r k)) (fun k => x7 (ix2 0 k)) (fun k => x8 (ix2 0 k)) (fun d k => x9 (ix2 d k)) (fun d k => x10 (ix2 d k))
          (fun d k => x11 (ix2 d k)) (fun d k => x12 (ix2 d k)) l := by
  unfold_out out0_13
  rw [View.canon_unit_zero zero2]
  have e0 : View.ld x0 r0_23 = x0 := View.ld_unit_zero zero2 _ _
  have e1 : View.ld x1 r0_24 = x1 := View.ld_unit_zero zero3 _ _
  have e2 : View.ld x2 r0_0 = x2 := View.ld_unit_zero zero2 _ _
  have e7 : View.ld x7 r0_2 = x7 := View.ld_unit_zero zero2 _ _
  have e9 : View.ld x9 r0_1 = x9 := View.ld_unit_zero zero2 _ _
  have e10 : View.ld x10 r0_11 = x10 := View.ld_unit_zero zero2 _ _
  have e11 : View.ld x11 r0_1 = x11 := View.ld_unit_zero zero2 _ _
  have e12 : View.ld x12 r0_11 = x12 := View.ld_unit_zero zero2 _ _
  rw [e0, e1, e2, e7, e9, e10, e11, e12]
  have g0 : ∀ k : Fin 1024, View.ld x6 r0_20 (ix2 r k) = x6 (ix2 r ⟨k.val, by omega⟩) := fun k =>
    (ld_at x6 0 1024 inb_S256x3072_S256x1024_0_0 r k (by omega)).trans (congrArg x6 (congrArg (ix2 r) (Fin.ext (Nat.zero_add _))))
  have g1 : ∀ k : Fin 1024, View.ld x6 r0_21 (ix2 r k) = x6 (ix2 r ⟨1024 + k.val, by omega⟩) := fun k =>
    ld_at x6 1024 1024 inb_S256x3072_S256x1024_0_1024 r k (by omega)
  have g2 : ∀ k : Fin 1024, View.ld x6 r0_22 (ix2 r k) = x6 (ix2 r ⟨2048 + k.val, by omega⟩) := fun k =>
    ld_at x6 2048 1024 inb_S256x3072_S256x1024_0_2048 r k (by omega)
  have hdf := fun k => (congrFun (pay11_eq x7 (hd8 x3) x10) (ix2 r k)).trans ((mm1024_at _ _ r k).trans
    (Finset.sum_congr rfl fun d _ => congrArg (· * _) (dfHead_at x7 x3 r d)))
  have hml := fun k => (congrFun (pay18_eq (hd4 256 x4) (hd4 256 x5) (hd4 1 x8) x11) (ix2 r k)).trans ((mm512_at _ _ r k).trans
    (Finset.sum_congr rfl fun d _ => congrArg (· * _) (mlHead_at x8 x4 x5 r d)))
  refine (pay1_at _ _ _ _ _ _ _ r l).trans (congrArg (x0 (ix2 r l) + x1 (ix3 0 0 l) * ·) (Finset.sum_congr rfl fun k _ => congrArg (· * _) ?_))
  refine congrArg₂ (· + ·) (congrArg₂ (· + ·) ?_ ?_) (congrArg₂ (· * ·) (congrArg sg (g2 k)) (hml k))
  · exact (pay19_at _ _ r k).trans (congrArg₂ (· * ·) (congrArg sg (g0 k)) (pay2_at _ _ r k))
  · exact (pay19_at _ _ r k).trans (congrArg₂ (· * ·) (congrArg sg (g1 k)) (hdf k))

variable (m : (ℓ : Loc nD τ sig) → Buf (Elt Ideal) ℓ) (c : Dev nD)

theorem V_v0 : V m c main_v0 = truncf (F := Ideal) (φ := .f32) .bf16 (m ((c : Thread nD τ).loc main_arg9) : FVec Ideal S512x1024 .f32) bitsLt_bf16_f32 := by
  unfold V
  simp only [hostOps0, List.flatten_cons, List.flatten_nil, List.append_nil, List.cons_append, List.nil_append]
  after_results_simp

theorem V_v1 : V m c main_v1 = truncf (F := Ideal) (φ := .f32) .bf16 (m ((c : Thread nD τ).loc main_arg10) : FVec Ideal S1024x1024 .f32) bitsLt_bf16_f32 := by
  unfold V
  simp only [hostOps0, List.flatten_cons, List.flatten_nil, List.append_nil, List.cons_append, List.nil_append]
  after_results_simp

theorem V_v2 : V m c main_v2 = truncf (F := Ideal) (φ := .f32) .bf16 (m ((c : Thread nD τ).loc main_arg11) : FVec Ideal S512x1024 .f32) bitsLt_bf16_f32 := by
  unfold V
  simp only [hostOps0, List.flatten_cons, List.flatten_nil, List.append_nil, List.cons_append, List.nil_append]
  after_results_simp

theorem V_v3 : V m c main_v3 = truncf (F := Ideal) (φ := .f32) .bf16 (m ((c : Thread nD τ).loc main_arg12) : FVec Ideal S1024x1024 .f32) bitsLt_bf16_f32 := by
  unfold V
  simp only [hostOps0, List.flatten_cons, List.flatten_nil, List.append_nil, List.cons_append, List.nil_append]
  after_results_simp

theorem V_v4 : V m c main_v4 = shapeCast S1x128 (m ((c : Thread nD τ).loc main_arg7) : Vec Ideal S128 .f32) shapeCasts_S128_S1x128 := by
  unfold V
  simp only [hostOps0, List.flatten_cons, List.flatten_nil, List.append_nil, List.cons_append, List.nil_append]
  after_results_simp
  rfl

theorem V_v5 : V m c main_v5 = shapeCast S1x512 (m ((c : Thread nD τ).loc main_arg8) : Vec Ideal S4x128 .f32) shapeCasts_S4x128_S1x512 := by
  unfold V
  simp only [hostOps0, List.flatten_cons, List.flatten_nil, List.append_nil, List.cons_append, List.nil_append]
  after_results_simp
  rfl

theorem lt_N (t : Fin cfg0.N) : t.val < 128 := t.isLt

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx2 : ∀ t : Fin cfg0.N, win0_2.index t 0 = t.val ∧ win0_2.index t 1 = 0 := idx0
theorem idx3 : ∀ t : Fin cfg0.N, win0_3.index t 0 = t.val ∧ win0_3.index t 1 = 0 := idx0
theorem idx4 : ∀ t : Fin cfg0.N, win0_4.index t 0 = t.val ∧ win0_4.index t 1 = 0 := idx0
theorem idx5 : ∀ t : Fin cfg0.N, win0_5.index t 0 = t.val ∧ win0_5.index t 1 = 0 := idx0
theorem idx6 : ∀ t : Fin cfg0.N, win0_6.index t 0 = t.val ∧ win0_6.index t 1 = 0 := idx0
theorem idx13 : ∀ t : Fin cfg0.N, win0_13.index t 0 = t.val ∧ win0_13.index t 1 = 0 := idx0
theorem idx8 : ∀ t : Fin cfg0.N, win0_8.index t 0 = 0 ∧ win0_8.index t 1 = 0 := idx7
theorem idx9 : ∀ t : Fin cfg0.N, win0_9.index t 0 = 0 ∧ win0_9.index t 1 = 0 := idx7
theorem idx10 : ∀ t : Fin cfg0.N, win0_10.index t 0 = 0 ∧ win0_10.index t 1 = 0 := idx7
theorem idx11 : ∀ t : Fin cfg0.N, win0_11.index t 0 = 0 ∧ win0_11.index t 1 = 0 := idx7
theorem idx12 : ∀ t : Fin cfg0.N, win0_12.index t 0 = 0 ∧ win0_12.index t 1 = 0 := idx7

theorem blk0_at (t : Fin cfg0.N) (r : Fin 256) (k : Fin 1024) :
    iblk m c 0 t (ix2 r k) = m ((c : Thread nD τ).loc main_arg0) (ix2 (⟨256 * t.val + r.val, by have := lt_N t; omega⟩ : Fin 32768) k) := by
  blk_ext! [iblk, V, V_main_arg0, idx0 t]
theorem blk2_at (t : Fin cfg0.N) (r : Fin 256) (k : Fin 512) :
    iblk m c 2 t (ix2 r k) = m ((c : Thread nD τ).loc main_arg2) (ix2 (⟨256 * t.val + r.val, by have := lt_N t; omega⟩ : Fin 32768) k) := by
  blk_ext! [iblk, V, V_main_arg2, idx2 t]
theorem blk3_at (t : Fin cfg0.N) (r : Fin 256) (k : Fin 1024) :
    iblk m c 3 t (ix2 r k) = m ((c : Thread nD τ).loc main_arg3) (ix2 (⟨256 * t.val + r.val, by have := lt_N t; omega⟩ : Fin 32768) k) := by
  blk_ext! [iblk, V, V_main_arg3, idx3 t]
theorem blk4_at (t : Fin cfg0.N) (r : Fin 256) (k : Fin 512) :
    iblk m c 4 t (ix2 r k) = m ((c : Thread nD τ).loc main_arg4) (ix2 (⟨256 * t.val + r.val, by have := lt_N t; omega⟩ : Fin 32768) k) := by
  blk_ext! [iblk, V, V_main_arg4, idx4 t]
theorem blk5_at (t : Fin cfg0.N) (r : Fin 256) (k : Fin 512) :
    iblk m c 5 t (ix2 r k) = m ((c : Thread nD τ).loc main_arg5) (ix2 (⟨256 * t.val + r.val, by have := lt_N t; omega⟩ : Fin 32768) k) := by
  blk_ext! [iblk, V, V_main_arg5, idx5 t]
theorem blk6_at (t : Fin cfg0.N) (r : Fin 256) (k : Fin 3072) :
    iblk m c 6 t (ix2 r k) = m ((c : Thread nD τ).loc main_arg6) (ix2 (⟨256 * t.val + r.val, by have := lt_N t; omega⟩ : Fin 32768) k) := by
  blk_ext! [iblk, V, V_main_arg6, idx6 t]
theorem blk1_at (t : Fin cfg0.N) (k : Fin 1024) :
    iblk m c 1 t (ix3 0 0 k) = m ((c : Thread nD τ).loc main_arg1) (ix3 (⟨t.val / 16, by have := lt_N t; omega⟩ : Fin 8) (0 : Fin 1) k) := by
  blk_ext! [iblk, V, V_main_arg1, idx1 t]
theorem blk7_at (t : Fin cfg0.N) (k : Fin 128) : iblk m c 7 t (ix2 0 k) = m ((c : Thread nD τ).loc main_arg7) (ix1 k) := by
  have h : iblk m c 7 t (ix2 0 k) = V m c main_v4 (ix2 (0 : Fin 1) k) := by
    blk_ext! [iblk, idx7 t]
  rw [h, V_v4]
  pointwise
theorem gain_at (g : Vec Ideal S4x128 .f32) (k : Fin 512) :
    shapeCast S1x512 g shapeCasts_S4x128_S1x512 (ix2 0 k) = g (ix2 (⟨k.val / 128, by omega⟩ : Fin 4) (⟨k.val % 128, by omega⟩ : Fin 128)) := by
  pointwise
theorem blk8_at (t : Fin cfg0.N) (k : Fin 512) :
    iblk m c 8 t (ix2 0 k) = m ((c : Thread nD τ).loc main_arg8) (ix2 (⟨k.val / 128, by omega⟩ : Fin 4) (⟨k.val % 128, by omega⟩ : Fin 128)) := by
  have h : iblk m c 8 t (ix2 0 k) = V m c main_v5 (ix2 (0 : Fin 1) k) := by
    blk_ext! [iblk, idx8 t]
  rw [h, V_v5, gain_at]
theorem blk9_at (t : Fin cfg0.N) (d : Fin 512) (k : Fin 1024) : iblk m c 9 t (ix2 d k) = m ((c : Thread nD τ).loc main_arg9) (ix2 d k) := by
  have h : iblk m c 9 t (ix2 d k) = V m c main_v0 (ix2 d k) := by
    blk_ext! [iblk, idx9 t]
  rw [h, V_v0]
  rfl
theorem blk10_at (t : Fin cfg0.N) (d : Fin 1024) (k : Fin 1024) : iblk m c 10 t (ix2 d k) = m ((c : Thread nD τ).loc main_arg10) (ix2 d k) := by
  have h : iblk m c 10 t (ix2 d k) = V m c main_v1 (ix2 d k) := by
    blk_ext! [iblk, idx10 t]
  rw [h, V_v1]
  rfl
theorem blk11_at (t : Fin cfg0.N) (d : Fin 512) (k : Fin 1024) : iblk m c 11 t (ix2 d k) = m ((c : Thread nD τ).loc main_arg11) (ix2 d k) := by
  have h : iblk m c 11 t (ix2 d k) = V m c main_v2 (ix2 d k) := by
    blk_ext! [iblk, idx11 t]
  rw [h, V_v2]
  rfl
theorem blk12_at (t : Fin cfg0.N) (d : Fin 1024) (k : Fin 1024) : iblk m c 12 t (ix2 d k) = m ((c : Thread nD τ).loc main_arg12) (ix2 d k) := by
  have h : iblk m c 12 t (ix2 d k) = V m c main_v3 (ix2 d k) := by
    blk_ext! [iblk, idx12 t]
  rw [h, V_v3]
  rfl

/-- The merge at row `i` and column `l`, from the whole arrays. -/
def mergeAt (x0 : Vec Ideal S32768x1024 .f32) (x1 : Vec Ideal S8x1x1024 .f32) (x2 : Vec Ideal S32768x512 .f32) (x3 : Vec Ideal S32768x1024 .f32)
    (x4 x5 : Vec Ideal S32768x512 .f32) (x6 : Vec Ideal S32768x3072 .f32) (x7 : Vec Ideal S128 .f32) (x8 : Vec Ideal S4x128 .f32) (x9 : Vec Ideal S512x1024 .f32)
    (x10 : Vec Ideal S1024x1024 .f32) (x11 : Vec Ideal S512x1024 .f32) (x12 : Vec Ideal S1024x1024 .f32) (i : Fin 32768) (l : Fin 1024) : EReal :=
  mergeRow (fun k => x0 (ix2 i k)) (fun k => x1 (ix3 (⟨i.val / 4096, by omega⟩ : Fin 8) (0 : Fin 1) k)) (fun k => x2 (ix2 i k)) (fun k => x3 (ix2 i k))
    (fun k => x4 (ix2 i k)) (fun k => x5 (ix2 i k)) (fun k => x6 (ix2 i k)) (fun k => x7 (ix1 k))
    (fun k => x8 (ix2 (⟨k.val / 128, by omega⟩ : Fin 4) (⟨k.val % 128, by omega⟩ : Fin 128))) (fun d k => x9 (ix2 d k)) (fun d k => x10 (ix2 d k))
    (fun d k => x11 (ix2 d k)) (fun d k => x12 (ix2 d k)) l

theorem mergeRow_congr {a0 b0 : Fin 1024 → EReal} {a1 b1 : Fin 1024 → EReal} {a2 b2 : Fin 512 → EReal} {a3 b3 : Fin 1024 → EReal} {a4 b4 : Fin 512 → EReal} {a5 b5 : Fin 512 → EReal} {a6 b6 : Fin 3072 → EReal} {a7 b7 : Fin 128 → EReal} {a8 b8 : Fin 512 → EReal} {a9 b9 : Fin 512 → Fin 1024 → EReal} {a10 b10 : Fin 1024 → Fin 1024 → EReal} {a11 b11 : Fin 512 → Fin 1024 → EReal} {a12 b12 : Fin 1024 → Fin 1024 → EReal}
    (h0 : ∀ k, a0 k = b0 k) (h1 : ∀ k, a1 k = b1 k) (h2 : ∀ k, a2 k = b2 k) (h3 : ∀ k, a3 k = b3 k) (h4 : ∀ k, a4 k = b4 k) (h5 : ∀ k, a5 k = b5 k) (h6 : ∀ k, a6 k = b6 k) (h7 : ∀ k, a7 k = b7 k) (h8 : ∀ k, a8 k = b8 k) (h9 : ∀ d k, a9 d k = b9 d k) (h10 : ∀ d k, a10 d k = b10 d k) (h11 : ∀ d k, a11 d k = b11 d k) (h12 : ∀ d k, a12 d k = b12 d k) (l : Fin 1024) :
    mergeRow a0 a1 a2 a3 a4 a5 a6 a7 a8 a9 a10 a11 a12 l = mergeRow b0 b1 b2 b3 b4 b5 b6 b7 b8 b9 b10 b11 b12 l := by
  obtain ⟨rfl, rfl, rfl, rfl, rfl, rfl, rfl, rfl, rfl, rfl, rfl, rfl, rfl⟩ := (⟨funext h0, funext h1, funext h2, funext h3, funext h4, funext h5, funext h6, funext h7, funext h8, funext₂ h9, funext₂ h10, funext₂ h11, funext₂ h12⟩ :
    a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11 ∧ a12 = b12)
  rfl

/-- The merge of the launch's arrays, and zero outside them. -/
def merged (i j : ℕ) : EReal :=
  if h : i < 32768 ∧ j < 1024 then mergeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨i, h.1⟩ ⟨j, h.2⟩ else 0

theorem block_at (t : Fin cfg0.N) (r : Fin 256) (l : Fin 1024) :
    out0_13 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix2 r l) = merged m c (t.val * 256 + r.val) l.val := by
  have ht := lt_N t
  have e : (⟨256 * t.val + r.val, by omega⟩ : Fin 32768) = ⟨t.val * 256 + r.val, by omega⟩ := Fin.ext (by show 256 * t.val + r.val = t.val * 256 + r.val; omega)
  have e1 : (⟨t.val / 16, by omega⟩ : Fin 8) = ⟨(256 * t.val + r.val) / 4096, by omega⟩ := Fin.ext (by show t.val / 16 = (256 * t.val + r.val) / 4096; omega)
  rw [out_at, merged, dif_pos ⟨by omega, l.isLt⟩, ← e, mergeAt]
  exact mergeRow_congr (blk0_at m c t r) (fun k => (blk1_at m c t k).trans (by rw [e1])) (blk2_at m c t r) (blk3_at m c t r) (blk4_at m c t r) (blk5_at m c t r)
    (blk6_at m c t r) (blk7_at m c t) (blk8_at m c t) (blk9_at m c t) (blk10_at m c t) (blk11_at m c t) (blk12_at m c t) l

/-- An index of a block, by its two coordinates. -/
theorem two (y : S256x1024.Idx) : y = ix2 (show Fin 256 from y 0) (show Fin 1024 from y 1) := by
  funext a
  match a with
  | ⟨0, _⟩ => rfl
  | ⟨1, _⟩ => rfl

theorem arr13 : (dats m 0 c).arrAt 13 cfg0.N = fun i => merged m c (i 0).val (i 1).val := by
  refine (dats m 0 c).arrAt_eq_of_covers 13 _ (by decide +kernel) fun t hf y => ?_
  rw [after0_13]
  blk_simp [idx13 t]
  exact (congrArg _ (two y)).trans (block_at m c t _ _)

end Cert.Proof.Merge

end
-- ==== Proof.MergeRef.lean ====
/-
  The merge's reference, index by index.
-/
module

public import proofs.«01_k».proof.Proof.Gen.Reference3Ideal.Run
public import proofs.«01_k».proof.Proof.Merge

@[expose] public section

set_option maxRecDepth 16384

noncomputable section

namespace Cert.Proof.Merge
open Cert.Reference3Ideal Cert.Reference3Ideal.Gen
open Idealize.ShloMosaic Idealize.ShloMosaic.TcCoe Idealize.ShloMosaic.Tactic

variable (x0 : FVec Ideal S32768x1024 .f32) (x1 : FVec Ideal S8x1x1024 .f32) (x2 : FVec Ideal S32768x512 .f32) (x3 : FVec Ideal S32768x1024 .f32)
  (x4 x5 : FVec Ideal S32768x512 .f32) (x6 : FVec Ideal S32768x3072 .f32) (x7 : FVec Ideal S128 .f32) (x8 : FVec Ideal S4x128 .f32) (x9 : FVec Ideal S512x1024 .f32)
  (x10 : FVec Ideal S1024x1024 .f32) (x11 : FVec Ideal S512x1024 .f32) (x12 : FVec Ideal S1024x1024 .f32)

/-- The sigmoid of the merge gates. -/
def gates : FVec Ideal S32768x3072 .f32 :=
  Host.divf (broadcastInDim S32768x3072 ![] bcast_S_S32768x3072 (constant (F := Ideal) S_ .f32 0x3F800000#32)) (addf (broadcastInDim S32768x3072 ![] bcast_S_S32768x3072 (constant (F := Ideal) S_ .f32 0x3F800000#32)) (Host.exp (Host.negf x6)))

/-- The differential branch, normed per head. -/
def dfn : FVec Ideal S8x4096x1024 .f32 :=
  shapeCast _ (mulf (mulf (mulf (shapeCast _ x3 shapeCasts_S32768x1024_S8x4096x8x128) (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf (shapeCast _ x3 shapeCasts_S32768x1024_S8x4096x8x128) (shapeCast _ x3 shapeCasts_S32768x1024_S8x4096x8x128)) (constant (F := Ideal) S_ .f32 0x00000000#32) reducesTo_S8x4096x8x128_S8x4096x8_d3 h_S_)) (broadcastInDim S8x4096x8x1 ![] bcast_S_S8x4096x8x1 (constant (F := Ideal) S_ .f32 0x43000000#32))) (broadcastInDim S8x4096x8x1 ![] bcast_S_S8x4096x8x1 (constant (F := Ideal) S_ .f32 0x358637BD#32)))))) (broadcastInDim S8x4096x8x128 ![0, 1, 2, 3] bcast_S1x1x1x128_S8x4096x8x128_0_1_2_3 (broadcastInDim S1x1x1x128 ![3] bcast_S128_S1x1x1x128_3 x7))) (broadcastInDim S8x4096x8x128 ![] bcast_S_S8x4096x8x128 (constant (F := Ideal) S_ .f32 0x3F4CCCCD#32))) shapeCasts_S8x4096x8x128_S8x4096x1024

/-- The matrix memory, normed per head and gated. -/
def mln : FVec Ideal S8x4096x512 .f32 :=
  shapeCast _ (mulf (mulf (mulf (shapeCast _ x4 shapeCasts_S32768x512_S8x4096x4x128) (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf (shapeCast _ x4 shapeCasts_S32768x512_S8x4096x4x128) (shapeCast _ x4 shapeCasts_S32768x512_S8x4096x4x128)) (constant (F := Ideal) S_ .f32 0x00000000#32) reducesTo_S8x4096x4x128_S8x4096x4_d3 h_S_)) (broadcastInDim S8x4096x4x1 ![] bcast_S_S8x4096x4x1 (constant (F := Ideal) S_ .f32 0x43000000#32))) (broadcastInDim S8x4096x4x1 ![] bcast_S_S8x4096x4x1 (constant (F := Ideal) S_ .f32 0x358637BD#32)))))) (broadcastInDim S8x4096x4x128 ![0, 1, 2, 3] bcast_S1x1x4x128_S8x4096x4x128_0_1_2_3 (broadcastInDim S1x1x4x128 ![2, 3] bcast_S4x128_S1x1x4x128_2_3 x8))) (shapeCast _ (Host.divf (broadcastInDim S32768x512 ![] bcast_S_S32768x512 (constant (F := Ideal) S_ .f32 0x3F800000#32)) (addf (broadcastInDim S32768x512 ![] bcast_S_S32768x512 (constant (F := Ideal) S_ .f32 0x3F800000#32)) (Host.exp (Host.negf x5)))) shapeCasts_S32768x512_S8x4096x4x128)) shapeCasts_S8x4096x4x128_S8x4096x512

/-- The first branch's gate. -/
def gate0 : FVec Ideal S8x4096x1024 .f32 :=
  shapeCast _ (extractStridedSlice S8x4096x1x1024 ![0, 0, 0, 0] (shapeCast _ (gates x6) shapeCasts_S32768x3072_S8x4096x3x1024) slices_S8x4096x3x1024_S8x4096x1x1024_0_0_0_0) shapeCasts_S8x4096x1x1024_S8x4096x1024
/-- The second branch's gate. -/
def gate1 : FVec Ideal S8x4096x1024 .f32 :=
  shapeCast _ (extractStridedSlice S8x4096x1x1024 ![0, 0, 1, 0] (shapeCast _ (gates x6) shapeCasts_S32768x3072_S8x4096x3x1024) slices_S8x4096x3x1024_S8x4096x1x1024_0_0_1_0) shapeCasts_S8x4096x1x1024_S8x4096x1024
/-- The third branch's gate. -/
def gate2 : FVec Ideal S8x4096x1024 .f32 :=
  shapeCast _ (extractStridedSlice S8x4096x1x1024 ![0, 0, 2, 0] (shapeCast _ (gates x6) shapeCasts_S32768x3072_S8x4096x3x1024) slices_S8x4096x3x1024_S8x4096x1x1024_0_0_2_0) shapeCasts_S8x4096x1x1024_S8x4096x1024

/-- The gated sum of the projected branches. -/
def mix : FVec Ideal S8x4096x1024 .f32 :=
  addf (addf (mulf (gate0 x6) (Host.dotGeneral (φ₁ := .f32) dot_S8x4096x512_S512x1024_S8x4096x1024_2_0_01_1_n_n none (shapeCast _ x2 shapeCasts_S32768x512_S8x4096x512) x9)) (mulf (gate1 x6) (Host.dotGeneral (φ₁ := .f32) dot_S8x4096x1024_S1024x1024_S8x4096x1024_2_0_01_1_n_n none (dfn x3 x7) x10))) (mulf (gate2 x6) (Host.dotGeneral (φ₁ := .f32) dot_S8x4096x512_S512x1024_S8x4096x1024_2_0_01_1_n_n none (mln x4 x5 x8) x11))

/-- The merge. -/
def refOut : FVec Ideal S32768x1024 .f32 :=
  shapeCast _ (addf (shapeCast _ x0 shapeCasts_S32768x1024_S8x4096x1024) (mulf (broadcastInDim S8x4096x1024 ![0, 1, 2] bcast_S8x1x1024_S8x4096x1024_0_1_2 x1) (Host.dotGeneral (φ₁ := .f32) dot_S8x4096x1024_S1024x1024_S8x4096x1024_2_0_01_1_n_n none (mix x2 x3 x4 x5 x6 x7 x8 x9 x10 x11) x12))) shapeCasts_S8x4096x1024_S32768x1024

theorem gates_at (i : Fin 32768) (j : Fin 3072) : gates x6 (ix2 i j) = sg (x6 (ix2 i j)) := by
  unfold gates sg
  pointwise

theorem head_eq {N : ℕ} (x : Fin N → EReal) (h : ℕ) (k : Fin 128) (hk : h * 128 + k.val < N) : head x h k = x ⟨h * 128 + k.val, hk⟩ := by
  rw [head, dif_pos (by omega)]
  exact congrArg x (Fin.ext (by dsimp only; omega))

theorem dfn_at (b : Fin 8) (t : Fin 4096) (d : Fin 1024) (i : Fin 32768) (hi : b.val * 4096 + t.val = i.val) :
    dfn x3 x7 (ix3 b t d) = dfRow (fun k => x3 (ix2 i k)) (fun k => x7 (ix1 k)) d := by
  unfold dfn dfRow nrm
  pointwise
  have e : (⟨b.val * 4096 + t.val, by omega⟩ : Fin 32768) = i := Fin.ext hi
  have hs : ∀ k : Fin 128, head (fun k => x3 (ix2 i k)) (d.val / 128) k = x3 (ix2 i ⟨d.val / 128 * 128 + k.val, by omega⟩) := fun k => head_eq _ _ _ (by omega)
  have ed : (⟨d.val / 128 * 128 + d.val % 128, by omega⟩ : Fin 1024) = d := Fin.ext (by dsimp only; omega)
  simp only [hs, e, ed]
  exact mul_assoc _ _ _

theorem mln_at (b : Fin 8) (t : Fin 4096) (d : Fin 512) (i : Fin 32768) (hi : b.val * 4096 + t.val = i.val) :
    mln x4 x5 x8 (ix3 b t d) = mlRow (fun k => x4 (ix2 i k)) (fun k => x5 (ix2 i k))
      (fun k => x8 (ix2 (⟨k.val / 128, by omega⟩ : Fin 4) (⟨k.val % 128, by omega⟩ : Fin 128))) d := by
  unfold mln mlRow nrm sg
  pointwise
  have e : (⟨b.val * 4096 + t.val, by omega⟩ : Fin 32768) = i := Fin.ext hi
  have hs : ∀ k : Fin 128, head (fun k => x4 (ix2 i k)) (d.val / 128) k = x4 (ix2 i ⟨d.val / 128 * 128 + k.val, by omega⟩) := fun k => head_eq _ _ _ (by omega)
  have ed : (⟨d.val / 128 * 128 + d.val % 128, by omega⟩ : Fin 512) = d := Fin.ext (by dsimp only; omega)
  simp only [hs, e, ed]

theorem gate0_at (b : Fin 8) (t : Fin 4096) (d : Fin 1024) (i : Fin 32768) (hi : b.val * 4096 + t.val = i.val) :
    gate0 x6 (ix3 b t d) = sg (x6 (ix2 i ⟨d.val, by omega⟩)) := by
  unfold gate0
  pointwise
  have e : (⟨b.val * 4096 + t.val, by omega⟩ : Fin 32768) = i := Fin.ext hi
  rw [e, gates_at]
theorem gate1_at (b : Fin 8) (t : Fin 4096) (d : Fin 1024) (i : Fin 32768) (hi : b.val * 4096 + t.val = i.val) :
    gate1 x6 (ix3 b t d) = sg (x6 (ix2 i ⟨1024 + d.val, by omega⟩)) := by
  unfold gate1
  pointwise
  have e : (⟨b.val * 4096 + t.val, by omega⟩ : Fin 32768) = i := Fin.ext hi
  rw [e, gates_at]
theorem gate2_at (b : Fin 8) (t : Fin 4096) (d : Fin 1024) (i : Fin 32768) (hi : b.val * 4096 + t.val = i.val) :
    gate2 x6 (ix3 b t d) = sg (x6 (ix2 i ⟨2048 + d.val, by omega⟩)) := by
  unfold gate2
  pointwise
  have e : (⟨b.val * 4096 + t.val, by omega⟩ : Fin 32768) = i := Fin.ext hi
  rw [e, gates_at]

theorem mix_at (b : Fin 8) (t : Fin 4096) (d : Fin 1024) (i : Fin 32768) (hi : b.val * 4096 + t.val = i.val) :
    mix x2 x3 x4 x5 x6 x7 x8 x9 x10 x11 (ix3 b t d)
      = mixRow (fun k => ∑ d : Fin 512, x2 (ix2 i d) * x9 (ix2 d k)) (fun k => ∑ d : Fin 1024, dfRow (fun k => x3 (ix2 i k)) (fun k => x7 (ix1 k)) d * x10 (ix2 d k))
        (fun k => ∑ d : Fin 512, mlRow (fun k => x4 (ix2 i k)) (fun k => x5 (ix2 i k))
          (fun k => x8 (ix2 (⟨k.val / 128, by omega⟩ : Fin 4) (⟨k.val % 128, by omega⟩ : Fin 128))) d * x11 (ix2 d k)) (fun k => x6 (ix2 i k)) d := by
  unfold mix mixRow
  pointwise
  have e : (⟨b.val * 4096 + t.val, by omega⟩ : Fin 32768) = i := Fin.ext hi
  simp only [gate0_at x6 b t _ i hi, gate1_at x6 b t _ i hi, gate2_at x6 b t _ i hi, dfn_at x3 x7 b t _ i hi, mln_at x4 x5 x8 b t _ i hi, e]

theorem refOut_at (i : Fin 32768) (l : Fin 1024) :
    refOut x0 x1 x2 x3 x4 x5 x6 x7 x8 x9 x10 x11 x12 (ix2 i l) = mergeAt x0 x1 x2 x3 x4 x5 x6 x7 x8 x9 x10 x11 x12 i l := by
  unfold refOut mergeAt mergeRow
  pointwise
  refine congrArg (x0 (ix2 i l) + x1 _ * ·) (Finset.sum_congr rfl fun k _ => congrArg (· * _) ?_)
  exact mix_at x2 x3 x4 x5 x6 x7 x8 x9 x10 x11 _ _ k i (by dsimp only; omega)

end Cert.Proof.Merge

end
-- ==== Proof.MergeAlg.lean ====
/-
  The merge: the kernel's result is the reference's.
-/
module

public import proofs.«01_k».proof.Defs
public import proofs.«01_k».proof.Proof.MergeRef

@[expose] public section

set_option maxRecDepth 16384

noncomputable section

namespace Cert.Proof.Merge
open Idealize.ShloMosaic Idealize.SL.Sem

theorem algebraic : Cert.algebraic_Kernel3Ideal_Reference3Ideal := by
  intro m g m' g' _ hm
  refine ⟨fun c => (Cert.Kernel3Ideal.Gen.dats m 0 c).arrAt 13 Cert.Kernel3Ideal.cfg0.N, Cert.Kernel3Ideal.Value.run_blocks m g,
    (θ_run Cert.Reference3Ideal.defs _ _).mono (fun r h c => ?_) (Cert.Reference3Ideal.Value.run m' g')⟩
  refine ⟨(h c).1.trans (Eq.trans ?_ (arr13 m c).symm), (h c).2⟩
  have e : Cert.Reference3Ideal.Value.res_main_v67 m' c = refOut (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) := rfl
  rw [e]
  funext y
  obtain ⟨i, l, rfl⟩ : ∃ (i : Fin 32768) (l : Fin 1024), y = ix2 i l := ⟨y 0, y 1, by funext a; fin_cases a <;> rfl⟩
  refine (refOut_at _ _ _ _ _ _ _ _ _ _ _ _ _ i l).trans ?_
  show _ = merged m c i.val l.val
  rw [merged, dif_pos ⟨i.isLt, l.isLt⟩, (hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2]

theorem frame_reference : Cert.quiescent_Reference3Ideal := by
  intro m g _
  exact (θ_run Cert.Reference3Ideal.defs _ _).mono
    (fun r h => ⟨fun c => (h c).2, sem_eq_zero_of_no_sems (by decide) r.2⟩) (Cert.Reference3Ideal.Value.run m g)

end Cert.Proof.Merge

end
-- ==== Proof.MlSpec.lean ====
/-
  The numbers of the stabiliser the sample's mLSTM leaves: the gates of a row's four tokens, their running sums and the
  greatest weight.
-/
module

public import proofs.«01_k».proof.Proof.Stick
public import Idealize.ShloMosaic.Lib.Pointwise

@[expose] public section

noncomputable section

namespace Cert.Proof.Ml
open Idealize.ShloMosaic Idealize.ShloMosaic.Tactic
open Stick

/-- The gate at token `s` of row `b`, the gate's column being `o`, with its bias. -/
def gate (x : FVec Ideal (⟨2, ![128, 128]⟩ : Shape) .f32) (y : EReal) (b o s : ℕ) : EReal :=
  if h : 4 * b + s < 128 ∧ o < 128 then x (ix2 (⟨4 * b + s, h.1⟩ : Fin 128) (⟨o, h.2⟩ : Fin 128)) + y else 0

/-- The running sum of the forget gates' logarithms. -/
def cum (f : ℕ → EReal) (t : ℕ) : EReal := ∑ j ∈ Finset.range (t + 1), lsg (f j)

/-- The stabiliser after the four tokens, from the one before them, the forget gates and the input gates. -/
def stab (m0 : EReal) (f g : ℕ → EReal) : EReal :=
  max (cum f 3 + m0) ((Finset.range 4).sup fun s => cum f 3 - cum f s + g s)

/-- The stabilisers of a row: the four heads', and zero in the rows that pad them. -/
def stabAt (x : FVec Ideal (⟨2, ![128, 128]⟩ : Shape) .f32) (m0 : FVec Ideal (⟨2, ![32, 4]⟩ : Shape) .f32)
    (bi bf : FVec Ideal (⟨1, ![4]⟩ : Shape) .f32) (b h : ℕ) : EReal :=
  if hb : b < 32 ∧ h < 4 then
    stab (m0 (ix2 (⟨b, hb.1⟩ : Fin 32) (⟨h, hb.2⟩ : Fin 4))) (gate x (bf (ix1 (⟨h, hb.2⟩ : Fin 4))) b (4 + h))
      (gate x (bi (ix1 (⟨h, hb.2⟩ : Fin 4))) b h)
  else 0

end Cert.Proof.Ml

end
-- ==== Proof.DfSoft.lean ====
/-
  A softmax-weighted sum carried over blocks of keys: the running maximum of the scores and the sums that are kept
  relative to it. Scores are extended reals, of which the masked ones are minus infinity.
-/
module

public import Idealize.ShloMosaic.PureOps.Ideal
public import Mathlib.Data.EReal.Operations
public import Mathlib.Algebra.BigOperators.Intervals

@[expose] public section

noncomputable section

namespace Cert.Proof.Df
open Idealize.ShloMosaic

/-- A sum times a finite factor that is not negative. -/
theorem mul_sum_nonneg {ι : Type*} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s h ih =>
    rw [Finset.sum_insert h, Finset.sum_insert h, ← ih]
    exact EReal.left_distrib_of_nonneg_of_ne_top h0 ht _ _

theorem exp_bot : Ideal.exp ⊥ = 0 := rfl
theorem exp_coe (r : ℝ) : Ideal.exp (r : EReal) = (Real.exp r : EReal) := rfl

/-- Moving an exponential from one maximum to a larger one. -/
theorem exp_shift {s M M' : EReal} (h : s ≤ M) (h' : M ≤ M') (ht : M' ≠ ⊤) :
    Ideal.exp (M - M') * Ideal.exp (s - M) = Ideal.exp (s - M') := by
  induction s with
  | bot => simp [sub_eq_add_neg, exp_bot]
  | top => exact absurd (top_le_iff.mp (h.trans h')) ht
  | coe s =>
    induction M with
    | bot => exact absurd (le_bot_iff.mp h) (EReal.coe_ne_bot s)
    | top => exact absurd (top_le_iff.mp h') ht
    | coe M =>
      induction M' with
      | bot => exact absurd (le_bot_iff.mp h') (EReal.coe_ne_bot M)
      | top => exact absurd rfl ht
      | coe M' =>
        rw [← EReal.coe_sub, ← EReal.coe_sub, ← EReal.coe_sub, exp_coe, exp_coe, exp_coe, ← EReal.coe_mul, ← Real.exp_add]
        congr 2; ring

theorem exp_sub_nonneg (x : EReal) : 0 ≤ Ideal.exp x := by
  induction x with
  | bot => exact le_refl _
  | top => exact le_top
  | coe r => rw [exp_coe]; exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => rw [exp_coe]; exact EReal.coe_ne_top _

theorem sub_ne_top {M M' : EReal} (h : M ≤ M') (ht : M' ≠ ⊤) : M - M' ≠ ⊤ := by
  induction M' with
  | bot => rw [le_bot_iff.mp h]; simp [sub_eq_add_neg]
  | top => exact absurd rfl ht
  | coe M' =>
    induction M with
    | bot => simp [sub_eq_add_neg]
    | top => exact absurd (top_le_iff.mp h) ht
    | coe M => rw [← EReal.coe_sub]; exact EReal.coe_ne_top _

/-- The greatest of the first `N` scores. -/
def top (s : ℕ → EReal) (N : ℕ) : EReal := (Finset.range N).sup s

/-- The sum over the first `N` keys of a value by its exponential relative to the greatest score. -/
def wsum (s v : ℕ → EReal) (N : ℕ) : EReal := ∑ j ∈ Finset.range N, Ideal.exp (s j - top s N) * v j

theorem top_ne_top (s : ℕ → EReal) (hs : ∀ j, s j ≠ ⊤) (N : ℕ) : top s N ≠ ⊤ := by
  have h : top s N < ⊤ := (Finset.sup_lt_iff bot_lt_top).mpr fun j _ => lt_top_iff_ne_top.mpr (hs j)
  exact h.ne

theorem top_add (s : ℕ → EReal) (N n : ℕ) : top s (N + n) = max (top s N) ((Finset.range n).sup fun j => s (N + j)) := by
  unfold top
  apply le_antisymm
  · refine Finset.sup_le fun j hj => ?_
    have hj := Finset.mem_range.mp hj
    by_cases h : j < N
    · exact le_max_of_le_left (Finset.le_sup (f := s) (Finset.mem_range.mpr h))
    · refine le_max_of_le_right ?_
      have e : s j = (fun j => s (N + j)) (j - N) := by show s j = s (N + (j - N)); congr 1; omega
      rw [e]
      exact Finset.le_sup (f := fun j => s (N + j)) (Finset.mem_range.mpr (by omega))
  · refine max_le (Finset.sup_mono fun j hj => ?_) (Finset.sup_le fun j hj => ?_)
    · have := Finset.mem_range.mp hj; exact Finset.mem_range.mpr (by omega)
    · have := Finset.mem_range.mp hj
      exact Finset.le_sup (f := s) (Finset.mem_range.mpr (by omega))

/-- A block of `n` further keys: what was kept, moved to the new maximum, and the block's own sum. -/
theorem wsum_add (s v : ℕ → EReal) (hs : ∀ j, s j ≠ ⊤) (N n : ℕ) :
    wsum s v (N + n) = Ideal.exp (top s N - top s (N + n)) * wsum s v N
      + ∑ j ∈ Finset.range n, Ideal.exp (s (N + j) - top s (N + n)) * v (N + j) := by
  have hle : top s N ≤ top s (N + n) := by rw [top_add]; exact le_max_left _ _
  have ht := top_ne_top s hs (N + n)
  rw [wsum, Finset.sum_range_add, wsum, mul_sum_nonneg _ (exp_sub_nonneg _) (exp_ne_top (sub_ne_top hle ht))]
  congr 1
  refine Finset.sum_congr rfl fun j hj => ?_
  have hj' : s j ≤ top s N := Finset.le_sup (f := s) hj
  rw [← mul_assoc, exp_shift hj' hle ht]

/-- A masked key counts nothing. -/
theorem wsum_masked (s v : ℕ → EReal) (N n : ℕ) (h : ∀ j, N ≤ j → j < N + n → s j = ⊥) :
    top s (N + n) = top s N ∧ wsum s v (N + n) = wsum s v N := by
  have e : top s (N + n) = top s N := by
    rw [top_add]
    refine max_eq_left (Finset.sup_le fun j hj => ?_)
    have := Finset.mem_range.mp hj
    rw [h _ (by omega) (by omega)]
    exact bot_le
  refine ⟨e, ?_⟩
  rw [wsum, e, Finset.sum_range_add, wsum]
  rw [Finset.sum_eq_zero (s := Finset.range n), add_zero]
  intro j hj
  have := Finset.mem_range.mp hj
  rw [h _ (by omega) (by omega)]
  simp [sub_eq_add_neg, exp_bot]

/-- The greatest of a block's scores and a shift. -/
theorem sup_add_coe (n : ℕ) (f : ℕ → EReal) (w : ℝ) :
    (Finset.range n).sup f + (w : EReal) = (Finset.range n).sup fun j => f j + (w : EReal) := by
  induction n with
  | zero => simp
  | succ n ih =>
    rw [Finset.range_add_one, Finset.sup_insert, Finset.sup_insert, ← ih]
    exact (max_add_add_right _ _ _).symm

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- With a score that is not masked the exponentials are real, and their sum is positive. -/
theorem exp_real (s : ℕ → EReal) (hs : ∀ j, s j ≠ ⊤) (N t : ℕ) (ht : t < N) (hb : s t ≠ ⊥) :
    ∃ a : ℕ → ℝ, (∀ j, Ideal.exp (s j - top s N) = (a j : EReal)) ∧ 0 < ∑ j ∈ Finset.range N, a j := by
  obtain ⟨M, hM⟩ : ∃ M : ℝ, top s N = (M : EReal) := by
    have h1 : s t ≤ top s N := Finset.le_sup (f := s) (Finset.mem_range.mpr ht)
    have h2 := top_ne_top s hs N
    exact ⟨(top s N).toReal, (EReal.coe_toReal h2 (fun h => hb (le_bot_iff.mp (h ▸ h1)))).symm⟩
  have key : ∀ j, ∃ a : ℝ, Ideal.exp (s j - (M : EReal)) = (a : EReal) ∧ 0 ≤ a ∧ (s j ≠ ⊥ → 0 < a) := by
    intro j
    have hj := hs j
    generalize s j = x at hj ⊢
    induction x with
    | bot => exact ⟨0, by simp [sub_eq_add_neg, exp_bot], le_refl _, fun h => absurd rfl h⟩
    | top => exact absurd rfl hj
    | coe x => exact ⟨Real.exp (x - M), by rw [← EReal.coe_sub, exp_coe], (Real.exp_pos _).le, fun _ => Real.exp_pos _⟩
  choose a ha using key
  refine ⟨a, fun j => by rw [hM]; exact (ha j).1, ?_⟩
  exact Finset.sum_pos' (fun j _ => (ha j).2.1) ⟨t, Finset.mem_range.mpr ht, (ha t).2.2 hb⟩

/-- The difference of two softmax-weighted means is the mean by the difference of the weights. -/
theorem diff_mean (s₁ s₂ : ℕ → EReal) (h₁ : ∀ j, s₁ j ≠ ⊤) (h₂ : ∀ j, s₂ j ≠ ⊤) (N t : ℕ) (ht : t < N) (b₁ : s₁ t ≠ ⊥) (b₂ : s₂ t ≠ ⊥)
    (lam : ℝ) (v : ℕ → ℝ) :
    Ideal.div (wsum s₁ (fun j => v j) N) (wsum s₁ (fun _ => 1) N) - (lam : EReal) * Ideal.div (wsum s₂ (fun j => v j) N) (wsum s₂ (fun _ => 1) N)
      = ∑ j ∈ Finset.range N, (Ideal.div (Ideal.exp (s₁ j - top s₁ N)) (∑ k ∈ Finset.range N, Ideal.exp (s₁ k - top s₁ N))
          - (lam : EReal) * Ideal.div (Ideal.exp (s₂ j - top s₂ N)) (∑ k ∈ Finset.range N, Ideal.exp (s₂ k - top s₂ N))) * (v j : EReal) := by
  obtain ⟨a, ha, pa⟩ := exp_real s₁ h₁ N t ht b₁
  obtain ⟨b, hb, pb⟩ := exp_real s₂ h₂ N t ht b₂
  unfold wsum
  simp only [ha, hb, mul_one, ← EReal.coe_mul, sum_coe, div_coe _ _ pa.ne', div_coe _ _ pb.ne', ← EReal.coe_sub]
  congr 1
  rw [Finset.sum_div, Finset.sum_div, Finset.mul_sum, ← Finset.sum_sub_distrib]
  exact Finset.sum_congr rfl fun j _ => by ring

end Cert.Proof.Df

end
-- ==== Proof.DfTile.lean ====
/-
  One tile of the differential attention kernel, for one group head and one of its two softmaxes: the new maximum and the
  new sums from the scores, and their values at an index.
-/
module

public import proofs.«01_k».proof.Proof.Gen.Kernel4Ideal.Value
public import proofs.«01_k».proof.Proof.DfSoft
public import Idealize.ShloMosaic.Lib.Pipeline.ValueKit
public import Idealize.ShloMosaic.Lib.Pointwise

@[expose] public section

set_option maxRecDepth 16384

noncomputable section

namespace Cert.Proof.Df
open Cert.Kernel4Ideal Cert.Kernel4Ideal.Gen
open Idealize.ShloMosaic Idealize.ShloMosaic.TcCoe Idealize.ShloMosaic.Tactic

/-- The state the loop over the key tiles carries: per chain the sums (values, then weights) and the running maximum. -/
abbrev T8 := FVec Ideal S512x256 .f32 × FVec Ideal S512x1 .f32 × FVec Ideal S512x256 .f32 × FVec Ideal S512x1 .f32 × FVec Ideal S512x256 .f32 × FVec Ideal S512x1 .f32 × FVec Ideal S512x256 .f32 × FVec Ideal S512x1 .f32

/-- A tile's scores before the shift to its distance: the products with the keys and the part of the bias inside the tile. -/
def score (b : FVec Ideal S512x512 .f32) (q k : FVec Ideal S512x128 .bf16) : FVec Ideal S512x512 .f32 :=
  addf (matmul (F := Ideal) (φ₂ := .bf16) dot_S512x128_S512x128_S512x512_1_1_0_0_n_n none q k (constant S512x512 .f32 0x00000000#32)) b

/-- The scores with the masked keys at the mask's constant. -/
def masked (msk : IVec S512x512 1) (S : FVec Ideal S512x512 .f32) : FVec Ideal S512x512 .f32 :=
  select msk S (broadcast S512x512 (Named.named (F := Ideal) κ "mask" (φ := .f32) 0xF149F2CA#32))

/-- The running maximum after a tile with the scores `S` shifted by `w`. -/
def tmax (S : FVec Ideal S512x512 .f32) (w : Ideal .f32) (mx : FVec Ideal S512x1 .f32) : FVec Ideal S512x1 .f32 :=
  maximumf mx (addf (shapeCast S512x1 (multiReduction .maximumf [1] S512 S 0xFF800000#32 reduces_S512x512_S512 (.inl rfl) rfl) shapeCasts_S512_S512x1)
    (broadcast S512x1 w))

/-- The sums after such a tile, its values and ones beside them being `vt`. -/
def tacc (S : FVec Ideal S512x512 .f32) (w : Ideal .f32) (mx : FVec Ideal S512x1 .f32) (acc : FVec Ideal S512x256 .f32)
    (vt : FVec Ideal S512x256 .bf16) : FVec Ideal S512x256 .f32 :=
  addf (mulf (broadcastTo S512x256 (exp (subf mx (tmax S w mx))) broadcasts_S512x1_S512x256) acc)
    (matmul (F := Ideal) (φ₂ := .bf16) dot_S512x512_S512x256_S512x256_1_0_0_1_n_n none
      (truncf .bf16 (exp (addf S (broadcastTo S512x512 (subf (broadcast S512x1 w) (tmax S w mx)) broadcasts_S512x1_S512x512))) bitsLt_bf16_f32)
      vt (constant S512x256 .f32 0x00000000#32))

/-- A tile's effect on the four chains: `S` their scores, `w` the shift of each group head. -/
def mapT (S : Fin 4 → FVec Ideal S512x512 .f32) (w : Fin 2 → Ideal .f32) (vt : FVec Ideal S512x256 .bf16) (a : T8) : T8 :=
  (tacc (S 0) (w 0) a.2.1 a.1 vt, tmax (S 0) (w 0) a.2.1,
   tacc (S 1) (w 0) a.2.2.2.1 a.2.2.1 vt, tmax (S 1) (w 0) a.2.2.2.1,
   tacc (S 2) (w 1) a.2.2.2.2.2.1 a.2.2.2.2.1 vt, tmax (S 2) (w 1) a.2.2.2.2.2.1,
   tacc (S 3) (w 1) a.2.2.2.2.2.2.2 a.2.2.2.2.2.2.1 vt, tmax (S 3) (w 1) a.2.2.2.2.2.2.2)

/-- The scores of the four chains. -/
def scores (b : Fin 2 → FVec Ideal S512x512 .f32) (q : Fin 4 → FVec Ideal S512x128 .bf16) (k : FVec Ideal S512x128 .bf16) :
    Fin 4 → FVec Ideal S512x512 .f32 :=
  ![score (b 0) (q 0) k, score (b 0) (q 1) k, score (b 1) (q 2) k, score (b 1) (q 3) k]

/-- A key tile as it is loaded. -/
def ktile (arg : Memref sig .tc .vmem S1x4096x128 .f32) (X : BufTy.Contents (Elt Ideal) arg.view.ty) (off : Fin 3 → ℕ)
    (inb : ∀ a, off a + S1x512x128.size a ≤ S1x4096x128.size a) : FVec Ideal S512x128 .bf16 :=
  k0_pay2 (View.readAt (Elt Ideal) arg.view (Rect.unit (s := S1x4096x128) off S1x512x128.size inb).toLoadRect X)

/-- A value tile as it is loaded, with the ones `o` beside it. -/
def vtile (o : FVec Ideal S512x128 .bf16) (arg : Memref sig .tc .vmem S1x4096x128 .f32) (X : BufTy.Contents (Elt Ideal) arg.view.ty) (off : Fin 3 → ℕ)
    (inb : ∀ a, off a + S1x512x128.size a ≤ S1x4096x128.size a) : FVec Ideal S512x256 .bf16 :=
  k0_pay3 o (View.readAt (Elt Ideal) arg.view (Rect.unit (s := S1x4096x128) off S1x512x128.size inb).toLoadRect X)

/-- The mask's constant is minus infinity. -/
theorem mask_eq : (Named.named (F := Ideal) κ "mask" (φ := .f32) 0xF149F2CA#32 : EReal) = ⊥ :=
  IdealRules.named_const.ideal_named_scalar _ _ _ _ rfl

theorem ninf : Ideal.ofBits FTy.f32 0xFF800000#32 = ⊥ := by
  simp [Ideal.ofBits, Ideal.ieee]

theorem score_at (b : FVec Ideal S512x512 .f32) (q k : FVec Ideal S512x128 .bf16) (r j : Fin 512) :
    score b q k (ix2 r j) = (∑ l : Fin 128, q (ix2 r l) * k (ix2 j l)) + b (ix2 r j) := by
  unfold score
  pointwise

theorem masked_at (msk : IVec S512x512 1) (S : FVec Ideal S512x512 .f32) (r j : Fin 512) :
    masked msk S (ix2 r j) = if msk (ix2 r j) = 1#1 then S (ix2 r j) else ⊥ := by
  unfold masked
  pointwise
  rw [mask_eq]
  rfl

theorem tmax_at (S : FVec Ideal S512x512 .f32) (w : Ideal .f32) (mx : FVec Ideal S512x1 .f32) (r : Fin 512) :
    tmax S w mx (ix2 r 0) = max (mx (ix2 r 0)) ((Finset.univ.sup fun j : Fin 512 => S (ix2 r j)) + w) := by
  unfold tmax
  pointwise
  rw [ninf]
  rfl

theorem tacc_at (S : FVec Ideal S512x512 .f32) (w : Ideal .f32) (mx : FVec Ideal S512x1 .f32) (acc : FVec Ideal S512x256 .f32)
    (vt : FVec Ideal S512x256 .bf16) (r : Fin 512) (l : Fin 256) :
    tacc S w mx acc vt (ix2 r l) = Ideal.exp (mx (ix2 r 0) - tmax S w mx (ix2 r 0)) * acc (ix2 r l)
      + ∑ j : Fin 512, Ideal.exp (S (ix2 r j) + (w - tmax S w mx (ix2 r 0))) * vt (ix2 j l) := by
  unfold tacc
  pointwise

end Cert.Proof.Df

end
-- ==== Proof.DfBody.lean ====
/-
  The differential attention kernel's output block at a grid point: two stores, one per group head, of the quotients of the
  sums that the loop over the earlier key tiles and then the masked tile leave.
-/
module

public import proofs.«01_k».proof.Proof.DfTile
public import proofs.«01_k».proof.Proof.Head

@[expose] public section

set_option maxRecDepth 16384

noncomputable section

namespace Cert.Proof.Df
open Cert.Kernel4Ideal Cert.Kernel4Ideal.Gen
open Idealize.ShloMosaic Idealize.ShloMosaic.TcCoe Idealize.ShloMosaic.Tactic

/-- The shift of a tile at distance `d` for the slope `s`. -/
def shift (s d : Ideal .f32) : Ideal .f32 := Scalar.mulf (Scalar.subf (Scalar.ofBits .f32 0x00000000#32) s) d

/-- A tile of the loop. -/
def tileU (i : grid0.Coords) (arg2 : BitVec 32) (c0 c1 : BitVec 32) (o : FVec Ideal S512x128 .bf16) (b : Fin 2 → FVec Ideal S512x512 .f32) (q : Fin 4 → FVec Ideal S512x128 .bf16) (s : Fin 2 → Ideal .f32)
    (arg5 arg6 : Memref sig .tc .vmem S1x4096x128 .f32) (X5 : BufTy.Contents (Elt Ideal) arg5.view.ty) (X6 : BufTy.Contents (Elt Ideal) arg6.view.ty)
    (k : Fin (k0_t1_loop i).trips) (a : T8) : T8 :=
  mapT (scores b q (ktile arg5 X5 (k0_off2 i k) (k0_off2_inb i k)))
    ![shift (s 0) (k0_pay4 (F := Ideal) i arg2 c0 c1 k), shift (s 1) (k0_pay4 (F := Ideal) i arg2 c0 c1 k)]
    (vtile o arg6 X6 (k0_off2 i k) (k0_off2_inb i k)) a

/-- The state after `j` tiles of the loop. -/
def iterU (i : grid0.Coords) (arg2 : BitVec 32) (c0 c1 : BitVec 32) (o : FVec Ideal S512x128 .bf16) (b : Fin 2 → FVec Ideal S512x512 .f32) (q : Fin 4 → FVec Ideal S512x128 .bf16) (s : Fin 2 → Ideal .f32)
    (arg5 arg6 : Memref sig .tc .vmem S1x4096x128 .f32) (X5 : BufTy.Contents (Elt Ideal) arg5.view.ty) (X6 : BufTy.Contents (Elt Ideal) arg6.view.ty)
    (init : T8) : ℕ → T8
  | 0 => init
  | j + 1 => if h : j < (k0_t1_loop i).trips then tileU i arg2 c0 c1 o b q s arg5 arg6 X5 X6 ⟨j, h⟩ (iterU i arg2 c0 c1 o b q s arg5 arg6 X5 X6 init j)
      else iterU i arg2 c0 c1 o b q s arg5 arg6 X5 X6 init j

set_option maxHeartbeats 1000000 in
/-- A trip of the loop is a tile. -/
theorem trip_eq (𝒱 : Variants) (c : Dev nD) (bd : Option 𝒱.V) (i : grid0.Coords) (arg3 : Memref sig .tc .smem S8 .f32) (harg3 : arg3.IsWhole) (arg4 : Memref sig .tc .vmem S512x256 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S4x64 .f32) (harg7 : arg7.IsWhole) (arg8 : Memref sig .tc .vmem S512x256 .f32) (harg8 : arg8.IsWhole) (arg2 : BitVec 32) (v4 : FVec Ideal S512x512 .f32) (v5 : FVec Ideal S512x128 .bf16) (v9 : Elt Ideal .f32) (v14 : FVec Ideal S512x512 .f32) (v43 : FVec Ideal S512x128 .bf16) (v72 : FVec Ideal S512x128 .bf16) (v76 : Elt Ideal .f32) (v81 : FVec Ideal S512x512 .f32) (v110 : FVec Ideal S512x128 .bf16) (v139 : FVec Ideal S512x128 .bf16) (v140 : FVec Ideal S512x256 .f32) (v141 : FVec Ideal S512x1 .f32) (v142 : FVec Ideal S512x256 .f32) (v143 : FVec Ideal S512x1 .f32) (v144 : FVec Ideal S512x256 .f32) (v145 : FVec Ideal S512x1 .f32) (v146 : FVec Ideal S512x256 .f32) (v147 : FVec Ideal S512x1 .f32) (v165 : BitVec 32) (c0_i32_55 : BitVec 32) (v170 : BitVec 32) (c1_i32_57 : BitVec 32) (X_arg5 : BufTy.Contents (Elt Ideal) arg5.view.ty) (X_arg6 : BufTy.Contents (Elt Ideal) arg6.view.ty) (init : T8) (k : Fin (k0_t1_loop i).trips) :
    tripR_k0_t1 (F := Ideal) 𝒱 c bd i arg3 harg3 arg4 harg4 arg5 harg5 arg6 harg6 arg7 harg7 arg8 harg8 arg2 v4 v5 v9 v14 v43 v72 v76 v81 v110 v139 v140 v141 v142 v143 v144 v145 v146 v147 v165 c0_i32_55 v170 c1_i32_57 X_arg5 X_arg6 k init
      = tileU i arg2 c0_i32_55 c1_i32_57 v5 ![v14, v81] ![v43, v72, v110, v139] ![v9, v76] arg5 arg6 X_arg5 X_arg6 k init := by
  unfold tripR_k0_t1 trip_k0_t1
  rfl

/-- The state before trip `j` of the kernel's loop. -/
theorem loop_eq (𝒱 : Variants) (c : Dev nD) (bd : Option 𝒱.V) (i : grid0.Coords) (arg3 : Memref sig .tc .smem S8 .f32) (harg3 : arg3.IsWhole) (arg4 : Memref sig .tc .vmem S512x256 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S4x64 .f32) (harg7 : arg7.IsWhole) (arg8 : Memref sig .tc .vmem S512x256 .f32) (harg8 : arg8.IsWhole) (arg2 : BitVec 32) (v4 : FVec Ideal S512x512 .f32) (v5 : FVec Ideal S512x128 .bf16) (v9 : Elt Ideal .f32) (v14 : FVec Ideal S512x512 .f32) (v43 : FVec Ideal S512x128 .bf16) (v72 : FVec Ideal S512x128 .bf16) (v76 : Elt Ideal .f32) (v81 : FVec Ideal S512x512 .f32) (v110 : FVec Ideal S512x128 .bf16) (v139 : FVec Ideal S512x128 .bf16) (v140 : FVec Ideal S512x256 .f32) (v141 : FVec Ideal S512x1 .f32) (v142 : FVec Ideal S512x256 .f32) (v143 : FVec Ideal S512x1 .f32) (v144 : FVec Ideal S512x256 .f32) (v145 : FVec Ideal S512x1 .f32) (v146 : FVec Ideal S512x256 .f32) (v147 : FVec Ideal S512x1 .f32) (v165 : BitVec 32) (c0_i32_55 : BitVec 32) (v170 : BitVec 32) (c1_i32_57 : BitVec 32) (X_arg5 : BufTy.Contents (Elt Ideal) arg5.view.ty) (X_arg6 : BufTy.Contents (Elt Ideal) arg6.view.ty) (init : T8) (j : ℕ) (hj : j ≤ (k0_t1_loop i).trips) :
    st_k0_t1 (F := Ideal) 𝒱 c bd i arg3 harg3 arg4 harg4 arg5 harg5 arg6 harg6 arg7 harg7 arg8 harg8 arg2 v4 v5 v9 v14 v43 v72 v76 v81 v110 v139 v140 v141 v142 v143 v144 v145 v146 v147 v165 c0_i32_55 v170 c1_i32_57 X_arg5 X_arg6 init j
      = iterU i arg2 c0_i32_55 c1_i32_57 v5 ![v14, v81] ![v43, v72, v110, v139] ![v9, v76] arg5 arg6 X_arg5 X_arg6 init j := by
  induction j with
  | zero => rfl
  | succ j ih =>
    have h : j < (k0_t1_loop i).trips := hj
    refine (st_k0_t1_succ _ _ _ _ _ _ _ _ _ _ _ _ _ _ _ _ _ _ _ _ _ _ _ _ _ _ _ _ _ _ _ _ _ _ _ _ _ _ _ _ _ _  ⟨j, h⟩).trans ?_
    rw [trip_eq, ih (by omega), iterU, dif_pos h]

/-- The remainder loop makes no trip. -/
theorem rest_eq (𝒱 : Variants) (c : Dev nD) (bd : Option 𝒱.V) (i : grid0.Coords) (arg3 : Memref sig .tc .smem S8 .f32) (harg3 : arg3.IsWhole) (arg4 : Memref sig .tc .vmem S512x256 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S4x64 .f32) (harg7 : arg7.IsWhole) (arg8 : Memref sig .tc .vmem S512x256 .f32) (harg8 : arg8.IsWhole) (arg2 : BitVec 32) (v4 : FVec Ideal S512x512 .f32) (v5 : FVec Ideal S512x128 .bf16) (v9 : Elt Ideal .f32) (v14 : FVec Ideal S512x512 .f32) (v43 : FVec Ideal S512x128 .bf16) (v72 : FVec Ideal S512x128 .bf16) (v76 : Elt Ideal .f32) (v81 : FVec Ideal S512x512 .f32) (v110 : FVec Ideal S512x128 .bf16) (v139 : FVec Ideal S512x128 .bf16) (v140 : FVec Ideal S512x256 .f32) (v141 : FVec Ideal S512x1 .f32) (v142 : FVec Ideal S512x256 .f32) (v143 : FVec Ideal S512x1 .f32) (v144 : FVec Ideal S512x256 .f32) (v145 : FVec Ideal S512x1 .f32) (v146 : FVec Ideal S512x256 .f32) (v147 : FVec Ideal S512x1 .f32) (v165 : BitVec 32) (c0_i32_55 : BitVec 32) (v170 : BitVec 32) (c1_i32_57 : BitVec 32) (X_arg5 : BufTy.Contents (Elt Ideal) arg5.view.ty) (X_arg6 : BufTy.Contents (Elt Ideal) arg6.view.ty) (init : T8) (j : ℕ) (hj : j = 0) :
    st_k0_t2 (F := Ideal) 𝒱 c bd i arg3 harg3 arg4 harg4 arg5 harg5 arg6 harg6 arg7 harg7 arg8 harg8 arg2 v4 v5 v9 v14 v43 v72 v76 v81 v110 v139 v140 v141 v142 v143 v144 v145 v146 v147 v165 c0_i32_55 v170 c1_i32_57 X_arg5 X_arg6 init j = init := by
  subst hj; rfl

/-- The remainder loop has no trip at any grid point. -/
theorem rest_trips : ∀ t : Fin grid0.N, (k0_t2_loop (grid0.coords t)).trips = 0 := by decide +kernel

/-- The masked tile, whose distance is `d`. -/
def tileM (i : grid0.Coords) (d : Ideal .f32) (o : FVec Ideal S512x128 .bf16) (b : Fin 2 → FVec Ideal S512x512 .f32) (q : Fin 4 → FVec Ideal S512x128 .bf16) (s : Fin 2 → Ideal .f32)
    (arg5 arg6 : Memref sig .tc .vmem S1x4096x128 .f32) (X5 : BufTy.Contents (Elt Ideal) arg5.view.ty) (X6 : BufTy.Contents (Elt Ideal) arg6.view.ty)
    (a : T8) : T8 :=
  mapT (fun n => masked (cmpf .ole (k0_pay42 (F := Ideal)) (broadcast S512x512 d))
      (scores b q (ktile arg5 X5 (k0_off4 i) (k0_off4_inb i)) n))
    ![shift (s 0) d, shift (s 1) d] (vtile o arg6 X6 (k0_off4 i) (k0_off4_inb i)) a

/-- The two slabs of queries, scaled. -/
def slab (arg4 : Memref sig .tc .vmem S512x256 .f32) (X4 : BufTy.Contents (Elt Ideal) arg4.view.ty) : Fin 2 → FVec Ideal S512x128 .f32 :=
  ![k0_pay44 (View.readAt (Elt Ideal) arg4.view (Rect.unit (s := S512x256) ![0, 0] S512x128.size inb_S512x256_S512x128_0_0).toLoadRect X4),
    k0_pay44 (View.readAt (Elt Ideal) arg4.view (Rect.unit (s := S512x256) ![0, 128] S512x128.size inb_S512x256_S512x128_0_128).toLoadRect X4)]

/-- The four chains' queries. -/
def queries (sl : Fin 2 → FVec Ideal S512x128 .f32) : Fin 4 → FVec Ideal S512x128 .bf16 :=
  ![qsel 0#32 (sl 0), qsel 1#32 (sl 0), qsel 0#32 (sl 1), qsel 1#32 (sl 1)]

/-- The two group heads' bias inside a tile. -/
def bias (s : Fin 2 → Ideal .f32) : Fin 2 → FVec Ideal S512x512 .f32 := ![k0_pay45 (s 0), k0_pay45 (s 1)]

/-- The two group heads' slopes at a grid point. -/
def slopes (c : Dev nD) (i : grid0.Coords) (arg3 : Memref sig .tc .smem S8 .f32) (harg3 : arg3.IsWhole) (x0 : Vec Ideal S8 .f32) : Fin 2 → Ideal .f32 :=
  ![kernelRun0_A.sl.r (F := Ideal) c i arg3 harg3 x0, kernelRun0_A.sl.r_3 (F := Ideal) c i arg3 harg3 x0]

/-- The state before any tile. -/
def zero8 : T8 := (k0_pay58, k0_pay59, k0_pay58, k0_pay59, k0_pay58, k0_pay59, k0_pay58, k0_pay59)

/-- The tile number of a block of queries: as many tiles lie before it. -/
def tileNo (i : grid0.Coords) : BitVec 32 := kernelRun0_A.sl.v165 i

/-- The state after every tile. -/
def final8 (i : grid0.Coords) (s : Fin 2 → Ideal .f32) (q : Fin 4 → FVec Ideal S512x128 .bf16)
    (arg5 arg6 : Memref sig .tc .vmem S1x4096x128 .f32) (X5 : BufTy.Contents (Elt Ideal) arg5.view.ty) (X6 : BufTy.Contents (Elt Ideal) arg6.view.ty) : T8 :=
  tileM i (k0_pay70 (F := Ideal) (BitVec.ofNat 32 (i 2).val) (tileNo i)) k0_pay43 (bias s) q s arg5 arg6 X5 X6
    (iterU i (BitVec.ofNat 32 (i 2).val) 0#32 1#32 k0_pay43 (bias s) q s arg5 arg6 X5 X6 zero8 (k0_t1_loop i).trips)

/-- The two stores of a grid point, the last first. -/
def stores (lam : FVec Ideal S1x1 .f32) (T : T8) : List (View.Piece (Elt Ideal) S512x256 .f32) :=
  [⟨Rect.unit (s := S512x256) ![0, 128] S512x128.size inb_S512x256_S512x128_0_128, k0_pay1 (F := Ideal) T.2.2.2.2.1 T.2.2.2.2.2.2.1 lam⟩,
   ⟨Rect.unit (s := S512x256) ![0, 0] S512x128.size inb_S512x256_S512x128_0_0, k0_pay1 (F := Ideal) T.1 T.2.2.1 lam⟩]

/-- The share of the second softmax, as the kernel computes it. -/
def lamOf (arg7 : Memref sig .tc .vmem S4x64 .f32) (X7 : BufTy.Contents (Elt Ideal) arg7.view.ty) : FVec Ideal S1x1 .f32 :=
  k0_pay79 (View.readAt (Elt Ideal) arg7.view (Rect.unit (s := S4x64) ![0, 0] S4x64.size inb_S4x64_S4x64_0_0).toLoadRect X7)

/-- The queries as the run spells them. -/
def wordsQ (c : Dev nD) (arg4 : Memref sig .tc .vmem S512x256 .f32) (harg4 : arg4.IsWhole) (x1 : Vec Ideal S512x256 .f32) :
    Fin 4 → FVec Ideal S512x128 .bf16 :=
  ![kernelRun0_A.sl.r_4 (F := Ideal) c arg4 harg4 x1, kernelRun0_A.sl.r_5 (F := Ideal) c arg4 harg4 x1, kernelRun0_A.sl.r_8 (F := Ideal) c arg4 harg4 x1, kernelRun0_A.sl.r_9 (F := Ideal) c arg4 harg4 x1]

theorem wordsQ_eq (c : Dev nD) (arg4 : Memref sig .tc .vmem S512x256 .f32) (harg4 : arg4.IsWhole) (x1 : Vec Ideal S512x256 .f32) :
    wordsQ c arg4 harg4 x1 = queries (slab arg4 (harg4.unread x1)) := by
  unfold wordsQ queries
  congr 1

set_option maxHeartbeats 2000000 in
/-- What the kernel leaves in its block at a grid point: the two stores of the final state. -/
theorem outs_eq (m : (ℓ : Loc nD τ sig) → Buf (Elt Ideal) ℓ) (c : Dev nD) (t : Fin grid0.N) :
    outsAt0 m c t = View.canon (stores (lamOf (ms0_4 t) ((hs0_4 t).unread (iblk m c 4 t))) (final8 (grid0.coords t)
      (slopes c (grid0.coords t) (ms0_0 t) (hs0_0 t) (iblk m c 0 t)) (queries (slab (ms0_1 t) ((hs0_1 t).unread (iblk m c 1 t))))
      (ms0_2 t) (ms0_3 t) ((hs0_2 t).unread (iblk m c 2 t)) ((hs0_3 t).unread (iblk m c 3 t)))) := by
  rw [← wordsQ_eq c (ms0_1 t) (hs0_1 t) (iblk m c 1 t)]
  unfold outsAt0 out0_A_5
  rw [View.read_writes_eq_canon _ _ _ (cover0_A_5 c _ _ _ _ _ _ _ _ _ _ _ _ _ _ _ _ _ _)]
  unfold kernelRun0_A
  dsimp only
  unfold kernelRun0_A.sl.r_19 kernelRun0_A.sl.r_23 kernelRun0_A.sl.r_22 kernelRun0_A.sl.r_26
  unfold kernelRun0_A.sl.r_10 kernelRun0_A.sl.r_11 kernelRun0_A.sl.r_12 kernelRun0_A.sl.r_13 kernelRun0_A.sl.r_14 kernelRun0_A.sl.r_15
  rw [rest_eq (hj := rest_trips t), loop_eq (hj := le_refl _)]
  rfl

end Cert.Proof.Df

end
-- ==== Proof.DfInv.lean ====
/-
  What the state of the differential attention kernel's loop holds after the first `J` key tiles, for every chain: the
  greatest score and the sums weighted by the exponentials relative to it.
-/
module

public import proofs.«01_k».proof.Proof.DfBody

@[expose] public section

set_option maxRecDepth 16384

noncomputable section

namespace Cert.Proof.Df
open Cert.Kernel4Ideal Cert.Kernel4Ideal.Gen
open Idealize.ShloMosaic Idealize.ShloMosaic.TcCoe Idealize.ShloMosaic.Tactic

/-- One chain's state after the keys before `512 J`: `s` its scores by row, `V` the values by lane. -/
def Inv (s : Fin 512 → ℕ → EReal) (V : Fin 256 → ℕ → EReal) (J : ℕ) (acc : FVec Ideal S512x256 .f32) (mx : FVec Ideal S512x1 .f32) : Prop :=
  (∀ r : Fin 512, mx (ix2 r 0) = top (s r) (512 * J))
    ∧ ∀ (r : Fin 512) (l : Fin 256), acc (ix2 r l) = wsum (s r) (V l) (512 * J)

theorem sup_fin (n : ℕ) (f : ℕ → EReal) : (Finset.univ.sup fun j : Fin n => f j.val) = (Finset.range n).sup f := by
  apply le_antisymm
  · exact Finset.sup_le fun j _ => Finset.le_sup (f := f) (Finset.mem_range.mpr j.isLt)
  · exact Finset.sup_le fun j hj => Finset.le_sup (f := fun j : Fin n => f j.val) (Finset.mem_univ (⟨j, Finset.mem_range.mp hj⟩ : Fin n))

theorem sup_fin_add (n : ℕ) (f : Fin n → EReal) (g : ℕ → EReal) (w : ℝ) (h : ∀ j, f j + (w : EReal) = g j.val) :
    (Finset.univ.sup f) + (w : EReal) = (Finset.range n).sup g := by
  have e : f = fun j : Fin n => (fun k : ℕ => g k - (w : EReal)) j.val := by
    funext j
    show f j = g j.val - (w : EReal)
    rw [← h j]
    exact (EReal.add_sub_cancel_right).symm
  rw [e]
  refine (congrArg (· + (w : EReal)) (sup_fin n fun k => g k - (w : EReal))).trans ?_
  refine (sup_add_coe n _ w).trans ?_
  refine Finset.sup_congr rfl fun j _ => ?_
  exact EReal.sub_add_cancel

/-- A tile takes the state one tile up. -/
theorem Inv.step {s : Fin 512 → ℕ → EReal} {V : Fin 256 → ℕ → EReal} {J : ℕ} {acc : FVec Ideal S512x256 .f32} {mx : FVec Ideal S512x1 .f32}
    (h : Inv s V J acc mx) (hs : ∀ r n, s r n ≠ ⊤) (S : FVec Ideal S512x512 .f32) (w : Ideal .f32) (vt : FVec Ideal S512x256 .bf16)
    (wr : ℝ) (hw : w = (wr : EReal))
    (hS : ∀ r j : Fin 512, S (ix2 r j) + (wr : EReal) = s r (512 * J + j.val))
    (hv : ∀ (j : Fin 512) (l : Fin 256), vt (ix2 j l) = V l (512 * J + j.val)) :
    Inv s V (J + 1) (tacc S w mx acc vt) (tmax S w mx) := by
  subst hw
  have hmax : ∀ r : Fin 512, tmax S (wr : EReal) mx (ix2 r 0) = top (s r) (512 * (J + 1)) := fun r => by
    rw [tmax_at, h.1 r, Nat.mul_add, Nat.mul_one, top_add, sup_fin_add 512 _ (fun j => s r (512 * J + j)) wr (hS r)]
  refine ⟨hmax, fun r l => ?_⟩
  rw [tacc_at, hmax, h.1 r, h.2 r l, Nat.mul_add, Nat.mul_one, wsum_add _ _ (hs r), Finset.sum_range]
  congr 1
  refine Finset.sum_congr rfl fun j _ => ?_
  rw [hv, ← hS r j, sub_eq_add_neg, sub_eq_add_neg, add_assoc]

/-- Before any tile there is no score and no sum. -/
theorem Inv.start (s : Fin 512 → ℕ → EReal) (V : Fin 256 → ℕ → EReal) : Inv s V 0 (k0_pay58 (F := Ideal)) (k0_pay59 (F := Ideal)) := by
  refine ⟨fun r => ?_, fun r l => ?_⟩
  · unfold k0_pay59 top
    pointwise
    rw [mask_eq]
    simp
  · unfold k0_pay58 wsum
    pointwise
    simp

/-- A chain's sums, and its greatest score, in the state of the four chains. -/
def accOf (a : T8) : Fin 4 → FVec Ideal S512x256 .f32 := ![a.1, a.2.2.1, a.2.2.2.2.1, a.2.2.2.2.2.2.1]
def maxOf (a : T8) : Fin 4 → FVec Ideal S512x1 .f32 := ![a.2.1, a.2.2.2.1, a.2.2.2.2.2.1, a.2.2.2.2.2.2.2]

/-- The group head of a chain. -/
def gh (n : Fin 4) : Fin 2 := ⟨n.val / 2, by omega⟩

theorem accOf_mapT (S : Fin 4 → FVec Ideal S512x512 .f32) (w : Fin 2 → Ideal .f32) (vt : FVec Ideal S512x256 .bf16) (a : T8) (n : Fin 4) :
    accOf (mapT S w vt a) n = tacc (S n) (w (gh n)) (maxOf a n) (accOf a n) vt := by
  fin_cases n <;> rfl

theorem maxOf_mapT (S : Fin 4 → FVec Ideal S512x512 .f32) (w : Fin 2 → Ideal .f32) (vt : FVec Ideal S512x256 .bf16) (a : T8) (n : Fin 4) :
    maxOf (mapT S w vt a) n = tmax (S n) (w (gh n)) (maxOf a n) := by
  fin_cases n <;> rfl

theorem scores_eq (b : Fin 2 → FVec Ideal S512x512 .f32) (q : Fin 4 → FVec Ideal S512x128 .bf16) (k : FVec Ideal S512x128 .bf16) (n : Fin 4) :
    scores b q k n = score (b (gh n)) (q n) k := by
  fin_cases n <;> rfl

theorem bias_eq (s : Fin 2 → Ideal .f32) (g : Fin 2) : bias s g = k0_pay45 (F := Ideal) (s g) := by
  fin_cases g <;> rfl

theorem pair_eq (f : Ideal .f32 → Ideal .f32) (s : Fin 2 → Ideal .f32) (g : Fin 2) : (![f (s 0), f (s 1)] : Fin 2 → Ideal .f32) g = f (s g) := by
  fin_cases g <;> rfl

theorem accOf_zero8 (n : Fin 4) : accOf zero8 n = k0_pay58 := by fin_cases n <;> rfl
theorem maxOf_zero8 (n : Fin 4) : maxOf zero8 n = k0_pay59 := by fin_cases n <;> rfl

/-- A block of keys or values at key `n` and lane `l`, and zero past its end. -/
def rowOf (x : Vec Ideal S1x4096x128 .f32) (n l : ℕ) : EReal :=
  if h : n < 4096 ∧ l < 128 then x (ix3 0 ⟨n, h.1⟩ ⟨l, h.2⟩) else 0

theorem ktile_at (arg : Memref sig .tc .vmem S1x4096x128 .f32) (harg : arg.IsWhole) (x : Vec Ideal S1x4096x128 .f32)
    (off : Fin 3 → ℕ) (inb : ∀ a, off a + S1x512x128.size a ≤ S1x4096x128.size a) (J : ℕ) (hoff : off = ![0, 512 * J, 0])
    (j : Fin 512) (l : Fin 128) :
    ktile arg (harg.unread x) off inb (ix2 j l) = rowOf x (512 * J + j.val) l.val := by
  subst hoff
  have h1 : 512 * J + 512 ≤ 4096 := inb 1
  unfold ktile k0_pay2
  rw [View.readAt_eq_ld, harg.read_unread]
  rw [rowOf, dif_pos ⟨by have := j.isLt; omega, l.isLt⟩]
  pointwise

/-- The values of a lane of the sums: the first half carries the values, the second half ones. -/
def vals (x : Vec Ideal S1x4096x128 .f32) (l : Fin 256) (n : ℕ) : EReal := if l.val < 128 then rowOf x n l.val else 1

theorem vtile_at (arg : Memref sig .tc .vmem S1x4096x128 .f32) (harg : arg.IsWhole) (x : Vec Ideal S1x4096x128 .f32)
    (off : Fin 3 → ℕ) (inb : ∀ a, off a + S1x512x128.size a ≤ S1x4096x128.size a) (J : ℕ) (hoff : off = ![0, 512 * J, 0])
    (j : Fin 512) (l : Fin 256) :
    vtile k0_pay43 arg (harg.unread x) off inb (ix2 j l) = vals x l (512 * J + j.val) := by
  subst hoff
  have h1 : 512 * J + 512 ≤ 4096 := inb 1
  have h43 : ∀ (i : Fin 512) (l : Fin 128), k0_pay43 (F := Ideal) (ix2 i l) = 1 := fun i l => by
    unfold k0_pay43
    pointwise
  unfold vtile k0_pay3
  rw [View.readAt_eq_ld, harg.read_unread]
  unfold vals
  pointwise
  split_ifs with hl
  · rw [rowOf, dif_pos ⟨by have := j.isLt; omega, hl⟩]
  all_goals exact h43 _ _

/-- The loop's trips: the tiles before the block of queries. -/
theorem trips_eq : ∀ t : Fin grid0.N, (k0_t1_loop (grid0.coords t)).trips = (grid0.coords t 2).val := by decide +kernel
theorem offU_eq : ∀ (t : Fin grid0.N) (k : Fin (k0_t1_loop (grid0.coords t)).trips), k0_off2 (grid0.coords t) k = ![0, 512 * k.val, 0] := by
  decide +kernel
theorem offM_eq : ∀ t : Fin grid0.N, k0_off4 (grid0.coords t) = ![0, 512 * (grid0.coords t 2).val, 0] := by decide +kernel

theorem distU_int : ∀ (t : Fin grid0.N) (k : Fin (k0_t1_loop (grid0.coords t)).trips),
    (Scalar.subi (Scalar.muli (BitVec.ofNat 32 (grid0.coords t 2).val) 512#32) (Scalar.muli (Scf.iv 0#32 1#32 k) 512#32)).toInt
      = 512 * ((grid0.coords t 2).val : ℤ) - 512 * (k.val : ℤ) := by decide +kernel
theorem distM_int : ∀ t : Fin grid0.N,
    (Scalar.subi (Scalar.muli (BitVec.ofNat 32 (grid0.coords t 2).val) 512#32) (Scalar.muli (tileNo (grid0.coords t)) 512#32)).toInt = 0 := by
  decide +kernel

theorem distU (t : Fin grid0.N) (k : Fin (k0_t1_loop (grid0.coords t)).trips) :
    k0_pay4 (F := Ideal) (grid0.coords t) (BitVec.ofNat 32 (grid0.coords t 2).val) 0#32 1#32 k
      = ((512 * ((grid0.coords t 2).val : ℝ) - 512 * (k.val : ℝ) : ℝ) : EReal) := by
  refine (congrArg (fun z : ℤ => (((z : ℝ)) : EReal)) (distU_int t k)).trans ?_
  push_cast
  rfl

theorem distM (t : Fin grid0.N) :
    k0_pay70 (F := Ideal) (BitVec.ofNat 32 (grid0.coords t 2).val) (tileNo (grid0.coords t)) = ((0 : ℝ) : EReal) := by
  refine (congrArg (fun z : ℤ => (((z : ℝ)) : EReal)) (distM_int t)).trans ?_
  simp

theorem pay42_at (r j : Fin 512) : k0_pay42 (F := Ideal) (ix2 r j) = (((j.val : ℝ) - (r.val : ℝ) : ℝ) : EReal) := by
  unfold k0_pay42
  pointwise
  have h := toInt_sub_small j.val r.val (by omega) (by omega)
  refine (congrArg (fun z : ℤ => (((z : ℝ)) : EReal)) h).trans ?_
  push_cast
  rfl

theorem bias_at (s : Fin 2 → Ideal .f32) (sr : Fin 2 → ℝ) (hs : ∀ g, s g = (sr g : EReal)) (g : Fin 2) (r j : Fin 512) :
    bias s g (ix2 r j) = ((((j.val : ℝ) - (r.val : ℝ)) * sr g : ℝ) : EReal) := by
  rw [bias_eq]
  unfold k0_pay45
  pointwise
  rw [pay42_at, hs]
  exact (EReal.coe_mul _ _).symm

theorem shift_eq (s d : Ideal .f32) (sr dr : ℝ) (hs : s = (sr : EReal)) (hd : d = (dr : EReal)) :
    shift s d = ((-sr * dr : ℝ) : EReal) := by
  subst hs hd
  have h0 : (Scalar.ofBits (F := Ideal) .f32 0x00000000#32 : EReal) = 0 := Ideal.ofBits_zero_f32
  show ((Scalar.ofBits (F := Ideal) .f32 0x00000000#32 : EReal) - (sr : EReal)) * (dr : EReal) = _
  rw [h0, zero_sub, ← EReal.coe_neg, ← EReal.coe_mul]

/-- A chain's products with the keys. -/
def dots (q : FVec Ideal S512x128 .bf16) (x : Vec Ideal S1x4096x128 .f32) (r : Fin 512) (n : ℕ) : EReal :=
  ∑ l : Fin 128, q (ix2 r l) * rowOf x n l.val

/-- A row's scores: the product less the slope times the distance, and minus infinity for the keys after the row. -/
def sig (D : ℕ → EReal) (sr : ℝ) (t n : ℕ) : EReal :=
  if n ≤ t then D n + ((-sr * ((t : ℝ) - (n : ℝ)) : ℝ) : EReal) else ⊥

theorem sig_ne_top (D : ℕ → EReal) (hD : ∀ n, D n ≠ ⊤) (sr : ℝ) (t n : ℕ) : sig D sr t n ≠ ⊤ := by
  unfold sig
  split
  · intro h
    have := EReal.add_lt_top (hD n) (EReal.coe_ne_top (-sr * ((t : ℝ) - (n : ℝ))))
    exact absurd h this.ne
  · exact bot_ne_top

theorem ole_at (r j : Fin 512) : cmpf .ole (k0_pay42 (F := Ideal)) (broadcast S512x512 (((0 : ℝ) : EReal) : Ideal .f32)) (ix2 r j) = 1#1 ↔ j.val ≤ r.val := by
  show BitVec.ofBool (decide ((k0_pay42 (F := Ideal) (ix2 r j) : EReal) ≤ ((0 : ℝ) : EReal))) = 1#1 ↔ _
  rw [ofBool_eq_one, decide_eq_true_eq, pay42_at, EReal.coe_le_coe_iff, sub_nonpos, Nat.cast_le]

/-- After all tiles, every chain's state holds the greatest score and the sums over the keys up to the block's end. -/
theorem final_inv (t : Fin grid0.N) (s : Fin 2 → Ideal .f32) (sr : Fin 2 → ℝ) (hs : ∀ g, s g = (sr g : EReal)) (q : Fin 4 → FVec Ideal S512x128 .bf16)
    (arg5 : Memref Cert.Kernel4Ideal.sig .tc .vmem S1x4096x128 .f32) (harg5 : arg5.IsWhole) (x2 : Vec Ideal S1x4096x128 .f32)
    (arg6 : Memref Cert.Kernel4Ideal.sig .tc .vmem S1x4096x128 .f32) (harg6 : arg6.IsWhole) (x3 : Vec Ideal S1x4096x128 .f32)
    (n : Fin 4) (hD : ∀ r k, dots (q n) x2 r k ≠ ⊤) :
    Inv (fun r => sig (dots (q n) x2 r) (sr (gh n)) (512 * (grid0.coords t 2).val + r.val)) (vals x3) ((grid0.coords t 2).val + 1)
      (accOf (final8 (grid0.coords t) s q arg5 arg6 (harg5.unread x2) (harg6.unread x3)) n)
      (maxOf (final8 (grid0.coords t) s q arg5 arg6 (harg5.unread x2) (harg6.unread x3)) n) := by
  set qi := (grid0.coords t 2).val with hqi
  have hT : ∀ r k, sig (dots (q n) x2 r) (sr (gh n)) (512 * qi + r.val) k ≠ ⊤ := fun r k => sig_ne_top _ (hD r) _ _ _
  have key : ∀ J, J ≤ qi → Inv (fun r => sig (dots (q n) x2 r) (sr (gh n)) (512 * qi + r.val)) (vals x3) J
      (accOf (iterU (grid0.coords t) (BitVec.ofNat 32 qi) 0#32 1#32 k0_pay43 (bias s) q s arg5 arg6 (harg5.unread x2) (harg6.unread x3) zero8 J) n)
      (maxOf (iterU (grid0.coords t) (BitVec.ofNat 32 qi) 0#32 1#32 k0_pay43 (bias s) q s arg5 arg6 (harg5.unread x2) (harg6.unread x3) zero8 J) n) := by
    intro J
    induction J with
    | zero =>
      intro _
      rw [iterU, accOf_zero8, maxOf_zero8]
      exact Inv.start _ _
    | succ J ih =>
      intro hJ
      have hlt : J < (k0_t1_loop (grid0.coords t)).trips := by rw [trips_eq]; omega
      rw [iterU, dif_pos hlt]
      unfold tileU
      rw [accOf_mapT, maxOf_mapT, scores_eq, pair_eq (fun z => shift z (k0_pay4 (F := Ideal) (grid0.coords t) (BitVec.ofNat 32 qi) 0#32 1#32 ⟨J, hlt⟩)) s (gh n)]
      refine (ih (by omega)).step hT _ _ _ _ (shift_eq _ _ _ _ (hs (gh n)) (distU t ⟨J, hlt⟩)) (fun r j => ?_)
        (fun j l => vtile_at arg6 harg6 x3 _ _ J (offU_eq t ⟨J, hlt⟩) j l)
      have hr := r.isLt
      have hj := j.isLt
      rw [score_at, bias_at s sr hs, sig, if_pos (by omega), add_assoc, ← EReal.coe_add]
      congr 1
      · exact Finset.sum_congr rfl fun l _ => by rw [ktile_at arg5 harg5 x2 _ _ J (offU_eq t ⟨J, hlt⟩)]
      · congr 1
        push_cast
        ring
  have hfin := key (k0_t1_loop (grid0.coords t)).trips (trips_eq t).le
  have e : (k0_t1_loop (grid0.coords t)).trips = qi := trips_eq t
  unfold final8 tileM
  rw [distM, accOf_mapT, maxOf_mapT, scores_eq, pair_eq (fun z => shift z (((0 : ℝ) : EReal) : Ideal .f32)) s (gh n)]
  generalize iterU _ _ _ _ _ _ _ _ _ _ _ _ _ _ = A at hfin ⊢
  rw [e] at hfin
  refine hfin.step hT _ _ _ _ (shift_eq _ _ _ _ (hs (gh n)) rfl) (fun r j => ?_)
    (fun j l => vtile_at arg6 harg6 x3 _ _ qi (offM_eq t) j l)
  have hr := r.isLt
  have hj := j.isLt
  rw [masked_at, sig]
  simp only [ole_at]
  by_cases h : j.val ≤ r.val
  · rw [if_pos h, if_pos (by omega), score_at, bias_at s sr hs, add_assoc, ← EReal.coe_add]
    congr 1
    · exact Finset.sum_congr rfl fun l _ => by rw [ktile_at arg5 harg5 x2 _ _ qi (offM_eq t)]
    · congr 1
      push_cast
      ring
  · rw [if_neg h, if_neg (by omega), EReal.bot_add]

end Cert.Proof.Df

end
-- ==== Proof.MlKernel.lean ====
/-
  The stabilisers the sample's mLSTM keeps in its scratch: what each head writes there and what is read back at the end.
-/
module

public import proofs.«01_k».proof.Proof.Gen.Kernel8Ideal.Value
public import proofs.«01_k».proof.Proof.MlSpec
public import proofs.«01_k».proof.Proof.Head
public import proofs.«01_k».proof.Proof.DfInv
public import Idealize.ShloMosaic.Lib.Pointwise
public import Idealize.ShloMosaic.Lib.Pipeline.ValueKit

@[expose] public section

set_option maxRecDepth 16384

noncomputable section

namespace Cert.Proof.Ml
open Cert.Kernel8Ideal Cert.Kernel8Ideal.Gen
open Idealize.ShloMosaic Idealize.ShloMosaic.TcCoe Idealize.ShloMosaic.Tactic
open Stick

/-- The running sum as the kernel takes it: 128 products with ones and zeros, the rows past the four tokens holding zeros. -/
def bsum (f : ℕ → EReal) (t : ℕ) : EReal :=
  ∑ j : Fin 128, (if j.val ≤ t then (1 : EReal) else 0) * (if j.val < 4 then lsg (f j.val) else 0)

theorem bsum_eq (f : ℕ → EReal) (t : ℕ) : bsum f t = cum f (min t 3) := by
  unfold bsum cum
  refine (Fin.sum_univ_eq_sum_range (fun j => (if j ≤ t then (1 : EReal) else 0) * (if j < 4 then lsg (f j) else 0)) 128).trans ?_
  have e : ∀ j ∈ Finset.range (min t 3 + 1), lsg (f j) = (if j ≤ t then (1 : EReal) else 0) * (if j < 4 then lsg (f j) else 0) := by
    intro j hj
    have := Finset.mem_range.mp hj
    rw [if_pos (by omega), if_pos (by omega), one_mul]
  rw [Finset.sum_congr rfl e]
  refine (Finset.sum_subset (fun j hj => Finset.mem_range.mpr (by have := Finset.mem_range.mp hj; omega)) fun j _ hj => ?_).symm
  have hj' : ¬ j < min t 3 + 1 := fun h => hj (Finset.mem_range.mpr h)
  by_cases h1 : j ≤ t
  · rw [if_neg (show ¬ j < 4 by omega), mul_zero]
  · rw [if_neg h1, zero_mul]

/-- The kernel's stabiliser at the last of the 128 rows is the one after the four tokens. -/
theorem top_eq (m0 : EReal) (f g : ℕ → EReal) :
    max (bsum f 127 + m0) (Finset.univ.sup fun j : Fin 128 => bsum f 127 - bsum f j.val + (if j.val < 4 then g j.val else ⊥)) = stab m0 f g := by
  unfold stab
  rw [show bsum f 127 = cum f 3 from bsum_eq f 127]
  refine congrArg (max (cum f 3 + m0)) ?_
  rw [Df.sup_fin 128 fun j => cum f 3 - bsum f j + (if j < 4 then g j else ⊥)]
  apply le_antisymm
  · refine Finset.sup_le fun j _ => ?_
    by_cases h : j < 4
    · rw [if_pos h, bsum_eq, show min j 3 = j by omega]
      exact Finset.le_sup (f := fun s => cum f 3 - cum f s + g s) (Finset.mem_range.mpr h)
    · rw [if_neg h, EReal.add_bot]
      exact bot_le
  · refine Finset.sup_le fun j hj => ?_
    have h := Finset.mem_range.mp hj
    refine le_trans (le_of_eq ?_) (Finset.le_sup (f := fun j => cum f 3 - bsum f j + (if j < 4 then g j else ⊥)) (Finset.mem_range.mpr (show j < 128 by omega)))
    show _ = cum f 3 - bsum f j + (if j < 4 then g j else ⊥)
    rw [if_pos h, bsum_eq, show min j 3 = j by omega]

/-- The rows of the four tokens. -/
theorem pay19_at (t l : Fin 128) : k0_pay19 (ix2 t l) = BitVec.ofBool (decide (t.val < 4)) := by
  unfold k0_pay19
  pointwise
  show BitVec.ofBool (BitVec.slt _ _) = _
  rw [BitVec.slt_eq_decide, toInt_small _ (by omega)]
  simp

/-- The lanes of the forget gates at those rows. -/
theorem pay21_at (t l : Fin 128) (h4 : 4 ≤ l.val) (h8 : l.val < 8) : k0_pay21 (ix2 t l) = BitVec.ofBool (decide (t.val < 4)) := by
  unfold k0_pay21
  generalize hw : k0_pay19 = w
  pointwise
  subst hw
  rw [pay19_at]
  have e1 : IntOp.cmpi CmpIPredicate.sge (BitVec.ofNat 32 l.val) 4#32 = 1#1 := by
    show BitVec.ofBool (BitVec.sle _ _) = _
    rw [BitVec.sle_eq_decide, toInt_small l.val (by omega)]
    simp [h4]
  have e2 : IntOp.cmpi CmpIPredicate.slt (BitVec.ofNat 32 l.val) 8#32 = 1#1 := by
    show BitVec.ofBool (BitVec.slt _ _) = _
    rw [BitVec.slt_eq_decide, toInt_small _ (by omega)]
    simp [h8]
  rw [e1, e2]
  cases decide (t.val < 4) <;> rfl

/-- Which rows a row sees. -/
theorem pay23_at (t s : Fin 128) : k0_pay23 (ix2 t s) = BitVec.ofBool (decide (s.val ≤ t.val)) := by
  unfold k0_pay23
  pointwise
  show BitVec.ofBool (BitVec.sle _ _) = _
  rw [BitVec.sle_eq_decide, toInt_small _ (by omega), toInt_small _ (by omega)]
  simp

theorem pay22_at (x : Vec Ideal S128x128 .f32) (y : Vec Ideal S1x128 .f32) (t l : Fin 128) :
    k0_pay22 (F := Ideal) x y (ix2 t l) = lsg (k0_pay18 (F := Ideal) x y (ix2 t l)) := by
  unfold k0_pay22 lsg
  generalize k0_pay18 (F := Ideal) x y = z
  pointwise
  simp only [zero_sub, sub_zero]
  rfl

/-- The input gates, minus infinity past the four tokens. -/
theorem pay20_at (x : Vec Ideal S128x128 .f32) (y : Vec Ideal S1x128 .f32) (t l : Fin 128) :
    k0_pay20 (F := Ideal) x y (ix2 t l) = if t.val < 4 then k0_pay18 (F := Ideal) x y (ix2 t l) else ⊥ := by
  unfold k0_pay20
  generalize k0_pay18 (F := Ideal) x y = z
  generalize hw : k0_pay19 = w
  pointwise
  subst hw
  rw [pay19_at, select_ofBool]
  exact congrArg (fun v => if t.val < 4 then z (ix2 t l) else v) (IdealRules.named_const.ideal_named_scalar _ _ _ _ rfl)

theorem bit01 (p : Prop) [Decidable p] :
    ((((BitVec.setWidth 32 (BitVec.ofBool (decide p))).toInt : ℤ) : ℝ) : EReal) = if p then 1 else 0 := by
  by_cases h : p
  · have h1 : (BitVec.setWidth 32 (BitVec.ofBool true)).toInt = 1 := by decide
    rw [if_pos h, decide_eq_true h, h1]
    simp
  · have h1 : (BitVec.setWidth 32 (BitVec.ofBool false)).toInt = 0 := by decide
    rw [if_neg h, decide_eq_false h, h1]
    simp

theorem mm_at (a b : FVec Ideal S128x128 .f32) (t l : Fin 128) :
    matmul (F := Ideal) (φ₂ := .f32) dot_S128x128_S128x128_S128x128_1_0_0_1_n_n (some .fp32) a b (constant S128x128 .f32 0x00000000#32) (ix2 t l)
      = ∑ j : Fin 128, a (ix2 t j) * b (ix2 j l) := by
  pointwise

/-- The running sums, at a forget gate's lane. -/
theorem pay24_at (x : Vec Ideal S128x128 .f32) (y : Vec Ideal S1x128 .f32) (z : ℕ → ℕ → EReal)
    (hz : ∀ t l : Fin 128, t.val < 4 → k0_pay18 (F := Ideal) x y (ix2 t l) = z t.val l.val) (t l : Fin 128) (h4 : 4 ≤ l.val) (h8 : l.val < 8) :
    k0_pay24 (F := Ideal) k0_pay21 (k0_pay22 (F := Ideal) x y) (FloatOps.ofBits .f32 0#32) (ix2 t l) = bsum (fun j => z j l.val) t.val := by
  unfold k0_pay24 bsum
  refine (mm_at _ _ t l).trans (Finset.sum_congr rfl fun j _ => ?_)
  refine congrArg₂ (· * ·) ?_ ?_
  · refine Eq.trans ?_ (bit01 (j.val ≤ t.val))
    rw [← pay23_at]
    rfl
  · refine Eq.trans (b := Scalar.select (k0_pay21 (ix2 j l)) (k0_pay22 (F := Ideal) x y (ix2 j l)) (FloatOps.ofBits .f32 0#32 : Ideal .f32)) rfl ?_
    rw [pay21_at j l h4 h8, select_ofBool, pay22_at]
    by_cases h : j.val < 4
    · rw [if_pos h, if_pos h, hz j l h]
    · rw [if_neg h, if_neg h]
      exact Ideal.ofBits_zero .f32

/-- A head's stabilisers at every row: `o` its forget gate's lane, `p` its input gate's. -/
def headV (o p : ℕ) (h1 : S128x128.Slices ![0, o] S128x1) (h2 : S128x128.Slices ![o, 0] S1x128) (h3 : S128x128.Slices ![p, 0] S1x128)
    (C iT bT : FVec Ideal S128x128 .f32) (v : Vec Ideal S1x1 .f32) : FVec Ideal S128x1 .f32 :=
  maximumf (addf (extractStridedSlice S128x1 ![0, o] C h1) (broadcastTo S128x1 v broadcasts_S1x1_S128x1))
    (shapeCast S128x1 (multiReduction .maximumf [1] S128 (select k0_pay23
      (addf (subf (broadcastTo S128x128 (extractStridedSlice S128x1 ![0, o] C h1) broadcasts_S128x1_S128x128)
          (broadcastTo S128x128 (extractStridedSlice S1x128 ![o, 0] bT h2) broadcasts_S1x128_S128x128))
        (broadcastTo S128x128 (extractStridedSlice S1x128 ![p, 0] iT h3) broadcasts_S1x128_S128x128))
      (broadcast S128x128 (Named.named (F := Ideal) κ "mask" (φ := .f32) 0xF149F2CA#32))) 0xFF800000#32 reduces_S128x128_S128 (.inl rfl) rfl) shapeCasts_S128_S128x1)

theorem lane_at (o : ℕ) (ho : o < 128) (h1 : S128x128.Slices ![0, o] S128x1) (C : FVec Ideal S128x128 .f32) (t : Fin 128) :
    extractStridedSlice S128x1 ![0, o] C h1 (ix2 t 0) = C (ix2 t ⟨o, ho⟩) := by
  refine congrArg C (funext fun a => Fin.ext ?_)
  match a with
  | ⟨0, _⟩ => exact Nat.zero_add _
  | ⟨1, _⟩ => rfl

theorem row_at (o : ℕ) (ho : o < 128) (h2 : S128x128.Slices ![o, 0] S1x128) (C : FVec Ideal S128x128 .f32) (l : Fin 128) :
    extractStridedSlice S1x128 ![o, 0] C h2 (ix2 0 l) = C (ix2 ⟨o, ho⟩ l) := by
  refine congrArg C (funext fun a => Fin.ext ?_)
  match a with
  | ⟨0, _⟩ => rfl
  | ⟨1, _⟩ => exact Nat.zero_add _

theorem headV_at (o p : ℕ) (ho : o < 128) (hp : p < 128) (h1 : S128x128.Slices ![0, o] S128x1) (h2 : S128x128.Slices ![o, 0] S1x128)
    (h3 : S128x128.Slices ![p, 0] S1x128) (C iT bT : FVec Ideal S128x128 .f32) (v : Vec Ideal S1x1 .f32) :
    headV o p h1 h2 h3 C iT bT v (ix2 (127 : Fin 128) 0) = max (C (ix2 127 ⟨o, ho⟩) + v (ix2 0 0))
      (Finset.univ.sup fun j : Fin 128 => C (ix2 127 ⟨o, ho⟩) - bT (ix2 ⟨o, ho⟩ j) + iT (ix2 ⟨p, hp⟩ j)) := by
  unfold headV
  have e1 := lane_at o ho h1 C 127
  have e2 := row_at o ho h2 bT
  have e3 := row_at p hp h3 iT
  have e4 : ∀ j : Fin 128, k0_pay23 (ix2 127 j) = 1#1 := fun j => by
    rw [pay23_at, decide_eq_true (by have := j.isLt; show j.val ≤ 127; omega)]
    rfl
  generalize extractStridedSlice S128x1 ![0, o] C h1 = c1 at e1 ⊢
  generalize extractStridedSlice S1x128 ![o, 0] bT h2 = c2 at e2 ⊢
  generalize extractStridedSlice S1x128 ![p, 0] iT h3 = c3 at e3 ⊢
  generalize k0_pay23 = w at e4 ⊢
  pointwise
  simp only [e1, e2, e3, e4, Df.ninf]
  rfl

/-- A row of the scratch just written. -/
theorem row_hit (k : ℕ) (hk : k < 8) (inb : ∀ a, (![k, 0] : Fin 2 → ℕ) a + S1x128.size a ≤ S8x128.size a) (w : Vec Ideal S1x128 .f32)
    (L : List (View.Piece (Elt Ideal) S8x128 .f32)) (l : Fin 128) :
    View.canon (⟨Rect.unit (s := S8x128) ![k, 0] S1x128.size inb, w⟩ :: L) (ix2 (⟨k, hk⟩ : Fin 8) l) = w (ix2 0 l) := by
  refine Eq.trans (congrArg _ ?_) (View.canon_cons_emb (Rect.unit (s := S8x128) ![k, 0] S1x128.size inb) w L (ix2 0 l))
  refine funext fun a => Fin.ext ?_
  match a with
  | ⟨0, _⟩ => rfl
  | ⟨1, _⟩ => show l.val = 0 + 1 * l.val; omega

/-- The other rows are as they were. -/
theorem row_miss (k : ℕ) (inb : ∀ a, (![k, 0] : Fin 2 → ℕ) a + S1x128.size a ≤ S8x128.size a) (w : Vec Ideal S1x128 .f32)
    (L : List (View.Piece (Elt Ideal) S8x128 .f32)) (r : Fin 8) (hr : r.val ≠ k) (l : Fin 128) :
    View.canon (⟨Rect.unit (s := S8x128) ![k, 0] S1x128.size inb, w⟩ :: L) (ix2 r l) = View.canon L (ix2 r l) :=
  View.canon_cons_of_not_mem _ _ (Rect.not_mem_set_of_axis _ _ 0 k 1 rfl rfl rfl (by show r.val < k ∨ k + 1 ≤ r.val; omega))

theorem pay47_at (v : FVec Ideal S1x1 .f32) (l : Fin 128) : k0_pay47 (F := Ideal) v (ix2 0 l) = v (ix2 0 0) := by
  unfold k0_pay47
  pointwise

theorem pay40_at (v : FVec Ideal S128x1 .f32) : k0_pay40 (F := Ideal) v (ix2 0 0) = v (ix2 127 0) := by
  unfold k0_pay40
  pointwise

theorem pay8_at (v : Vec Ideal S8x128 .f32) (r : Fin 8) (l : Fin 128) : k0_pay8 (F := Ideal) v (ix3 0 r l) = v (ix2 r l) := by
  unfold k0_pay8
  pointwise

theorem pay12_at (v : Vec Ideal S1x8x128 .f32) (r : Fin 8) (l : Fin 128) : k0_pay12 (F := Ideal) v (ix2 r l) = v (ix3 0 r l) := by
  unfold k0_pay12
  pointwise

end Cert.Proof.Ml

end
-- ==== Proof.MlScratch.lean ====
/-
  The stabilisers the sample's mLSTM reads back from its scratch at the end of a grid point.
-/
module

public import proofs.«01_k».proof.Proof.MlKernel

@[expose] public section

set_option maxRecDepth 16384

noncomputable section

namespace Cert.Proof.Ml
open Cert.Kernel8Ideal Cert.Kernel8Ideal.Gen Cert.Kernel8Ideal.Gen.kernelRun0_A
open Idealize.ShloMosaic Idealize.ShloMosaic.TcCoe Idealize.ShloMosaic.Tactic
open Stick

theorem zero2 : (![0, 0] : Fin 2 → ℕ) = fun _ => 0 := by
  funext a; fin_cases a <;> rfl
theorem zero3 : (![0, 0, 0] : Fin 3 → ℕ) = fun _ => 0 := by
  funext a; fin_cases a <;> rfl

variable (c : Dev nD) (arg4 : Memref sig .tc .vmem S128x128 .f32) (harg4 : arg4.IsWhole)
  (arg8 : Memref sig .tc .vmem S1x8x128 .f32) (harg8 : arg8.IsWhole) (arg11 : Memref sig .tc .vmem S1x128 .f32) (harg11 : arg11.IsWhole)
  (arg19 : Memref sig .tc .vmem S8x128 .f32) (x2 : Vec Ideal S128x128 .f32) (x6 : Vec Ideal S1x8x128 .f32) (x9 : Vec Ideal S1x128 .f32)

/-- The scratch before the heads: the stabilisers as they came in. -/
theorem base_at (r : Fin 8) (l : Fin 128) : View.canon (sl.HS3_1 (F := Ideal) c arg8 harg8 x6) (ix2 r l) = x6 (ix3 0 r l) := by
  unfold sl.HS3_1
  rw [View.canon_unit_zero zero2]
  refine (pay12_at _ r l).trans ?_
  rw [View.readAt_eq_ld, harg8.read_unread, View.ld_unit_zero zero3]

theorem r3_eq : sl.r_3 (F := Ideal) c arg4 harg4 arg11 harg11 x2 x9 = k0_pay20 (F := Ideal) x2 x9 := by
  unfold sl.r_3
  rw [View.readAt_eq_ld, harg4.read_unread, View.ld_unit_zero zero2, View.readAt_eq_ld, harg11.read_unread, View.ld_unit_zero zero2]

theorem r4_eq : sl.r_4 (F := Ideal) c arg4 harg4 arg11 harg11 x2 x9 = k0_pay22 (F := Ideal) x2 x9 := by
  unfold sl.r_4
  rw [View.readAt_eq_ld, harg4.read_unread, View.ld_unit_zero zero2, View.readAt_eq_ld, harg11.read_unread, View.ld_unit_zero zero2]

/-- The running sums of the grid point. -/
def sums : FVec Ideal S128x128 .f32 := k0_pay24 (F := Ideal) k0_pay21 (k0_pay22 (F := Ideal) x2 x9) (FloatOps.ofBits .f32 0#32)

/-- A head's stabilisers at the grid point. -/
def headW (o p : ℕ) (h1 : S128x128.Slices ![0, o] S128x1) (h2 : S128x128.Slices ![o, 0] S1x128) (h3 : S128x128.Slices ![p, 0] S1x128)
    (v : Vec Ideal S1x1 .f32) : FVec Ideal S128x1 .f32 :=
  headV o p h1 h2 h3 (sums x2 x9) (transpose S128x128 [1, 0] (k0_pay20 (F := Ideal) x2 x9) transposes_S128x128_p1_0_S128x128)
    (transpose S128x128 [1, 0] (sums x2 x9) transposes_S128x128_p1_0_S128x128) v

theorem turn_at (w : FVec Ideal S128x128 .f32) (t l : Fin 128) :
    transpose S128x128 [1, 0] w transposes_S128x128_p1_0_S128x128 (ix2 t l) = w (ix2 l t) := by
  pointwise

/-- A head's last stabiliser is the one after the four tokens. -/
theorem headW_at (k : ℕ) (hk : k < 4) (h1 : S128x128.Slices ![0, 4 + k] S128x1) (h2 : S128x128.Slices ![4 + k, 0] S1x128)
    (h3 : S128x128.Slices ![k, 0] S1x128) (v : Vec Ideal S1x1 .f32) (z : ℕ → ℕ → EReal)
    (hz : ∀ t l : Fin 128, t.val < 4 → k0_pay18 (F := Ideal) x2 x9 (ix2 t l) = z t.val l.val) :
    headW x2 x9 (4 + k) k h1 h2 h3 v (ix2 127 0) = stab (v (ix2 0 0)) (fun j => z j (4 + k)) (fun j => z j k) := by
  unfold headW
  rw [headV_at (4 + k) k (by omega) (by omega)]
  have es : ∀ t : Fin 128, sums x2 x9 (ix2 t ⟨4 + k, by omega⟩) = bsum (fun j => z j (4 + k)) t.val := fun t =>
    pay24_at x2 x9 z hz t ⟨4 + k, by omega⟩ (Nat.le_add_right _ _) (by show 4 + k < 8; omega)
  refine Eq.trans ?_ (top_eq _ _ _)
  refine congrArg₂ max (congrArg₂ (· + ·) (es 127) rfl) (Finset.sup_congr rfl fun j _ => ?_)
  rw [turn_at, turn_at, es, es, pay20_at]
  refine congrArg₂ (α := EReal) (β := EReal) (· + ·) rfl ?_
  by_cases h : j.val < 4
  · rw [if_pos h, if_pos h, hz j _ h]
  · rw [if_neg h, if_neg h]

theorem r10_eq : sl.r_10 (F := Ideal) c arg4 harg4 arg8 harg8 arg11 harg11 arg19 x2 x6 x9
    = headW x2 x9 (4 + 0) 0 slices_S128x128_o0_4_S128x1 slices_S128x128_o4_0_S1x128 slices_S128x128_o0_0_S1x128
      (sl.v87 (F := Ideal) c arg8 harg8 arg19 x6) := by
  unfold sl.r_10
  rw [r3_eq, r4_eq]
  rfl

theorem r23_eq : sl.r_23 (F := Ideal) c arg4 harg4 arg8 harg8 arg11 harg11 arg19 x2 x6 x9
    = headW x2 x9 (4 + 1) 1 slices_S128x128_o0_5_S128x1 slices_S128x128_o5_0_S1x128 slices_S128x128_o1_0_S1x128
      (sl.v181 (F := Ideal) c arg4 harg4 arg8 harg8 arg11 harg11 arg19 x2 x6 x9) := by
  unfold sl.r_23 sl.r_5 sl.r_6 sl.r_7
  rw [r3_eq, r4_eq]
  rfl

theorem r36_eq : sl.r_36 (F := Ideal) c arg4 harg4 arg8 harg8 arg11 harg11 arg19 x2 x6 x9
    = headW x2 x9 (4 + 2) 2 slices_S128x128_o0_6_S128x1 slices_S128x128_o6_0_S1x128 slices_S128x128_o2_0_S1x128
      (sl.v275 (F := Ideal) c arg4 harg4 arg8 harg8 arg11 harg11 arg19 x2 x6 x9) := by
  unfold sl.r_36 sl.r_5 sl.r_6 sl.r_7
  rw [r3_eq, r4_eq]
  rfl

theorem r50_eq : sl.r_50 (F := Ideal) c arg4 harg4 arg8 harg8 arg11 harg11 arg19 x2 x6 x9
    = headW x2 x9 (4 + 3) 3 slices_S128x128_o0_7_S128x1 slices_S128x128_o7_0_S1x128 slices_S128x128_o3_0_S1x128
      (sl.v369 (F := Ideal) c arg4 harg4 arg8 harg8 arg11 harg11 arg19 x2 x6 x9) := by
  unfold sl.r_50 sl.r_5 sl.r_6 sl.r_7
  rw [r3_eq, r4_eq]
  rfl

/-- The place a head's stabiliser is read at. -/
theorem head_idx (k : ℕ) (hk : k < 8) (inb : ∀ a, (![k, 0] : Fin 2 → ℕ) a + S1x1.size a ≤ S8x128.size a) :
    (Rect.unit (s := S8x128) ![k, 0] S1x1.size inb).toLoadRect.idx (ix2 (0 : Fin 1) (0 : Fin 1)) = ix2 (⟨k, hk⟩ : Fin 8) (0 : Fin 128) := by
  refine funext fun a => Fin.ext ?_
  match a with
  | ⟨0, _⟩ => rfl
  | ⟨1, _⟩ => rfl

theorem v87_at : sl.v87 (F := Ideal) c arg8 harg8 arg19 x6 (ix2 0 0) = x6 (ix3 0 0 0) := by
  unfold sl.v87
  rw [View.readCov_eq_canon']
  exact (congrArg _ (head_idx 0 (by omega) _)).trans (base_at c arg8 harg8 x6 0 0)

theorem v181_at : sl.v181 (F := Ideal) c arg4 harg4 arg8 harg8 arg11 harg11 arg19 x2 x6 x9 (ix2 0 0) = x6 (ix3 0 1 0) := by
  unfold sl.v181
  rw [View.readCov_eq_canon']
  refine (congrArg _ (head_idx 1 (by omega) _)).trans ?_
  unfold sl.HS3_2
  exact (row_miss 0 _ _ _ 1 (by decide) 0).trans (base_at c arg8 harg8 x6 1 0)

theorem v275_at : sl.v275 (F := Ideal) c arg4 harg4 arg8 harg8 arg11 harg11 arg19 x2 x6 x9 (ix2 0 0) = x6 (ix3 0 2 0) := by
  unfold sl.v275
  rw [View.readCov_eq_canon']
  refine (congrArg _ (head_idx 2 (by omega) _)).trans ?_
  unfold sl.HS3_3 sl.HS3_2
  exact ((row_miss 1 _ _ _ 2 (by decide) 0).trans (row_miss 0 _ _ _ 2 (by decide) 0)).trans (base_at c arg8 harg8 x6 2 0)

theorem v369_at : sl.v369 (F := Ideal) c arg4 harg4 arg8 harg8 arg11 harg11 arg19 x2 x6 x9 (ix2 0 0) = x6 (ix3 0 3 0) := by
  unfold sl.v369
  rw [View.readCov_eq_canon']
  refine (congrArg _ (head_idx 3 (by omega) _)).trans ?_
  unfold sl.HS3_4 sl.HS3_3 sl.HS3_2
  exact (((row_miss 2 _ _ _ 3 (by decide) 0).trans (row_miss 1 _ _ _ 3 (by decide) 0)).trans (row_miss 0 _ _ _ 3 (by decide) 0)).trans
    (base_at c arg8 harg8 x6 3 0)

/-- What a head writes to its row. -/
theorem write_at (w : FVec Ideal S128x1 .f32) (l : Fin 128) : k0_pay47 (F := Ideal) (k0_pay40 (F := Ideal) w) (ix2 0 l) = w (ix2 127 0) :=
  (pay47_at _ l).trans (pay40_at w)

/-- The scratch at the end: the four heads' stabilisers, and the other rows as they came in. -/
theorem v470_at (z : ℕ → ℕ → EReal) (hz : ∀ t l : Fin 128, t.val < 4 → k0_pay18 (F := Ideal) x2 x9 (ix2 t l) = z t.val l.val)
    (r : Fin 8) (l : Fin 128) : sl.v470 (F := Ideal) c arg4 harg4 arg8 harg8 arg11 harg11 arg19 x2 x6 x9 (ix2 r l)
      = if r.val < 4 then stab (x6 (ix3 0 r 0)) (fun j => z j (4 + r.val)) (fun j => z j r.val) else x6 (ix3 0 r l) := by
  unfold sl.v470
  rw [View.readCov_eq_canon']
  have ei : (Rect.unit (s := S8x128) ![0, 0] S8x128.size inb_S8x128_S8x128_0_0).toLoadRect.idx (ix2 r l) = ix2 r l := by
    refine funext fun a => Fin.ext ?_
    match a with
    | ⟨0, _⟩ => show 0 + 1 * r.val = r.val; omega
    | ⟨1, _⟩ => show 0 + 1 * l.val = l.val; omega
  refine (congrArg _ ei).trans ?_
  unfold sl.HS3_5 sl.HS3_4 sl.HS3_3 sl.HS3_2
  by_cases h3 : r.val = 3
  · obtain rfl : r = 3 := Fin.ext h3
    refine (row_hit 3 (by omega) _ _ _ l).trans ((write_at (sl.r_50 (F := Ideal) c arg4 harg4 arg8 harg8 arg11 harg11 arg19 x2 x6 x9) l).trans ?_)
    rw [r50_eq, headW_at x2 x9 3 (by omega) _ _ _ _ z hz, v369_at]
    exact (if_pos (by decide)).symm
  refine (row_miss 3 _ _ _ r h3 l).trans ?_
  by_cases h2 : r.val = 2
  · obtain rfl : r = 2 := Fin.ext h2
    refine (row_hit 2 (by omega) _ _ _ l).trans ((write_at (sl.r_36 (F := Ideal) c arg4 harg4 arg8 harg8 arg11 harg11 arg19 x2 x6 x9) l).trans ?_)
    rw [r36_eq, headW_at x2 x9 2 (by omega) _ _ _ _ z hz, v275_at]
    exact (if_pos (by decide)).symm
  refine (row_miss 2 _ _ _ r h2 l).trans ?_
  by_cases h1 : r.val = 1
  · obtain rfl : r = 1 := Fin.ext h1
    refine (row_hit 1 (by omega) _ _ _ l).trans ((write_at (sl.r_23 (F := Ideal) c arg4 harg4 arg8 harg8 arg11 harg11 arg19 x2 x6 x9) l).trans ?_)
    rw [r23_eq, headW_at x2 x9 1 (by omega) _ _ _ _ z hz, v181_at]
    exact (if_pos (by decide)).symm
  refine (row_miss 1 _ _ _ r h1 l).trans ?_
  by_cases h0 : r.val = 0
  · obtain rfl : r = 0 := Fin.ext h0
    refine (row_hit 0 (by omega) _ _ _ l).trans ((write_at (sl.r_10 (F := Ideal) c arg4 harg4 arg8 harg8 arg11 harg11 arg19 x2 x6 x9) l).trans ?_)
    rw [r10_eq, headW_at x2 x9 0 (by omega) _ _ _ _ z hz, v87_at]
    exact (if_pos (by decide)).symm
  refine (row_miss 0 _ _ _ r h0 l).trans ((base_at c arg8 harg8 x6 r l).trans ?_)
  exact (if_neg (by omega)).symm

end Cert.Proof.Ml

end
-- ==== Proof.MlOut.lean ====
/-
  The stabilisers the sample's mLSTM leaves: the blocks the kernel reads, and its result array.
-/
module

public import proofs.«01_k».proof.Proof.MlScratch
public import Idealize.ShloMosaic.Lib.StableHlo.Run

@[expose] public section

set_option maxRecDepth 16384

noncomputable section

namespace Cert.Proof.Ml
open Cert.Kernel8Ideal Cert.Kernel8Ideal.Gen
open Idealize.ShloMosaic Idealize.ShloMosaic.TcCoe Idealize.ShloMosaic.Tactic Idealize.SL.Sem
open Stick

/-- The gates, each row's four tokens padded to 128. -/
def gatesV (x : Vec Ideal S128x128 .f32) : Vec Ideal S4096x128 .f32 :=
  shapeCast _ (pad S32x128x128 ![0, 0, 0] ![0, 124, 0] ![0, 0, 0] (shapeCast _ x shapeCasts_S128x128_S32x4x128)
    (sitofp (F := Ideal) .f32 (constantI S_ 32 0#32)) pads_S32x4x128_S32x128x128_000_01240_000 h_S_) shapeCasts_S32x128x128_S4096x128

/-- The stabilisers that come in, spread over the lanes and padded to eight rows. -/
def statesV (m0 : Vec Ideal S32x4 .f32) : Vec Ideal S32x8x128 .f32 :=
  pad S32x8x128 ![0, 0, 0] ![0, 4, 0] ![0, 0, 0] (broadcastInDim S32x4x128 ![0, 1, 2] bcast_S32x4x1_S32x4x128_0_1_2 (broadcastInDim S32x4x1 ![0, 1] bcast_S32x4_S32x4x1_0_1 m0))
    (sitofp (F := Ideal) .f32 (constantI S_ 32 0#32)) pads_S32x4x128_S32x8x128_000_040_000 h_S_

/-- The gates' biases in one row. -/
def biasV (bi bf : Vec Ideal S4 .f32) : Vec Ideal S1x128 .f32 :=
  shapeCast _ (pad S128 ![0] ![120] ![0] (concatenate S8 0 [⟨S4, bi⟩, ⟨S4, bf⟩] concatenates_S4_S4_S8_d0)
    (sitofp (F := Ideal) .f32 (constantI S_ 32 0#32)) pads_S8_S128_01200 h_S_) shapeCasts_S128_S1x128

variable (m : (ℓ : Loc nD τ sig) → Buf (Elt Ideal) ℓ) (c : Dev nD)

theorem V_v9 : V m c main_v9 = gatesV (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.append_nil, List.cons_append, List.nil_append]
  after_results_simp
  rfl

theorem V_v13 : V m c main_v13 = statesV (m ((c : Thread nD τ).loc main_arg6)) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.append_nil, List.cons_append, List.nil_append]
  after_results_simp
  rfl

theorem V_v16 : V m c main_v16 = biasV (m ((c : Thread nD τ).loc main_arg9)) (m ((c : Thread nD τ).loc main_arg10)) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, List.flatten_cons, List.flatten_nil, List.append_nil, List.cons_append, List.nil_append]
  after_results_simp
  rfl

theorem idx2 : ∀ t : Fin cfg0.N, win0_2.index t 0 = t.val ∧ win0_2.index t 1 = 0 :=
  (by decide +kernel : ∀ t : Fin grid0.N, win0_2.index t 0 = t.val ∧ win0_2.index t 1 = 0)
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx13 : ∀ t : Fin cfg0.N, win0_13.index t 0 = t.val ∧ win0_13.index t 1 = 0 ∧ win0_13.index t 2 = 0 :=
  (by decide +kernel : ∀ t : Fin grid0.N, win0_13.index t 0 = t.val ∧ win0_13.index t 1 = 0 ∧ win0_13.index t 2 = 0)

theorem lt_N (t : Fin cfg0.N) : t.val < 32 := t.isLt

theorem gatesV_at (x : Vec Ideal S128x128 .f32) (b : Fin 32) (s l : Fin 128) (hs : s.val < 4) :
    gatesV x (ix2 (⟨128 * b.val + s.val, by omega⟩ : Fin 4096) l) = x (ix2 (⟨4 * b.val + s.val, by omega⟩ : Fin 128) l) := by
  unfold gatesV
  pointwise
  rw [dif_pos hs]
  exact congrArg (fun i => x (ix2 i l)) (Fin.ext (by show b.val * 4 + s.val = 4 * b.val + s.val; omega))

theorem statesV_at (m0 : Vec Ideal S32x4 .f32) (b : Fin 32) (r : Fin 8) (l : Fin 128) :
    statesV m0 (ix3 b r l) = if h : r.val < 4 then m0 (ix2 b ⟨r.val, h⟩) else 0 := by
  unfold statesV
  pointwise
  split
  · rfl
  · show (((0#32 : BitVec 32).toInt : ℝ) : EReal) = 0
    simp

theorem biasV_at (bi bf : Vec Ideal S4 .f32) (l : Fin 128) (h8 : l.val < 8) :
    biasV bi bf (ix2 0 l) = if h : l.val < 4 then bi (ix1 ⟨l.val, h⟩) else bf (ix1 ⟨l.val - 4, by omega⟩) := by
  unfold biasV
  pointwise
  rw [dif_pos h8]

theorem blk2_at (t : Fin cfg0.N) (s l : Fin 128) (hs : s.val < 4) :
    iblk m c 2 t (ix2 s l) = m ((c : Thread nD τ).loc main_arg2) (ix2 (⟨4 * t.val + s.val, by have := lt_N t; omega⟩ : Fin 128) l) := by
  refine Eq.trans ?_ (gatesV_at (m ((c : Thread nD τ).loc main_arg2)) ⟨t.val, lt_N t⟩ s l hs)
  rw [← V_v9]
  blk_ext! [iblk, idx2 t]

theorem blk6_at (t : Fin cfg0.N) (r : Fin 8) (l : Fin 128) :
    iblk m c 6 t (ix3 0 r l) = if h : r.val < 4 then m ((c : Thread nD τ).loc main_arg6) (ix2 (⟨t.val, lt_N t⟩ : Fin 32) (⟨r.val, h⟩ : Fin 4)) else (0 : EReal) := by
  refine Eq.trans ?_ (statesV_at (m ((c : Thread nD τ).loc main_arg6)) ⟨t.val, lt_N t⟩ r l)
  rw [← V_v13]
  blk_ext! [iblk, idx6 t]

theorem blk9_at (t : Fin cfg0.N) (l : Fin 128) (h8 : l.val < 8) :
    iblk m c 9 t (ix2 0 l) = if h : l.val < 4 then m ((c : Thread nD τ).loc main_arg9) (ix1 (⟨l.val, h⟩ : Fin 4))
      else m ((c : Thread nD τ).loc main_arg10) (ix1 (⟨l.val - 4, by omega⟩ : Fin 4)) := by
  refine Eq.trans ?_ (biasV_at (m ((c : Thread nD τ).loc main_arg9)) (m ((c : Thread nD τ).loc main_arg10)) l h8)
  rw [← V_v16]
  blk_ext! [iblk, idx9 t]

theorem stab_congr (a : EReal) (f f' g g' : ℕ → EReal) (hf : ∀ j < 4, f j = f' j) (hg : ∀ j < 4, g j = g' j) : stab a f g = stab a f' g' := by
  have hc : ∀ t < 4, cum f t = cum f' t := fun t ht => Finset.sum_congr rfl fun j hj => congrArg lsg (hf j (by have := Finset.mem_range.mp hj; omega))
  unfold stab
  rw [hc 3 (by omega)]
  refine congrArg (max _) (Finset.sup_congr rfl fun s hs => ?_)
  have h := Finset.mem_range.mp hs
  rw [hc s h, hg s h]

theorem pay18_at (x : Vec Ideal S128x128 .f32) (y : Vec Ideal S1x128 .f32) (t l : Fin 128) :
    k0_pay18 (F := Ideal) x y (ix2 t l) = x (ix2 t l) + y (ix2 0 l) := by
  unfold k0_pay18
  pointwise

/-- A grid point's gates, by token and lane. -/
def zed (x : Vec Ideal S128x128 .f32) (y : Vec Ideal S1x128 .f32) (t l : ℕ) : EReal :=
  if h : t < 128 ∧ l < 128 then k0_pay18 (F := Ideal) x y (ix2 (⟨t, h.1⟩ : Fin 128) (⟨l, h.2⟩ : Fin 128)) else 0

theorem zed_at (t : Fin cfg0.N) (s l : ℕ) (hs : s < 4) (hl : l < 8) :
    zed (iblk m c 2 t) (iblk m c 9 t) s l = gate (m ((c : Thread nD τ).loc main_arg2))
      (if h : l < 4 then m ((c : Thread nD τ).loc main_arg9) (ix1 (⟨l, h⟩ : Fin 4))
        else m ((c : Thread nD τ).loc main_arg10) (ix1 (⟨l - 4, by omega⟩ : Fin 4))) t.val l s := by
  have ht := lt_N t
  unfold zed gate
  rw [dif_pos ⟨by omega, by omega⟩, dif_pos ⟨by omega, by omega⟩, pay18_at, blk2_at m c t _ _ hs, blk9_at m c t _ hl]

/-- What a grid point leaves in its block of the stabilisers. -/
theorem block_at (t : Fin cfg0.N) (r : Fin 8) (l : Fin 128) : (outsAt0 m c t).2.2.2 (ix3 0 r l)
    = stabAt (m ((c : Thread nD τ).loc main_arg2)) (m ((c : Thread nD τ).loc main_arg6)) (m ((c : Thread nD τ).loc main_arg9))
      (m ((c : Thread nD τ).loc main_arg10)) t.val r.val := by
  have ht := lt_N t
  refine Eq.trans (b := View.canon [⟨Rect.unit (s := S1x8x128) ![0, 0, 0] S1x8x128.size inb_S1x8x128_S1x8x128_0_0_0,
    k0_pay8 (F := Ideal) (kernelRun0_A.sl.v470 (F := Ideal) c (ms0_2 t) (hs0_2 t) (ms0_6 t) (hs0_6 t) (ms0_9 t) (hs0_9 t) scM0_3
      (iblk m c 2 t) (iblk m c 6 t) (iblk m c 9 t))⟩] (ix3 0 r l)) ?_ ?_
  · unfold outsAt0
    dsimp only
    unfold out0_A_13
    rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _)]
    unfold kernelRun0_A
    rfl
  rw [View.canon_unit_zero zero3]
  refine (pay8_at _ r l).trans ?_
  rw [v470_at c _ _ _ _ _ _ _ _ _ _ (zed (iblk m c 2 t) (iblk m c 9 t)) (fun s l _ => by rw [zed, dif_pos ⟨s.isLt, l.isLt⟩]) r l]
  unfold stabAt
  rw [blk6_at, blk6_at]
  by_cases h : r.val < 4
  · rw [if_pos h, dif_pos h, dif_pos ⟨ht, h⟩]
    refine stab_congr _ _ _ _ _ (fun j hj => ?_) fun j hj => ?_
    · rw [zed_at m c t j _ hj (by omega), dif_neg (by omega)]
      simp only [Nat.add_sub_cancel_left]
    · rw [zed_at m c t j _ hj (by omega), dif_pos h]
  · rw [if_neg h, dif_neg h, dif_neg (fun hb => h hb.2)]

/-- The kernel's array of stabilisers. -/
theorem out_eq : (dats m 0 c).arrAt 13 cfg0.N = fun i => stabAt (m ((c : Thread nD τ).loc main_arg2)) (m ((c : Thread nD τ).loc main_arg6))
    (m ((c : Thread nD τ).loc main_arg9)) (m ((c : Thread nD τ).loc main_arg10)) (i 0).val (i 1).val := by
  refine (dats m 0 c).arrAt_eq_of_covers 13 _ (by decide +kernel) fun t hf y => ?_
  rw [after0_13]
  blk_simp [idx13 t]
  have ey : (show S1x8x128.Idx from y) = ix3 (0 : Fin 1) (show Fin 8 from y 1) (show Fin 128 from y 2) := by
    funext a
    match a with
    | ⟨0, _⟩ => exact Fin.ext (by have := (show Fin 1 from y 0).isLt; show (show Fin 1 from y 0).val = 0; omega)
    | ⟨1, _⟩ => rfl
    | ⟨2, _⟩ => rfl
  exact (congrArg (outsAt0 m c t).2.2.2 ey).trans (block_at m c t _ _)

end Cert.Proof.Ml

end
-- ==== Proof.MlRef.lean ====
/-
  The reference's stabilisers of the sample's mLSTM, index by index.
-/
module

public import proofs.«01_k».proof.Proof.Gen.Reference8Ideal.Run
public import proofs.«01_k».proof.Proof.MlSpec
public import proofs.«01_k».proof.Proof.Ref
public import proofs.«01_k».proof.Proof.DfInv
public import Idealize.ShloMosaic.Lib.Pointwise
public import Idealize.ShloMosaic.Lib.Pipeline.ValueKit

@[expose] public section

set_option maxRecDepth 16384

noncomputable section

namespace Cert.Proof.MlR
open Cert.Reference8Ideal Cert.Reference8Ideal.Gen Cert.Reference8Ideal.Value
open Idealize.ShloMosaic Idealize.ShloMosaic.TcCoe Idealize.ShloMosaic.Tactic
open Stick Ml

/-- The array of zeros. -/
def oV : FVec Ideal S32x4x4 .f32 := broadcastInDim S32x4x4 ![] bcast_S_S32x4x4 (constant S_ .f32 0x00000000#32)

/-- The log-sigmoid, elementwise. -/
def lsV (x : FVec Ideal S32x4x4 .f32) : FVec Ideal S32x4x4 .f32 :=
  Host.negf (select (cmpf .une (subf (Host.negf x) oV) (subf (Host.negf x) oV)) (addf (Host.negf x) oV)
    (addf (maximumf (Host.negf x) oV) (Host.log1p (Host.exp (Host.negf (Host.absf (subf (Host.negf x) oV)))))))

/-- The input gates by head, then token. -/
def iV (x : FVec Ideal S128x128 .f32) (y : FVec Ideal S4 .f32) : FVec Ideal S32x4x4 .f32 :=
  transpose S32x4x4 [0, 2, 1] (addf (extractStridedSlice S32x4x4 ![0, 0, 0] (shapeCast _ x shapeCasts_S128x128_S32x4x128) slices_S32x4x128_S32x4x4_0_0_0)
    (broadcastInDim S32x4x4 ![0, 1, 2] bcast_S1x1x4_S32x4x4_0_1_2 (broadcastInDim S1x1x4 ![2] bcast_S4_S1x1x4_2 y))) transposes_S32x4x4_S32x4x4_0_2_1

/-- The logarithms of the forget gates by head, then token. -/
def fV (x : FVec Ideal S128x128 .f32) (y : FVec Ideal S4 .f32) : FVec Ideal S32x4x4 .f32 :=
  transpose S32x4x4 [0, 2, 1] (lsV (addf (extractStridedSlice S32x4x4 ![0, 0, 4] (shapeCast _ x shapeCasts_S128x128_S32x4x128) slices_S32x4x128_S32x4x4_0_0_4)
    (broadcastInDim S32x4x4 ![0, 1, 2] bcast_S1x1x4_S32x4x4_0_1_2 (broadcastInDim S1x1x4 ![2] bcast_S4_S1x1x4_2 y)))) transposes_S32x4x4_S32x4x4_0_2_1

/-- The running sums along the tokens. -/
def cV (x : FVec Ideal S32x4x4 .f32) : FVec Ideal S32x4x4 .f32 :=
  Host.reduceWindowAdd ![1, 1, 4] ![1, 1, 1] ![0, 0, 3] ![0, 0, 0] x (broadcastInDim S_ ![] bcast_S_S_ (constant S_ .f32 0x00000000#32))
    reduceWindows_S32x4x4_S32x4x4_w1s1p0_0_w1s1p0_0_w4s1p3_0 h_S_

/-- Which tokens a token sees. -/
def seenV : IVec S4x4 1 :=
  select (cmpi .sge (addi (iotaInDim S4x4 32 0) (broadcastInDim S4x4 ![] bcast_S_S4x4 (constantI S_ 32 0#32))) (iotaInDim S4x4 32 1))
    (broadcastInDim S4x4 ![] bcast_S_S4x4 (constantI S_ 1 1#1)) (broadcastInDim S4x4 ![] bcast_S_S4x4 (constantI S_ 1 0#1))

/-- The logarithms of the weights, from the running sums and the input gates. -/
def dV (b i : FVec Ideal S32x4x4 .f32) : FVec Ideal S32x4x4x4 .f32 :=
  select (broadcastInDim S32x4x4x4 ![2, 3] bcast_S4x4_S32x4x4x4_2_3 seenV)
    (addf (subf (broadcastInDim S32x4x4x4 ![0, 1, 2, 3] bcast_S32x4x4x1_S32x4x4x4_0_1_2_3 (broadcastInDim S32x4x4x1 ![0, 1, 2] bcast_S32x4x4_S32x4x4x1_0_1_2 b))
        (broadcastInDim S32x4x4x4 ![0, 1, 2, 3] bcast_S32x4x1x4_S32x4x4x4_0_1_2_3 (broadcastInDim S32x4x1x4 ![0, 1, 3] bcast_S32x4x4_S32x4x1x4_0_1_3 b)))
      (broadcastInDim S32x4x4x4 ![0, 1, 2, 3] bcast_S32x4x1x4_S32x4x4x4_0_1_2_3 (broadcastInDim S32x4x1x4 ![0, 1, 3] bcast_S32x4x4_S32x4x1x4_0_1_3 i)))
    (broadcastInDim S32x4x4x4 ![] bcast_S_S32x4x4x4 (id (constant S_ .f32 0xFF800000#32)))

/-- The stabilisers at every token. -/
def mV (b : FVec Ideal S32x4x4 .f32) (d : FVec Ideal S32x4x4x4 .f32) (m0 : FVec Ideal S32x4 .f32) : FVec Ideal S32x4x4 .f32 :=
  maximumf (addf b (broadcastInDim S32x4x4 ![0, 1, 2] bcast_S32x4x1_S32x4x4_0_1_2 (broadcastInDim S32x4x1 ![0, 1] bcast_S32x4_S32x4x1_0_1 m0)))
    (Host.reduce FloatOps.maximumf d (constant S_ .f32 0xFF800000#32) reducesTo_S32x4x4x4_S32x4x4_d3 h_S_)

/-- The last token's stabilisers, with the padding rows. -/
def outV (w : FVec Ideal S32x4x4 .f32) : FVec Ideal S32x8x128 .f32 :=
  concatenate S32x8x128 1 [⟨S32x4x128, (broadcastInDim S32x4x128 ![0, 1, 2] bcast_S32x4x1_S32x4x128_0_1_2 (broadcastInDim S32x4x1 ![0, 1] bcast_S32x4_S32x4x1_0_1
      (shapeCast _ (extractStridedSlice S32x4x1 ![0, 0, 3] w slices_S32x4x4_S32x4x1_0_0_3) shapeCasts_S32x4x1_S32x4)))⟩,
    ⟨S32x4x128, (broadcastInDim S32x4x128 ![] bcast_S_S32x4x128 (constant S_ .f32 0x00000000#32))⟩] concatenates_S32x4x128_S32x4x128_S32x8x128_d1

variable (m : (ℓ : Loc nD τ sig) → Buf (Elt Ideal) ℓ) (c : Dev nD)

theorem res_eq : res_main_v34 (F := Ideal) m c = outV (mV (cV (fV (m ((c.tc : Thread nD τ).loc main_arg2)) (m ((c.tc : Thread nD τ).loc main_arg10))))
    (dV (cV (fV (m ((c.tc : Thread nD τ).loc main_arg2)) (m ((c.tc : Thread nD τ).loc main_arg10))))
      (iV (m ((c.tc : Thread nD τ).loc main_arg2)) (m ((c.tc : Thread nD τ).loc main_arg9))))
    (m ((c.tc : Thread nD τ).loc main_arg6))) := rfl

theorem lsV_at (x : FVec Ideal S32x4x4 .f32) (b : Fin 32) (t h : Fin 4) : lsV x (ix3 b t h) = lsg (x (ix3 b t h)) := by
  unfold lsV oV lsg
  pointwise
  rw [if_neg (by simp)]
  rfl

theorem iV_at (x : FVec Ideal S128x128 .f32) (y : FVec Ideal S4 .f32) (b : Fin 32) (h t : Fin 4) :
    iV x y (ix3 b h t) = gate x (y (ix1 h)) b.val h.val t.val := by
  unfold iV gate
  pointwise
  rw [dif_pos (by omega)]
  congr 2
  first | done | (congr 1 <;> apply Fin.ext <;> dsimp only <;> omega)

theorem turn_at (x : FVec Ideal S32x4x4 .f32) (b : Fin 32) (h t : Fin 4) :
    transpose S32x4x4 [0, 2, 1] x transposes_S32x4x4_S32x4x4_0_2_1 (ix3 b h t) = x (ix3 b t h) := by
  pointwise

theorem fV_at (x : FVec Ideal S128x128 .f32) (y : FVec Ideal S4 .f32) (b : Fin 32) (h t : Fin 4) :
    fV x y (ix3 b h t) = lsg (gate x (y (ix1 h)) b.val (4 + h.val) t.val) := by
  unfold fV
  refine (turn_at _ b h t).trans ((lsV_at _ b t h).trans (congrArg lsg ?_))
  unfold gate
  pointwise
  rw [dif_pos (by omega)]
  congr 2
  first | done | (congr 1 <;> apply Fin.ext <;> dsimp only <;> omega)

theorem seenV_at : ∀ t s : Fin 4, seenV (ix2 t s) = BitVec.ofBool (decide (s.val ≤ t.val)) := by
  intro t s
  unfold seenV
  pointwise
  revert t s
  decide +kernel

theorem dV_at (b i : FVec Ideal S32x4x4 .f32) (r : Fin 32) (h t s : Fin 4) :
    dV b i (ix4 r h t s) = if s.val ≤ t.val then b (ix3 r h t) - b (ix3 r h s) + i (ix3 r h s) else ⊥ := by
  unfold dV
  generalize hs : seenV = w
  pointwise
  subst hs
  rw [seenV_at, select_ofBool]
  rfl

/-- The window of the running sum. -/
abbrev W : Shape := ⟨3, ![1, 1, 4]⟩

theorem W_numel : W.numel = 4 := by decide +kernel

theorem W_symm (n : Fin W.numel) : W.rowMajor.symm n = ix3 (0 : Fin 1) (0 : Fin 1) (n.cast W_numel) :=
  (W.rowMajor.symm_apply_eq).2 (Fin.ext (by
    rw [rowMajor_val3 _ 4 4 rfl rfl]
    show n.val = _ + _ + n.val
    simp [ix3]))

theorem range_window (f : ℕ → EReal) (t : Fin 4) :
    (∑ n : Fin 4, if 3 ≤ t.val + n.val then f (t.val + n.val - 3) else 0) = ∑ j ∈ Finset.range (t.val + 1), f j := by
  fin_cases t <;> simp [Fin.sum_univ_succ, Finset.sum_range_succ, add_assoc]

/-- The running sum along the last axis, read at an index. -/
theorem cV_at (x : FVec Ideal S32x4x4 .f32) (b : Fin 32) (h t : Fin 4) (f : ℕ → EReal) (hx : ∀ j : Fin 4, x (ix3 b h j) = f j.val) :
    cV x (ix3 b h t) = ∑ j ∈ Finset.range (t.val + 1), f j := by
  have ht := t.isLt
  unfold cV Host.reduceWindowAdd
  rw [Ideal.hostReduceWindowAdd_def]
  unfold Ideal.hostReduceWindowAdd Host.reduceWindow
  refine (Ref.foldl_add _ _ _).trans ?_
  rw [show (broadcastInDim S_ ![] bcast_S_S_ (constant S_ .f32 0x00000000#32) : FVec Ideal S_ .f32) _ = (0 : EReal) from by pointwise, zero_add, ← Fin.sum_univ_def]
  refine (Finset.sum_congr (g := fun n : Fin W.numel => if 3 ≤ t.val + n.val then f (t.val + n.val - 3) else 0) rfl fun n _ => ?_).trans ?_
  · have hn : n.val < 4 := (n.cast W_numel).isLt
    have hw := W_symm n
    split
    · next hin =>
      have h3 := hin 2
      rw [hw] at h3
      change 3 ≤ t.val * 1 + n.val ∧ t.val * 1 + n.val - 3 < 4 at h3
      rw [if_pos (by omega)]
      refine (congrArg x (funext fun a => Fin.ext ?_)).trans (hx ⟨t.val + n.val - 3, by omega⟩)
      refine (congrArg (fun v : W.Idx => (ix3 b h t a).val * (![1, 1, 1] : Fin 3 → ℕ) a + (v a).val - (![0, 0, 3] : Fin 3 → ℕ) a) hw).trans ?_
      match a with
      | ⟨0, _⟩ => exact (Nat.mul_one _)
      | ⟨1, _⟩ => exact (Nat.mul_one _)
      | ⟨2, _⟩ => exact (congrArg (fun v => v + n.val - 3) (Nat.mul_one t.val))
    · next hin =>
      rw [if_neg]
      intro hlt
      refine hin fun a => ?_
      rw [hw]
      match a with
      | ⟨0, _⟩ => exact ⟨Nat.zero_le _, by have := b.isLt; show b.val * 1 + 0 - 0 < 32; omega⟩
      | ⟨1, _⟩ => exact ⟨Nat.zero_le _, by have := h.isLt; show h.val * 1 + 0 - 0 < 4; omega⟩
      | ⟨2, _⟩ => exact ⟨by show 3 ≤ t.val * 1 + n.val; omega, by show t.val * 1 + n.val - 3 < 4; omega⟩
  · refine Eq.trans ?_ (range_window f t)
    exact Fintype.sum_equiv (finCongr W_numel) _ _ fun n => rfl

theorem red_at (d : FVec Ideal S32x4x4x4 .f32) (r : Fin 32) (h t : Fin 4) :
    Host.reduce FloatOps.maximumf d (constant S_ .f32 0xFF800000#32) reducesTo_S32x4x4x4_S32x4x4_d3 h_S_ (ix3 r h t)
      = Finset.univ.fold max (Ideal.ofBits FTy.f32 0xFF800000#32) fun k : Fin 4 => d (ix4 r h t k) := by
  simp only [pointwise]

theorem mV_at (b : FVec Ideal S32x4x4 .f32) (d : FVec Ideal S32x4x4x4 .f32) (m0 : FVec Ideal S32x4 .f32) (r : Fin 32) (h t : Fin 4) :
    mV b d m0 (ix3 r h t) = max (b (ix3 r h t) + m0 (ix2 r h)) (Finset.univ.sup fun k : Fin 4 => d (ix4 r h t k)) := by
  have e := red_at d r h t
  rw [Df.ninf] at e
  unfold mV
  generalize Host.reduce FloatOps.maximumf d _ _ _ = R at e ⊢
  pointwise
  rw [e]
  rfl

theorem outV_at (w : FVec Ideal S32x4x4 .f32) (b : Fin 32) (h : Fin 8) (l : Fin 128) :
    outV w (ix3 b h l) = if hh : h.val < 4 then w (ix3 b ⟨h.val, hh⟩ 3) else 0 := by
  unfold outV
  pointwise

/-- The reference's result. -/
theorem res_at : res_main_v34 (F := Ideal) m c = fun i => stabAt (m ((c.tc : Thread nD τ).loc main_arg2)) (m ((c.tc : Thread nD τ).loc main_arg6))
    (m ((c.tc : Thread nD τ).loc main_arg9)) (m ((c.tc : Thread nD τ).loc main_arg10)) (i 0).val (i 1).val := by
  rw [res_eq]
  refine funext fun (y : S32x8x128.Idx) => ?_
  obtain ⟨b, h, l, rfl⟩ : ∃ (b : Fin 32) (h : Fin 8) (l : Fin 128), y = ix3 b h l := ⟨y 0, y 1, y 2, by funext a; fin_cases a <;> rfl⟩
  rw [outV_at]
  show _ = stabAt _ _ _ _ b.val h.val
  unfold stabAt
  by_cases hh : h.val < 4
  · rw [dif_pos hh, dif_pos ⟨b.isLt, hh⟩, mV_at]
    have ec : ∀ t : Fin 4, cV (fV (m ((c.tc : Thread nD τ).loc main_arg2)) (m ((c.tc : Thread nD τ).loc main_arg10))) (ix3 b ⟨h.val, hh⟩ t)
        = cum (gate (m ((c.tc : Thread nD τ).loc main_arg2)) ((m ((c.tc : Thread nD τ).loc main_arg10) : FVec Ideal S4 .f32) (ix1 ⟨h.val, hh⟩)) b.val (4 + h.val)) t.val :=
      fun t => cV_at _ b _ t (fun j => lsg (gate _ _ _ _ j)) fun j => fV_at _ _ b ⟨h.val, hh⟩ j
    unfold stab
    refine congrArg₂ max (congrArg (· + _) (ec 3)) ?_
    rw [← Df.sup_fin]
    refine Finset.sup_congr rfl fun s _ => ?_
    rw [dV_at, if_pos (by have := s.isLt; show s.val ≤ 3; omega), ec, ec, iV_at]
    rfl
  · rw [dif_neg hh, dif_neg (fun hb => hh hb.2)]

end Cert.Proof.MlR

end
-- ==== Proof.MlAlg.lean ====
/-
  The sample's mLSTM: the stabilisers the kernel leaves are the reference's.
-/
module

public import proofs.«01_k».proof.Defs
public import proofs.«01_k».proof.Proof.MlOut
public import proofs.«01_k».proof.Proof.MlRef

@[expose] public section

set_option maxRecDepth 16384

noncomputable section

namespace Cert.Proof.Ml
open Idealize.ShloMosaic Idealize.SL.Sem

theorem algebraic : Cert.algebraic_Kernel8Ideal_Reference8Ideal := by
  intro m g m' g' _ hm
  refine ⟨fun c => (Cert.Kernel8Ideal.Gen.dats m 0 c).arrAt 13 Cert.Kernel8Ideal.cfg0.N,
    (θ_run Cert.Kernel8Ideal.defs _ _).mono (fun r h c => ⟨(h c).2.2.2.1, (h c).2.2.2.2⟩) (Cert.Kernel8Ideal.Value.run_blocks m g),
    (θ_run Cert.Reference8Ideal.defs _ _).mono (fun r h c => ⟨(h c).1.trans (Eq.trans ?_ (out_eq m c).symm), (h c).2⟩)
      (Cert.Reference8Ideal.Value.run m' g')⟩
  rw [MlR.res_at]
  obtain ⟨_, _, h2, _, _, _, h6, _, _, h9, h10⟩ := hm c
  rw [h2, h6, h9, h10]
  rfl

theorem frame_reference : Cert.quiescent_Reference8Ideal := by
  intro m g _
  exact (θ_run Cert.Reference8Ideal.defs _ _).mono
    (fun r h => ⟨fun c => (h c).2, sem_eq_zero_of_no_sems (by decide) r.2⟩) (Cert.Reference8Ideal.Value.run m g)

end Cert.Proof.Ml

end
-- ==== Proof.DfSpec.lean ====
/-
  Differential attention as a formula: what one element of the result is.
-/
module

public import proofs.«01_k».proof.Proof.DfInv

@[expose] public section

set_option maxRecDepth 16384

noncomputable section

namespace Cert.Proof.Df
open Idealize.ShloMosaic Idealize.ShloMosaic.TcCoe Idealize.ShloMosaic.Tactic

/-- A matrix's element, zero outside. -/
def el {r w : ℕ} (x : (⟨2, ![r, w]⟩ : Shape).Idx → EReal) (i l : ℕ) : EReal :=
  if h : i < r ∧ l < w then x (ix2 ⟨i, h.1⟩ ⟨l, h.2⟩) else 0

theorem el_of {r w : ℕ} (x : (⟨2, ![r, w]⟩ : Shape).Idx → EReal) (i l : ℕ) (a : Fin r) (b : Fin w) (ha : a.val = i) (hb : b.val = l) :
    x (ix2 a b) = el x i l := by
  subst ha hb
  unfold el
  rw [dif_pos ⟨a.isLt, b.isLt⟩]

/-- The inputs' sizes. -/
abbrev Wide : Shape := ⟨2, ![32768, 1024]⟩
abbrev Narrow : Shape := ⟨2, ![32768, 512]⟩
abbrev Lane : Shape := ⟨1, ![64]⟩

/-- The slope of a head. -/
def slope (h : ℕ) : ℝ := (1 / 2) ^ (h + 1)

/-- The scaled product of the query half `e` of row `i`, column `col` with key `n` of the row's sequence. -/
def prod (Q : FVec Ideal Wide .f32) (K : FVec Ideal Narrow .f32) (e i col n : ℕ) : EReal :=
  (∑ d : Fin 64, el Q i (col / 128 * 128 + e * 64 + d.val) * el K (i / 4096 * 4096 + n) (col / 256 * 128 + e * 64 + d.val))
    * ((0.125 : ℝ) : EReal)

/-- The scores of the half `e`. -/
def logit (Q : FVec Ideal Wide .f32) (K : FVec Ideal Narrow .f32) (e i col : ℕ) : ℕ → EReal :=
  sig (prod Q K e i col) (slope (col / 128)) (i % 4096)

/-- The softmax of scores. -/
def soft (s : ℕ → EReal) (n : ℕ) : EReal :=
  Ideal.div (Ideal.exp (s n - top s 4096)) (∑ k ∈ Finset.range 4096, Ideal.exp (s k - top s 4096))

/-- The factor of the second softmax. -/
def factor (a b c d : FVec Ideal Lane .f32) : EReal :=
  Ideal.exp (∑ l : Fin 64, a (ix1 l) * b (ix1 l)) - Ideal.exp (∑ l : Fin 64, c (ix1 l) * d (ix1 l)) + Ideal.ofBits FTy.f32 0x3E4CCCCD#32

/-- Differential attention at row `i`, column `col`. -/
def diff (Q : FVec Ideal Wide .f32) (K V : FVec Ideal Narrow .f32) (lam : EReal) (i col : ℕ) : EReal :=
  ∑ n ∈ Finset.range 4096, (soft (logit Q K 0 i col) n - lam * soft (logit Q K 1 i col) n)
    * el V (i / 4096 * 4096 + n) (col / 256 * 128 + col % 128)

end Cert.Proof.Df

end
-- ==== Proof.DfRef.lean ====
/-
  The reference of the differential attention, index by index.
-/
module

public import proofs.«01_k».proof.Proof.Gen.Reference4Ideal.Run
public import proofs.«01_k».proof.Proof.DfSpec
public import Idealize.ShloMosaic.Lib.Pointwise
public import Idealize.ShloMosaic.Lib.Pipeline.ValueKit

@[expose] public section

set_option maxRecDepth 16384

noncomputable section

namespace Cert.Proof.Df.Ref
open Cert.Reference4Ideal Cert.Reference4Ideal.Gen Cert.Reference4Ideal.Value
open Idealize.ShloMosaic Idealize.ShloMosaic.TcCoe Idealize.ShloMosaic.Tactic

/-- How far a key lies before a query. -/
def distV : FVec Ideal S4096x4096 .f32 :=
  sitofp .f32 (subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0))))

/-- The distance times the slope. -/
def biasV : FVec Ideal S4x2x4096x4096 .f32 :=
  mulf (broadcastInDim S4x2x4096x4096 ![0, 1, 2, 3] bcast_S4x2x1x1_S4x2x4096x4096_0_1_2_3 (Host.negf (broadcastInDim S4x2x1x1 ![0, 1] bcast_S4x2_S4x2x1x1_0_1
      (shapeCast _ (fun i => FloatOps.ofBits .f32 (lit0 (S8.rowMajor i))) shapeCasts_S8_S4x2))))
    (broadcastInDim S4x2x4096x4096 ![0, 1, 2, 3] bcast_S1x1x4096x4096_S4x2x4096x4096_0_1_2_3 (broadcastInDim S1x1x4096x4096 ![2, 3] bcast_S4096x4096_S1x1x4096x4096_2_3 distV))

/-- The products of one half. -/
def prodV (k : FVec Ideal S8x4096x4x64 .f32) (q : FVec Ideal S8x4096x4x2x64 .f32) : FVec Ideal S8x4x2x4096x4096 .f32 :=
  mulf (transpose S8x4x2x4096x4096 [0, 1, 4, 3, 2] (Host.dotGeneral (φ₁ := .f32) dot_S8x4096x4x64_S8x4096x4x2x64_S8x4x4096x4096x2_3_4_1_13_02_02 none k q)
      transposes_S8x4x4096x4096x2_S8x4x2x4096x4096_0_1_4_3_2)
    (broadcastInDim S8x4x2x4096x4096 ![] bcast_S_S8x4x2x4096x4096 (constant S_ .f32 0x3E000000#32))

/-- The scores of one half. -/
def scoreV (k : FVec Ideal S8x4096x4x64 .f32) (q : FVec Ideal S8x4096x4x2x64 .f32) : FVec Ideal S8x4x2x4096x4096 .f32 :=
  select (broadcastInDim S8x4x2x4096x4096 ![3, 4] bcast_S4096x4096_S8x4x2x4096x4096_3_4
      (cmpf .oge distV (broadcastInDim S4096x4096 ![] bcast_S_S4096x4096 (constant S_ .f32 0x00000000#32))))
    (addf (prodV k q) (broadcastInDim S8x4x2x4096x4096 ![0, 1, 2, 3, 4] bcast_S1x4x2x4096x4096_S8x4x2x4096x4096_0_1_2_3_4
      (broadcastInDim S1x4x2x4096x4096 ![1, 2, 3, 4] bcast_S4x2x4096x4096_S1x4x2x4096x4096_1_2_3_4 biasV)))
    (broadcastInDim S8x4x2x4096x4096 ![] bcast_S_S8x4x2x4096x4096 (id (constant S_ .f32 0xFF800000#32)))

/-- The exponentials of scores relative to each row's greatest. -/
def expV (w : FVec Ideal S8x4x2x4096x4096 .f32) : FVec Ideal S8x4x2x4096x4096 .f32 :=
  Host.exp (subf w (broadcastInDim S8x4x2x4096x4096 ![0, 1, 2, 3, 4] bcast_S8x4x2x4096x1_S8x4x2x4096x4096_0_1_2_3_4
    (broadcastInDim S8x4x2x4096x1 ![0, 1, 2, 3] bcast_S8x4x2x4096_S8x4x2x4096x1_0_1_2_3
      (maximumf (broadcastInDim S8x4x2x4096 ![] bcast_S_S8x4x2x4096 (constant S_ .f32 0xFF800000#32))
        (Host.reduce FloatOps.maximumf w (constant S_ .f32 0xFF800000#32) reducesTo_S8x4x2x4096x4096_S8x4x2x4096_d4 h_S_)))))

/-- The softmax of scores. -/
def softV (e : FVec Ideal S8x4x2x4096x4096 .f32) : FVec Ideal S8x4x2x4096x4096 .f32 :=
  Host.divf e (broadcastInDim S8x4x2x4096x4096 ![0, 1, 2, 3, 4] bcast_S8x4x2x4096x1_S8x4x2x4096x4096_0_1_2_3_4
    (broadcastInDim S8x4x2x4096x1 ![0, 1, 2, 3] bcast_S8x4x2x4096_S8x4x2x4096x1_0_1_2_3
      (Host.reduceAdd e (constant S_ .f32 0x00000000#32) reducesTo_S8x4x2x4096x4096_S8x4x2x4096_d4 h_S_)))

/-- The factor of the second softmax. -/
def factorV (a b c d : FVec Ideal S64 .f32) : FVec Ideal S_ .f32 :=
  addf (subf (Host.exp (Host.reduceAdd (mulf a b) (constant S_ .f32 0x00000000#32) reducesTo_S64_S_d0 h_S_))
      (Host.exp (Host.reduceAdd (mulf c d) (constant S_ .f32 0x00000000#32) reducesTo_S64_S_d0 h_S_)))
    (constant S_ .f32 0x3E4CCCCD#32)

/-- The scores' softmax of the first half. -/
def firstV (Q : FVec Ideal S32768x1024 .f32) (K : FVec Ideal S32768x512 .f32) : FVec Ideal S8x4x2x4096x4096 .f32 :=
  scoreV (extractStridedSlice S8x4096x4x64 ![0, 0, 0, 0] (shapeCast _ K shapeCasts_S32768x512_S8x4096x4x128) slices_S8x4096x4x128_S8x4096x4x64_0_0_0_0)
    (extractStridedSlice S8x4096x4x2x64 ![0, 0, 0, 0, 0] (shapeCast _ Q shapeCasts_S32768x1024_S8x4096x4x2x128) slices_S8x4096x4x2x128_S8x4096x4x2x64_0_0_0_0_0)

/-- The scores of the second half. -/
def secondV (Q : FVec Ideal S32768x1024 .f32) (K : FVec Ideal S32768x512 .f32) : FVec Ideal S8x4x2x4096x4096 .f32 :=
  scoreV (extractStridedSlice S8x4096x4x64 ![0, 0, 0, 64] (shapeCast _ K shapeCasts_S32768x512_S8x4096x4x128) slices_S8x4096x4x128_S8x4096x4x64_0_0_0_64)
    (extractStridedSlice S8x4096x4x2x64 ![0, 0, 0, 0, 64] (shapeCast _ Q shapeCasts_S32768x1024_S8x4096x4x2x128) slices_S8x4096x4x2x128_S8x4096x4x2x64_0_0_0_0_64)

/-- The whole reference. -/
def refOut (Q : FVec Ideal S32768x1024 .f32) (K V : FVec Ideal S32768x512 .f32) (a b c d : FVec Ideal S64 .f32) : FVec Ideal S32768x1024 .f32 :=
  shapeCast _ (transpose S8x4096x4x2x128 [0, 4, 1, 3, 2] (Host.dotGeneral (φ₁ := .f32) dot_S8x4096x4x128_S8x4x2x4096x4096_S8x4x128x2x4096_1_4_3_23_02_01 none
      (shapeCast S8x4096x4x128 V shapeCasts_S32768x512_S8x4096x4x128)
      (subf (softV (expV (firstV Q K))) (mulf (broadcastInDim S8x4x2x4096x4096 ![] bcast_S_S8x4x2x4096x4096 (factorV a b c d)) (softV (expV (secondV Q K))))))
    transposes_S8x4x128x2x4096_S8x4096x4x2x128_0_4_1_3_2) shapeCasts_S8x4096x4x2x128_S32768x1024

variable (m : (ℓ : Loc nD τ Cert.Reference4Ideal.sig) → Buf (Elt Ideal) ℓ) (c : Dev nD)

/-- The reference's result in the parts above. -/
theorem res_eq : res_main_v74 (F := Ideal) m c = refOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Cert.Proof.Df.Ref

end
-- ==== Proof.DfBlocks.lean ====
/-
  The pieces of the differential attention kernel's result: the blocks a grid point reads, the slopes, the factor of the
  second softmax, the queries, and the two stores.
-/
module

public import proofs.«01_k».proof.Proof.DfSpec
public import proofs.«01_k».proof.Proof.Out

@[expose] public section

set_option maxRecDepth 16384

noncomputable section

namespace Cert.Proof.Df
open Cert.Kernel4Ideal Cert.Kernel4Ideal.Gen
open Idealize.ShloMosaic Idealize.ShloMosaic.TcCoe Idealize.ShloMosaic.Tactic

theorem idx0 : ∀ t : Fin cfg0.N, win0_0.index t 0 = 0 :=
  (by decide +kernel : ∀ t : Fin grid0.N, win0_0.index t 0 = 0)
theorem idx1 : ∀ t : Fin cfg0.N, win0_1.index t 0 = 8 * (grid0.coords t 0).val + (grid0.coords t 2).val ∧ win0_1.index t 1 = (grid0.coords t 1).val :=
  (by decide +kernel : ∀ t : Fin grid0.N, win0_1.index t 0 = 8 * (grid0.coords t 0).val + (grid0.coords t 2).val ∧ win0_1.index t 1 = (grid0.coords t 1).val)
theorem idx2 : ∀ t : Fin cfg0.N, win0_2.index t 0 = (grid0.coords t 0).val ∧ win0_2.index t 1 = 0 ∧ win0_2.index t 2 = (grid0.coords t 1).val :=
  (by decide +kernel : ∀ t : Fin grid0.N, win0_2.index t 0 = (grid0.coords t 0).val ∧ win0_2.index t 1 = 0 ∧ win0_2.index t 2 = (grid0.coords t 1).val)
theorem idx3 : ∀ t : Fin cfg0.N, win0_3.index t 0 = (grid0.coords t 0).val ∧ win0_3.index t 1 = 0 ∧ win0_3.index t 2 = (grid0.coords t 1).val :=
  (by decide +kernel : ∀ t : Fin grid0.N, win0_3.index t 0 = (grid0.coords t 0).val ∧ win0_3.index t 1 = 0 ∧ win0_3.index t 2 = (grid0.coords t 1).val)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 8 * (grid0.coords t 0).val + (grid0.coords t 2).val ∧ win0_5.index t 1 = (grid0.coords t 1).val :=
  (by decide +kernel : ∀ t : Fin grid0.N, win0_5.index t 0 = 8 * (grid0.coords t 0).val + (grid0.coords t 2).val ∧ win0_5.index t 1 = (grid0.coords t 1).val)
theorem coords_lt (t : Fin cfg0.N) : (grid0.coords t 0).val < 8 ∧ (grid0.coords t 1).val < 4 ∧ (grid0.coords t 2).val < 8 :=
  ⟨(grid0.coords t 0).isLt, (grid0.coords t 1).isLt, (grid0.coords t 2).isLt⟩

variable (m : (ℓ : Loc nD τ Cert.Kernel4Ideal.sig) → Buf (Elt Ideal) ℓ) (c : Dev nD)

theorem V_cst : V m c main_cst = fun i => FloatOps.ofBits (F := Ideal) .f32 (lit0 (S8.rowMajor i)) := rfl

theorem blk0_at (t : Fin cfg0.N) (n : Fin 8) : (show Vec Ideal S8 .f32 from iblk m c 0 t) (ix1 n) = Ideal.ofBits FTy.f32 (lit0 n) := by
  have e : (win0_0.blk t).view.emb (ix1 n) = ix1 n := by
    funext a
    apply Fin.ext
    fin_cases a
    blk_simp [idx0 t]
  show V m c main_cst ((win0_0.blk t).view.emb (ix1 n)) = _
  rw [e, V_cst]
  exact congrArg (fun k => Ideal.ofBits FTy.f32 (lit0 k)) (Fin.ext (by rw [rowMajor_val1 (d := ![8])]; rfl))

theorem blk1_at (t : Fin cfg0.N) (r : Fin 512) (l : Fin 256) :
    iblk m c 1 t (ix2 r l) = el (r := 32768) (w := 1024) (m ((c : Thread nD τ).loc main_arg0))
      (512 * (8 * (grid0.coords t 0).val + (grid0.coords t 2).val) + r.val) (256 * (grid0.coords t 1).val + l.val) := by
  obtain ⟨hb, hh, hq⟩ := coords_lt t
  rw [el, dif_pos ⟨by omega, by omega⟩]
  blk_ext! [iblk, V, V_main_arg0, idx1 t]

theorem blk2_at (t : Fin cfg0.N) (n : Fin 4096) (l : Fin 128) :
    iblk m c 2 t (ix3 0 n l) = el (r := 32768) (w := 512) (m ((c : Thread nD τ).loc main_arg1)) (4096 * (grid0.coords t 0).val + n.val)
      (128 * (grid0.coords t 1).val + l.val) := by
  obtain ⟨hb, hh, hq⟩ := coords_lt t
  rw [el, dif_pos ⟨by omega, by omega⟩]
  blk_ext! [iblk, V, idx2 t]

theorem blk3_at (t : Fin cfg0.N) (n : Fin 4096) (l : Fin 128) :
    iblk m c 3 t (ix3 0 n l) = el (r := 32768) (w := 512) (m ((c : Thread nD τ).loc main_arg2)) (4096 * (grid0.coords t 0).val + n.val)
      (128 * (grid0.coords t 1).val + l.val) := by
  obtain ⟨hb, hh, hq⟩ := coords_lt t
  rw [el, dif_pos ⟨by omega, by omega⟩]
  blk_ext! [iblk, V, idx3 t]

theorem V_v4 : V m c main_v4 = concatenate S4x64 0 [⟨S1x64, broadcastInDim S1x64 ![1] bcast_S64_S1x64_1 (m ((c : Thread nD τ).loc main_arg3))⟩,
    ⟨S1x64, broadcastInDim S1x64 ![1] bcast_S64_S1x64_1 (m ((c : Thread nD τ).loc main_arg4))⟩,
    ⟨S1x64, broadcastInDim S1x64 ![1] bcast_S64_S1x64_1 (m ((c : Thread nD τ).loc main_arg5))⟩,
    ⟨S1x64, broadcastInDim S1x64 ![1] bcast_S64_S1x64_1 (m ((c : Thread nD τ).loc main_arg6))⟩] concatenates_S1x64_S1x64_S1x64_S1x64_S4x64_d0 := rfl

theorem blk4_at (t : Fin cfg0.N) (n : Fin 4) (l : Fin 64) :
    iblk m c 4 t (ix2 n l) = (![m ((c : Thread nD τ).loc main_arg3), m ((c : Thread nD τ).loc main_arg4), m ((c : Thread nD τ).loc main_arg5),
      m ((c : Thread nD τ).loc main_arg6)] : Fin 4 → FVec Ideal S64 .f32) n (ix1 l) := by
  have e : (win0_4.blk t).view.emb (ix2 n l) = ix2 n l := by
    funext a
    apply Fin.ext
    fin_cases a <;> blk_simp [idx4 t]
  show V m c main_v4 ((win0_4.blk t).view.emb (ix2 n l)) = _
  rw [e, V_v4]
  pointwise
  fin_cases n <;> rfl

/-- The factor as the kernel computes it. -/
theorem lamOf_at (arg : Memref Cert.Kernel4Ideal.sig .tc .vmem S4x64 .f32) (harg : arg.IsWhole) (x : Vec Ideal S4x64 .f32)
    (a : Fin 4 → FVec Ideal S64 .f32) (h : ∀ n l, x (ix2 n l) = a n (ix1 l)) : lamOf arg (harg.unread x) (ix2 0 0) = factor (a 0) (a 1) (a 2) (a 3) := by
  unfold lamOf k0_pay79 factor
  rw [View.readAt_eq_ld, harg.read_unread]
  pointwise
  simp only [h]

/-- The kernel's queries before the split into halves. -/
theorem slab_at (arg : Memref Cert.Kernel4Ideal.sig .tc .vmem S512x256 .f32) (harg : arg.IsWhole) (x : Vec Ideal S512x256 .f32) (g : Fin 2) (r : Fin 512) (l : Fin 128) :
    slab arg (harg.unread x) g (ix2 r l) = x (ix2 r ⟨128 * g.val + l.val, by omega⟩) * ((0.125 : ℝ) : EReal) := by
  unfold slab k0_pay44
  rw [View.readAt_eq_ld, View.readAt_eq_ld, harg.read_unread]
  fin_cases g
  · show mulf _ _ _ = _
    pointwise
    rw [eighth]
  · show mulf _ _ _ = _
    pointwise
    rw [eighth]

theorem queries_at (sl : Fin 2 → FVec Ideal S512x128 .f32) (n : Fin 4) (r : Fin 512) (l : Fin 128) :
    queries sl n (ix2 r l) = if l.val / 64 = n.val % 2 then sl (gh n) (ix2 r l) else 0 := by
  fin_cases n
  · exact qsel_at 0 (sl 0) r l
  · exact qsel_at 1 (sl 0) r l
  · exact qsel_at 0 (sl 1) r l
  · exact qsel_at 1 (sl 1) r l

theorem pay1_at (a b : FVec Ideal S512x256 .f32) (lam : FVec Ideal S1x1 .f32) (r : Fin 512) (l : Fin 128) :
    k0_pay1 (F := Ideal) a b lam (ix2 r l) = Ideal.div (a (ix2 r ⟨l.val, by omega⟩)) (a (ix2 r ⟨128 + l.val, by omega⟩))
      - lam (ix2 0 0) * Ideal.div (b (ix2 r ⟨l.val, by omega⟩)) (b (ix2 r ⟨128 + l.val, by omega⟩)) := by
  unfold k0_pay1
  pointwise

/-- The slopes as reals. -/
theorem lit_slope (n : Fin 8) : Ideal.ofBits FTy.f32 (lit0 n) = (slope n.val : EReal) := by
  unfold slope
  fin_cases n <;> (simp [lit0, Ideal.ofBits, Ideal.ieee, -EReal.coe_mul]; norm_num)

theorem off1_eq (g : Fin 2) : ∀ i : grid0.Coords, k0_off1 i (BitVec.ofNat 32 g.val) 0 = 2 * (i 1).val + g.val := by
  revert g
  decide +kernel

theorem slopes_at (i : grid0.Coords) (arg : Memref Cert.Kernel4Ideal.sig .tc .smem S8 .f32) (harg : arg.IsWhole) (x : Vec Ideal S8 .f32)
    (h : ∀ n : Fin 8, x (ix1 n) = (slope n.val : EReal)) (g : Fin 2) :
    slopes c i arg harg x g = (slope (2 * (i 1).val + g.val) : EReal) := by
  have hi : (i 1).val < 4 := (i 1).isLt
  have key : ∀ (off : Fin 1 → ℕ) (inb : ∀ a, off a + S1.size a ≤ S8.size a) (n : Fin 8) (hn : off 0 = n.val) (j : S1.Idx),
      View.readAt (Elt Ideal) arg.view (Rect.unit (s := S8) off S1.size inb).toLoadRect (harg.unread x) j = x (ix1 n) := by
    intro off inb n hn j
    rw [View.readAt_eq_ld, harg.read_unread]
    refine congrArg x (funext fun a => Fin.ext ?_)
    have hj : (j 0).val = 0 := by have : (j 0).val < 1 := (j 0).isLt; omega
    match a with
    | ⟨0, _⟩ =>
      show off 0 + 1 * (j 0).val = n.val
      omega
  have e : slopes c i arg harg x g = x (ix1 ⟨2 * (i 1).val + g.val, by omega⟩) := by
    fin_cases g
    · exact key _ _ ⟨2 * (i 1).val + 0, by omega⟩ (off1_eq 0 i) _
    · exact key _ _ ⟨2 * (i 1).val + 1, by omega⟩ (off1_eq 1 i) _
  rw [e, h]

/-- One of the two stores, at a column. -/
theorem store_at (a : FVec Ideal S512x128 .f32) (s : ℕ) (r : Fin 512) (col : Fin 256) (v : EReal)
    (h : ∀ l : Fin 128, col.val = 128 * s + l.val → v = a (ix2 r l)) :
    View.TileAt (Val := Elt Ideal) (S := S512x256) (e := .f32) (ix2 r col) ![0, 128 * s] S512x128.size a v := by
  intro x hx
  idx_vars x
  have h0 := hx 0
  have h1 := hx 1
  simp at h0 h1
  have e0 : x0 = r := Fin.ext (by omega)
  subst e0
  exact (h x1 h1).symm

/-- What the stores leave at a column: the two chains of the column's head, normalised and subtracted. -/
theorem stores_at (lam : FVec Ideal S1x1 .f32) (T : T8) (r : Fin 512) (col : Fin 256) (g : Fin 2) (l : Fin 128) (hc : col.val = 128 * g.val + l.val) :
    View.canon (stores lam T) (ix2 r col)
      = Ideal.div (accOf T ⟨2 * g.val, by omega⟩ (ix2 r ⟨l.val, by omega⟩)) (accOf T ⟨2 * g.val, by omega⟩ (ix2 r ⟨128 + l.val, by omega⟩))
        - lam (ix2 0 0) * Ideal.div (accOf T ⟨2 * g.val + 1, by omega⟩ (ix2 r ⟨l.val, by omega⟩)) (accOf T ⟨2 * g.val + 1, by omega⟩ (ix2 r ⟨128 + l.val, by omega⟩)) := by
  unfold stores
  refine View.canon_eq_of_allAt _ _ _ (View.cover_of_tiled_head _ _ _ rfl _) ?_
  refine View.allAt_cons_unit _ _ _ _ _ (store_at _ 1 r col _ fun l' h => ?_) ?_
  · have hg : g = 1 := Fin.ext (by show g.val = 1; omega)
    have hl : l' = l := Fin.ext (by subst hg; change col.val = 128 * 1 + l.val at hc; omega)
    subst hg hl
    rw [pay1_at]
    rfl
  refine View.allAt_cons_unit _ _ _ _ _ (store_at _ 0 r col _ fun l' h => ?_) (View.allAt_nil _ _)
  have hg : g = 0 := Fin.ext (by show g.val = 0; omega)
  have hl : l' = l := Fin.ext (by subst hg; change col.val = 128 * 0 + l.val at hc; omega)
  subst hg hl
  rw [pay1_at]
  rfl

end Cert.Proof.Df

end
-- ==== Proof.DfRefAt.lean ====
/-
  The reference of the differential attention is the formula, index by index.
-/
module

public import proofs.«01_k».proof.Proof.DfRef
public import proofs.«01_k».proof.Proof.DfBlocks
public import Idealize.ShloMosaic.Lib.Pointwise
public import Idealize.ShloMosaic.Lib.Pipeline.ValueKit

@[expose] public section

set_option maxRecDepth 16384

noncomputable section

namespace Cert.Proof.Df.Ref
open Cert.Reference4Ideal Cert.Reference4Ideal.Gen Cert.Reference4Ideal.Value
open Idealize.ShloMosaic Idealize.ShloMosaic.TcCoe Idealize.ShloMosaic.Tactic

theorem distV_at (t n : Fin 4096) : distV (ix2 t n) = (((t.val : ℝ) - (n.val : ℝ) : ℝ) : EReal) := by
  unfold distV
  pointwise
  have h := toInt_sub_small t.val n.val (by omega) (by omega)
  refine (congrArg (fun z : ℤ => (((z : ℝ)) : EReal)) h).trans ?_
  push_cast
  rfl

theorem lit_eq : ∀ n : Fin 8, lit0 n = Cert.Kernel4Ideal.lit0 n := by decide

theorem biasV_at (h : Fin 4) (g : Fin 2) (t n : Fin 4096) :
    biasV (ix4 h g t n) = ((-slope (2 * h.val + g.val) * ((t.val : ℝ) - (n.val : ℝ)) : ℝ) : EReal) := by
  unfold biasV
  pointwise
  have e : S8.rowMajor (ix1 ⟨h.val * 2 + g.val, by omega⟩) = (⟨2 * h.val + g.val, by omega⟩ : Fin 8) :=
    Fin.ext (by rw [rowMajor_val1 (d := ![8])]; show h.val * 2 + g.val = 2 * h.val + g.val; omega)
  rw [distV_at, e, lit_eq, lit_slope, EReal.coe_mul, EReal.coe_neg]

theorem prodV_at (k : FVec Ideal S8x4096x4x64 .f32) (q : FVec Ideal S8x4096x4x2x64 .f32) (b : Fin 8) (h : Fin 4) (g : Fin 2) (t n : Fin 4096) :
    prodV k q (ix5 b h g t n) = (∑ d : Fin 64, q (ix5 b t h g d) * k (ix4 b n h d)) * ((0.125 : ℝ) : EReal) := by
  unfold prodV
  pointwise
  rw [eighth]
  exact congrArg (· * ((0.125 : ℝ) : EReal)) (Finset.sum_congr rfl fun d _ => mul_comm _ _)

theorem softV_at (e : FVec Ideal S8x4x2x4096x4096 .f32) (b : Fin 8) (h : Fin 4) (g : Fin 2) (t n : Fin 4096) :
    softV e (ix5 b h g t n) = Ideal.div (e (ix5 b h g t n)) (∑ k : Fin 4096, e (ix5 b h g t k)) := by
  unfold softV
  pointwise

/-- Each row's greatest score. -/
theorem rowMax_at (w : FVec Ideal S8x4x2x4096x4096 .f32) (b : Fin 8) (h : Fin 4) (g : Fin 2) (t : Fin 4096) :
    Host.reduce FloatOps.maximumf w (constant S_ .f32 0xFF800000#32) reducesTo_S8x4x2x4096x4096_S8x4x2x4096_d4 h_S_ (ix4 b h g t)
      = Finset.univ.fold max (Ideal.ofBits FTy.f32 0xFF800000#32) fun k : Fin 4096 => w (ix5 b h g t k) := by
  simp only [pointwise]

theorem spread_at (M : FVec Ideal S8x4x2x4096 .f32) (b : Fin 8) (h : Fin 4) (g : Fin 2) (t n : Fin 4096) :
    broadcastInDim S8x4x2x4096x4096 ![0, 1, 2, 3, 4] bcast_S8x4x2x4096x1_S8x4x2x4096x4096_0_1_2_3_4
      (broadcastInDim S8x4x2x4096x1 ![0, 1, 2, 3] bcast_S8x4x2x4096_S8x4x2x4096x1_0_1_2_3 M) (ix5 b h g t n) = M (ix4 b h g t) := by
  pointwise

theorem least_at (R : FVec Ideal S8x4x2x4096 .f32) (j : S8x4x2x4096.Idx) :
    maximumf (broadcastInDim S8x4x2x4096 ![] bcast_S_S8x4x2x4096 (constant S_ .f32 0xFF800000#32)) R j = R j := by
  show max (Ideal.ofBits FTy.f32 0xFF800000#32) (R j) = R j
  rw [ninf, bot_sup_eq]

theorem expV_at (w : FVec Ideal S8x4x2x4096x4096 .f32) (b : Fin 8) (h : Fin 4) (g : Fin 2) (t n : Fin 4096) (s : ℕ → EReal)
    (hs : ∀ n : Fin 4096, w (ix5 b h g t n) = s n.val) : expV w (ix5 b h g t n) = Ideal.exp (s n.val - top s 4096) := by
  have e := rowMax_at w b h g t
  rw [ninf] at e
  unfold expV
  generalize Host.reduce FloatOps.maximumf w _ _ _ = R at e ⊢
  refine (congrArg (fun z => Ideal.exp (w (ix5 b h g t n) - z)) ((spread_at _ b h g t n).trans (least_at R _))).trans ?_
  have e' : R (ix4 b h g t) = top s 4096 := e.trans (Eq.trans (Finset.sup_congr rfl fun k _ => hs k) (sup_fin 4096 s))
  show Ideal.exp (w (ix5 b h g t n) - R (ix4 b h g t)) = _
  rw [e', hs]

/-- The scores of one half, read at an index. -/
theorem scoreV_at (k : FVec Ideal S8x4096x4x64 .f32) (q : FVec Ideal S8x4096x4x2x64 .f32) (b : Fin 8) (h : Fin 4) (g : Fin 2) (t n : Fin 4096)
    (D : ℕ → EReal) (hD : prodV k q (ix5 b h g t n) = D n.val) :
    scoreV k q (ix5 b h g t n) = sig D (slope (2 * h.val + g.val)) t.val n.val := by
  unfold scoreV sig
  pointwise
  rw [hD, distV_at, biasV_at]
  have e : ((0 : EReal) ≤ (((t.val : ℝ) - (n.val : ℝ) : ℝ) : EReal)) ↔ n.val ≤ t.val := by
    rw [EReal.coe_nonneg, sub_nonneg, Nat.cast_le]
  simp only [e]
  split
  · rfl
  · exact ninf

theorem firstV_at (Q : FVec Ideal S32768x1024 .f32) (K : FVec Ideal S32768x512 .f32) (i : Fin 32768) (l : Fin 1024)
    (b : Fin 8) (h : Fin 4) (g : Fin 2) (t n : Fin 4096) (hb : b.val = i.val / 4096) (hh : h.val = l.val / 256) (hg : g.val = l.val / 128 % 2)
    (ht : t.val = i.val % 4096) : firstV Q K (ix5 b h g t n) = logit Q K 0 i.val l.val n.val := by
  unfold firstV logit
  rw [scoreV_at _ _ _ _ _ _ _ (prod Q K 0 i.val l.val), ht, show 2 * h.val + g.val = l.val / 128 by omega]
  rw [prodV_at, prod]
  pointwise
  refine congrArg (· * ((0.125 : ℝ) : EReal)) (Finset.sum_congr rfl fun d _ => ?_)
  congr 1
  · exact el_of Q _ _ _ _ (by dsimp only; omega) (by dsimp only; omega)
  · exact el_of K _ _ _ _ (by dsimp only; omega) (by dsimp only; omega)

theorem secondV_at (Q : FVec Ideal S32768x1024 .f32) (K : FVec Ideal S32768x512 .f32) (i : Fin 32768) (l : Fin 1024)
    (b : Fin 8) (h : Fin 4) (g : Fin 2) (t n : Fin 4096) (hb : b.val = i.val / 4096) (hh : h.val = l.val / 256) (hg : g.val = l.val / 128 % 2)
    (ht : t.val = i.val % 4096) : secondV Q K (ix5 b h g t n) = logit Q K 1 i.val l.val n.val := by
  unfold secondV logit
  rw [scoreV_at _ _ _ _ _ _ _ (prod Q K 1 i.val l.val), ht, show 2 * h.val + g.val = l.val / 128 by omega]
  rw [prodV_at, prod]
  pointwise
  refine congrArg (· * ((0.125 : ℝ) : EReal)) (Finset.sum_congr rfl fun d _ => ?_)
  congr 1
  · exact el_of Q _ _ _ _ (by dsimp only; omega) (by dsimp only; omega)
  · exact el_of K _ _ _ _ (by dsimp only; omega) (by dsimp only; omega)

theorem factorV_at (a b c d : FVec Ideal S64 .f32) (i : S_.Idx) : factorV a b c d i = factor a b c d := by
  unfold factorV factor
  pointwise

/-- A softmax read at an index. -/
theorem soft_of (w : FVec Ideal S8x4x2x4096x4096 .f32) (b : Fin 8) (h : Fin 4) (g : Fin 2) (t n : Fin 4096) (s : ℕ → EReal)
    (hs : ∀ n : Fin 4096, w (ix5 b h g t n) = s n.val) : softV (expV w) (ix5 b h g t n) = soft s n.val := by
  rw [softV_at, expV_at w b h g t n s hs, soft, Finset.sum_range]
  congr 1
  exact Finset.sum_congr rfl fun k _ => expV_at w b h g t k s hs

/-- The reference is the formula. -/
theorem refOut_at (Q : FVec Ideal S32768x1024 .f32) (K V : FVec Ideal S32768x512 .f32) (a b c d : FVec Ideal S64 .f32) (i : Fin 32768) (l : Fin 1024) :
    refOut Q K V a b c d (ix2 i l) = diff Q K V (factor a b c d) i.val l.val := by
  have hi := i.isLt
  have hl := l.isLt
  unfold refOut diff
  pointwise
  rw [Finset.sum_range]
  refine Finset.sum_congr rfl fun n _ => ?_
  have hn := n.isLt
  rw [factorV_at, soft_of _ _ _ _ _ n (logit Q K 0 i.val l.val) fun n => firstV_at Q K i l _ _ _ _ n rfl rfl rfl rfl,
    soft_of _ _ _ _ _ n (logit Q K 1 i.val l.val) fun n => secondV_at Q K i l _ _ _ _ n rfl rfl rfl rfl, mul_comm]
  congr 1
  exact el_of V _ _ _ _ rfl rfl

end Cert.Proof.Df.Ref

end
-- ==== Proof.DfOut.lean ====
/-
  The differential attention kernel's result array is the formula, where every input is finite.
-/
module

public import proofs.«01_k».proof.Proof.DfBlocks

@[expose] public section

set_option maxRecDepth 16384

noncomputable section

namespace Cert.Proof.Df
open Cert.Kernel4Ideal Cert.Kernel4Ideal.Gen
open Idealize.ShloMosaic Idealize.ShloMosaic.TcCoe Idealize.ShloMosaic.Tactic

/-- Every element is a real number. -/
def AllReal {ι : Type} (x : ι → EReal) : Prop := ∀ i, ∃ r : ℝ, x i = (r : EReal)

theorem el_real {r w : ℕ} (x : (⟨2, ![r, w]⟩ : Shape).Idx → EReal) (h : AllReal x) (i l : ℕ) : ∃ a : ℝ, el x i l = (a : EReal) := by
  unfold el
  split
  · exact h _
  · exact ⟨0, rfl⟩

/-- A sum of products of reals is one. -/
theorem inner_real {n : ℕ} (f g : Fin n → EReal) (hf : AllReal f) (hg : AllReal g) : ∃ a : ℝ, ∑ d, f d * g d = (a : EReal) := by
  choose a ha using hf
  choose b hb using hg
  exact ⟨∑ d, a d * b d, by simp only [ha, hb, ← EReal.coe_mul, sum_coe]⟩

theorem prod_real (Q : FVec Ideal Wide .f32) (K : FVec Ideal Narrow .f32) (hQ : AllReal Q) (hK : AllReal K) (e i col n : ℕ) :
    ∃ a : ℝ, prod Q K e i col n = (a : EReal) := by
  obtain ⟨a, ha⟩ := inner_real (fun d : Fin 64 => el Q i (col / 128 * 128 + e * 64 + d.val))
    (fun d : Fin 64 => el K (i / 4096 * 4096 + n) (col / 256 * 128 + e * 64 + d.val)) (fun d => el_real Q hQ _ _) (fun d => el_real K hK _ _)
  exact ⟨a * 0.125, by rw [prod, ha, ← EReal.coe_mul]⟩

theorem logit_ne_top (Q : FVec Ideal Wide .f32) (K : FVec Ideal Narrow .f32) (hQ : AllReal Q) (hK : AllReal K) (e i col n : ℕ) :
    logit Q K e i col n ≠ ⊤ := by
  refine sig_ne_top _ (fun n => ?_) _ _ _
  obtain ⟨a, ha⟩ := prod_real Q K hQ hK e i col n
  rw [ha]
  exact EReal.coe_ne_top a

theorem logit_ne_bot (Q : FVec Ideal Wide .f32) (K : FVec Ideal Narrow .f32) (hQ : AllReal Q) (hK : AllReal K) (e i col : ℕ) :
    logit Q K e i col (i % 4096) ≠ ⊥ := by
  obtain ⟨a, ha⟩ := prod_real Q K hQ hK e i col (i % 4096)
  rw [logit, sig, if_pos (le_refl _), ha, ← EReal.coe_add]
  exact EReal.coe_ne_bot _

theorem lambda_init : ∃ r : ℝ, Ideal.ofBits FTy.f32 0x3E4CCCCD#32 = (r : EReal) := by
  simp [Ideal.ofBits, Ideal.ieee, -EReal.coe_mul]

theorem factor_real (a b c d : FVec Ideal Lane .f32) (ha : AllReal a) (hb : AllReal b) (hc : AllReal c) (hd : AllReal d) :
    ∃ r : ℝ, factor a b c d = (r : EReal) := by
  obtain ⟨x, hx⟩ := inner_real (fun l : Fin 64 => a (ix1 l)) (fun l : Fin 64 => b (ix1 l)) (fun l => ha _) (fun l => hb _)
  obtain ⟨y, hy⟩ := inner_real (fun l : Fin 64 => c (ix1 l)) (fun l : Fin 64 => d (ix1 l)) (fun l => hc _) (fun l => hd _)
  obtain ⟨z, hz⟩ := lambda_init
  exact ⟨Real.exp x - Real.exp y + z, by rw [factor, hx, hy, hz, exp_coe, exp_coe, ← EReal.coe_sub, ← EReal.coe_add]⟩

theorem top_congr (s s' : ℕ → EReal) (N : ℕ) (h : ∀ n, n < N → s n = s' n) : top s N = top s' N :=
  Finset.sup_congr rfl fun n hn => h n (Finset.mem_range.mp hn)

theorem wsum_congr (s s' v v' : ℕ → EReal) (N : ℕ) (h : ∀ n, n < N → s n = s' n) (hv : ∀ n, n < N → v n = v' n) : wsum s v N = wsum s' v' N := by
  unfold wsum
  rw [top_congr s s' N h]
  exact Finset.sum_congr rfl fun n hn => by rw [h n (Finset.mem_range.mp hn), hv n (Finset.mem_range.mp hn)]

/-- A chain's sums, whose keys past the row are masked, over all keys. -/
theorem chain_eq (D : ℕ → EReal) (sr : ℝ) (qi : ℕ) (hq : qi < 8) (r : ℕ) (hr : r < 512) (V v : ℕ → EReal) (s : ℕ → EReal)
    (hs : ∀ n, n < 4096 → sig D sr (512 * qi + r) n = s n) (hv : ∀ n, n < 4096 → V n = v n) :
    wsum (sig D sr (512 * qi + r)) V (512 * (qi + 1)) = wsum s v 4096 := by
  have h := (wsum_masked (sig D sr (512 * qi + r)) V (512 * (qi + 1)) (4096 - 512 * (qi + 1)) fun j h1 h2 => if_neg (by omega)).2
  rw [show 512 * (qi + 1) + (4096 - 512 * (qi + 1)) = 4096 by omega] at h
  exact h.symm.trans (wsum_congr _ _ _ _ _ hs hv)

/-- A chain's products are the formula's. -/
theorem dots_at (Q : FVec Ideal Wide .f32) (K : FVec Ideal Narrow .f32) (arg : Memref Cert.Kernel4Ideal.sig .tc .vmem S512x256 .f32)
    (harg : arg.IsWhole) (x1 : Vec Ideal S512x256 .f32) (x2 : Vec Ideal S1x4096x128 .f32) (b hd qi : ℕ) (hq : qi < 8)
    (h1 : ∀ (r : Fin 512) (l : Fin 256), x1 (ix2 r l) = el Q (512 * (8 * b + qi) + r.val) (256 * hd + l.val))
    (h2 : ∀ (n : Fin 4096) (l : Fin 128), x2 (ix3 0 n l) = el K (4096 * b + n.val) (128 * hd + l.val))
    (n : Fin 4) (r : Fin 512) (k : ℕ) (hk : k < 4096) (l : ℕ) (hl : l < 128) :
    dots (queries (slab arg (harg.unread x1)) n) x2 r k
      = prod Q K (n.val % 2) (512 * (8 * b + qi) + r.val) (256 * hd + 128 * (n.val / 2) + l) k := by
  have hr := r.isLt
  have hn := n.isLt
  unfold dots prod
  rw [eighth_mul_sum, show (512 * (8 * b + qi) + r.val) / 4096 * 4096 = 4096 * b by omega,
    show (256 * hd + 128 * (n.val / 2) + l) / 128 * 128 = 256 * hd + 128 * (n.val / 2) by omega,
    show (256 * hd + 128 * (n.val / 2) + l) / 256 * 128 = 128 * hd by omega]
  refine (Finset.sum_congr rfl fun a _ => ?_).trans ((sum_head (fun a => el Q (512 * (8 * b + qi) + r.val) (256 * hd + 128 * (n.val / 2) + a)
    * el K (4096 * b + k) (128 * hd + a) * ((0.125 : ℝ) : EReal)) (n.val % 2) (by omega)).trans ?_)
  · rw [queries_at]
    split
    · rw [slab_at, h1, rowOf, dif_pos ⟨hk, a.isLt⟩, h2]
      show el Q _ (256 * hd + (128 * (n.val / 2) + a.val)) * _ * _ = _
      rw [← add_assoc]
      exact mul_right_comm _ _ _
    · exact zero_mul _
  · refine Finset.sum_congr rfl fun d _ => ?_
    show el Q _ (256 * hd + 128 * (n.val / 2) + (64 * (n.val % 2) + d.val)) * el K _ (128 * hd + (64 * (n.val % 2) + d.val)) * _ = _
    rw [mul_comm 64 (n.val % 2), ← add_assoc, ← add_assoc]

theorem dots_ne_top (Q : FVec Ideal Wide .f32) (K : FVec Ideal Narrow .f32) (hQ : AllReal Q) (hK : AllReal K)
    (q : FVec Ideal S512x128 .bf16) (x2 : Vec Ideal S1x4096x128 .f32) (r : Fin 512) (e i col : ℕ)
    (h : ∀ k, k < 4096 → dots q x2 r k = prod Q K e i col k) (k : ℕ) : dots q x2 r k ≠ ⊤ := by
  by_cases hk : k < 4096
  · obtain ⟨a, ha⟩ := prod_real Q K hQ hK e i col k
    rw [h k hk, ha]
    exact EReal.coe_ne_top a
  · have e : dots q x2 r k = 0 := Finset.sum_eq_zero fun l _ => by rw [rowOf, dif_neg fun h => hk h.1, mul_zero]
    rw [e]
    exact EReal.zero_ne_top

variable (m : (ℓ : Loc nD τ Cert.Kernel4Ideal.sig) → Buf (Elt Ideal) ℓ) (c : Dev nD)

/-- The seven argument arrays. -/
abbrev A0 : FVec Ideal Wide .f32 := m ((c : Thread nD τ).loc main_arg0)
abbrev A1 : FVec Ideal Narrow .f32 := m ((c : Thread nD τ).loc main_arg1)
abbrev A2 : FVec Ideal Narrow .f32 := m ((c : Thread nD τ).loc main_arg2)
abbrev A3 : FVec Ideal Lane .f32 := m ((c : Thread nD τ).loc main_arg3)
abbrev A4 : FVec Ideal Lane .f32 := m ((c : Thread nD τ).loc main_arg4)
abbrev A5 : FVec Ideal Lane .f32 := m ((c : Thread nD τ).loc main_arg5)
abbrev A6 : FVec Ideal Lane .f32 := m ((c : Thread nD τ).loc main_arg6)

/-- Every input is finite. -/
def AllFinite : Prop :=
  AllReal (A0 m c) ∧ AllReal (A1 m c) ∧ AllReal (A2 m c) ∧ AllReal (A3 m c) ∧ AllReal (A4 m c) ∧ AllReal (A5 m c) ∧ AllReal (A6 m c)

/-- What a grid point leaves in its block of the result. -/
theorem outs_at (hm : AllFinite m c) (t : Fin cfg0.N) (r : Fin 512) (col : Fin 256) :
    outsAt0 m c t (ix2 r col) = diff (A0 m c) (A1 m c) (A2 m c) (factor (A3 m c) (A4 m c) (A5 m c) (A6 m c))
      (512 * (8 * (grid0.coords t 0).val + (grid0.coords t 2).val) + r.val) (256 * (grid0.coords t 1).val + col.val) := by
  obtain ⟨hQ, hK, hV, h3, h4, h5, h6⟩ := hm
  obtain ⟨hb, hh, hq⟩ := coords_lt t
  have hr := r.isLt
  have hc := col.isLt
  obtain ⟨lam, hlam⟩ := factor_real _ _ _ _ h3 h4 h5 h6
  rw [outs_eq, stores_at _ _ r col ⟨col.val / 128, by omega⟩ ⟨col.val % 128, by omega⟩ (by show col.val = 128 * (col.val / 128) + col.val % 128; omega),
    lamOf_at _ _ _ _ (blk4_at m c t)]
  generalize hi : 512 * (8 * (grid0.coords t 0).val + (grid0.coords t 2).val) + r.val = i
  generalize hl : 256 * (grid0.coords t 1).val + col.val = cl
  have hdots : ∀ (n : Fin 4) (r : Fin 512) (l : ℕ), l < 128 → ∀ k, k < 4096 →
      dots (queries (slab (ms0_1 t) ((hs0_1 t).unread (iblk m c 1 t))) n) (iblk m c 2 t) r k
        = prod (A0 m c) (A1 m c) (n.val % 2) (512 * (8 * (grid0.coords t 0).val + (grid0.coords t 2).val) + r.val)
            (256 * (grid0.coords t 1).val + 128 * (n.val / 2) + l) k :=
    fun n r l hl k hk => dots_at (A0 m c) (A1 m c) _ _ _ _ _ _ _ hq (blk1_at m c t) (blk2_at m c t) n r k hk l hl
  have hinv := fun n : Fin 4 => (final_inv t (slopes c (grid0.coords t) (ms0_0 t) (hs0_0 t) (iblk m c 0 t))
    (fun g => slope (2 * (grid0.coords t 1).val + g.val))
    (slopes_at c _ _ _ _ fun n => (blk0_at m c t n).trans (lit_slope n)) (queries (slab (ms0_1 t) ((hs0_1 t).unread (iblk m c 1 t))))
    (ms0_2 t) (hs0_2 t) (iblk m c 2 t) (ms0_3 t) (hs0_3 t) (iblk m c 3 t) n
    (fun r k => dots_ne_top _ _ hQ hK _ _ r _ _ _ (hdots n r 0 (by omega)) k)).2
  obtain ⟨v, hv⟩ : ∃ v : ℕ → ℝ, ∀ n, el (A2 m c) (i / 4096 * 4096 + n) (cl / 256 * 128 + cl % 128) = (v n : EReal) :=
    ⟨fun n => (el_real _ hV _ _).choose, fun n => (el_real _ hV _ _).choose_spec⟩
  have hsc : ∀ (e : ℕ) (he : e < 2) (n : ℕ), n < 4096 →
      sig (dots (queries (slab (ms0_1 t) ((hs0_1 t).unread (iblk m c 1 t))) ⟨2 * (col.val / 128) + e, by omega⟩) (iblk m c 2 t) r)
        (slope (2 * (grid0.coords t 1).val + (gh ⟨2 * (col.val / 128) + e, by omega⟩).val)) (512 * (grid0.coords t 2).val + r.val) n
        = logit (A0 m c) (A1 m c) e i cl n := by
    intro e he n hn
    unfold logit sig
    rw [hdots _ r (col.val % 128) (by omega) n hn]
    have e1 : (2 * (col.val / 128) + e) % 2 = e := by omega
    have e2 : 256 * (grid0.coords t 1).val + 128 * ((2 * (col.val / 128) + e) / 2) + col.val % 128 = cl := by omega
    have e3 : 2 * (grid0.coords t 1).val + (gh ⟨2 * (col.val / 128) + e, by omega⟩).val = cl / 128 := by
      show 2 * (grid0.coords t 1).val + (2 * (col.val / 128) + e) / 2 = cl / 128
      omega
    have e4 : 512 * (grid0.coords t 2).val + r.val = i % 4096 := by omega
    show (if n ≤ _ then prod _ _ ((2 * (col.val / 128) + e) % 2) _ (256 * (grid0.coords t 1).val + 128 * ((2 * (col.val / 128) + e) / 2) + col.val % 128) n + _ else ⊥) = _
    rw [e1, e2, e3, e4, hi]
  have hval : ∀ n, n < 4096 → vals (iblk m c 3 t) ⟨col.val % 128, by omega⟩ n = (v n : EReal) := by
    intro n hn
    rw [← hv n, vals, if_pos (by show col.val % 128 < 128; omega), rowOf, dif_pos ⟨hn, by show col.val % 128 < 128; omega⟩]
    refine (blk3_at m c t ⟨n, hn⟩ ⟨col.val % 128, by omega⟩).trans ?_
    show el _ (4096 * (grid0.coords t 0).val + n) (128 * (grid0.coords t 1).val + col.val % 128) = _
    congr 1 <;> omega
  have hone : ∀ n, n < 4096 → vals (iblk m c 3 t) ⟨128 + col.val % 128, by omega⟩ n = 1 := by
    intro n _
    rw [vals, if_neg (by show ¬ 128 + col.val % 128 < 128; omega)]
  have fin : ∀ (e : ℕ) (he : e < 2) (l : Fin 256) (w : ℕ → EReal), (∀ n, n < 4096 → vals (iblk m c 3 t) l n = w n) →
      accOf (final8 (grid0.coords t) (slopes c (grid0.coords t) (ms0_0 t) (hs0_0 t) (iblk m c 0 t)) (queries (slab (ms0_1 t) ((hs0_1 t).unread (iblk m c 1 t))))
        (ms0_2 t) (ms0_3 t) ((hs0_2 t).unread (iblk m c 2 t)) ((hs0_3 t).unread (iblk m c 3 t))) ⟨2 * (col.val / 128) + e, by omega⟩ (ix2 r l)
        = wsum (logit (A0 m c) (A1 m c) e i cl) w 4096 :=
    fun e he l w hw => (hinv _ r l).trans (chain_eq _ _ _ hq _ hr _ _ _ (hsc e he) hw)
  refine (congr (congrArg HSub.hSub (congr (congrArg Ideal.div (fin 0 (by omega) _ _ hval)) (fin 0 (by omega) _ _ hone)))
    (congr (congrArg HMul.hMul hlam) (congr (congrArg Ideal.div (fin 1 (by omega) _ _ hval)) (fin 1 (by omega) _ _ hone)))).trans ?_
  rw [diff_mean _ _ (fun j => logit_ne_top _ _ hQ hK _ _ _ j) (fun j => logit_ne_top _ _ hQ hK _ _ _ j) 4096 (i % 4096) (by omega)
    (logit_ne_bot _ _ hQ hK _ _ _) (logit_ne_bot _ _ hQ hK _ _ _) lam v, diff, hlam]
  exact Finset.sum_congr rfl fun n _ => by rw [hv]; rfl

/-- The kernel's result array. -/
theorem out_eq (hm : AllFinite m c) : (dats m 0 c).arrAt 5 cfg0.N = fun i => diff (A0 m c) (A1 m c) (A2 m c)
    (factor (A3 m c) (A4 m c) (A5 m c) (A6 m c)) (i 0).val (i 1).val := by
  refine (dats m 0 c).arrAt_eq_of_covers 5 _ (by decide +kernel) fun t hf y => ?_
  rw [after0_5]
  blk_simp [idx5 t]
  have ey : (show S512x256.Idx from y) = ix2 (show Fin 512 from y 0) (show Fin 256 from y 1) := by
    funext a; fin_cases a <;> rfl
  refine (congrArg (outsAt0 m c t) ey).trans ((outs_at m c hm t _ _).trans ?_)
  rw [Nat.mul_comm 512, Nat.mul_comm 256]

end Cert.Proof.Df

end
-- ==== Proof.DfAlg.lean ====
/-
  The differential attention: from finite inputs the kernel's result is the reference's.
-/
module

public import proofs.«01_k».proof.Defs
public import Idealize.ShloMosaic.Lib.ReduceAll
public import proofs.«01_k».proof.Proof.Gen.Pre_finite
public import proofs.«01_k».proof.Proof.Gen.Kernel4Ideal.Value
public import proofs.«01_k».proof.Proof.DfRefAt
public import proofs.«01_k».proof.Proof.DfOut

@[expose] public section

set_option maxRecDepth 16384

noncomputable section

namespace Cert.Proof.Df
open Idealize.ShloMosaic Idealize.SL.Sem

theorem pinf : Ideal.ofBits FTy.f32 0x7F800000#32 = ⊤ := by
  simp [Ideal.ofBits, Ideal.ieee]

theorem both (a b : BitVec 1) : IntOp.andi a b = 1#1 → a = 1#1 ∧ b = 1#1 := by
  revert a b
  decide

/-- An array whose every element lies between the infinities holds reals. -/
theorem real_of {s : Shape} {axes : List (Fin s.rank)} (x lo hi : FVec Ideal s .f32) (hlo : ∀ i, lo i = ⊥) (hhi : ∀ i, hi i = ⊤)
    (h : s.ReducesTo axes Cert.Pre_finite.S_) (hu : 0 < Cert.Pre_finite.S_.numel) (init : IVec Cert.Pre_finite.S_ 1) (j : Cert.Pre_finite.S_.Idx)
    (e : Host.reduce IntOp.andi (andi (cmpf .ogt x lo) (cmpf .olt x hi)) init h hu j = 1#1) : AllReal x := by
  intro i
  obtain ⟨h1, h2⟩ := both _ _ (Host.reduce_andi_all _ _ _ _ j e i)
  change BitVec.ofBool (decide (lo i < x i)) = 1#1 at h1
  change BitVec.ofBool (decide (x i < hi i)) = 1#1 at h2
  rw [ofBool_eq_one, decide_eq_true_eq, hlo] at h1
  rw [ofBool_eq_one, decide_eq_true_eq, hhi] at h2
  exact ⟨(x i).toReal, (EReal.coe_toReal h2.ne h1.ne').symm⟩

/-- The precondition says that every input is finite. -/
theorem finite_of (m : (ℓ : Loc Cert.Kernel4Ideal.nD Cert.Kernel4Ideal.τ Cert.Kernel4Ideal.sig) → Buf (Elt Ideal) ℓ)
    (hm : Cert.Pre_Kernel4Ideal_finite m) (c : Dev Cert.Kernel4Ideal.nD) : AllFinite m c := by
  have h := congrFun (hm c) (Shape.Idx.first (by decide))
  unfold Cert.Pre_finite.fn Cert.Pre_finite.fn_part1 Cert.Pre_finite.fn_part2 at h
  obtain ⟨h, e6⟩ := both _ _ h
  obtain ⟨h, e5⟩ := both _ _ h
  obtain ⟨h, e4⟩ := both _ _ h
  obtain ⟨h, e3⟩ := both _ _ h
  obtain ⟨h, e2⟩ := both _ _ h
  obtain ⟨e0, e1⟩ := both _ _ h
  exact ⟨real_of _ _ _ (fun _ => ninf) (fun _ => pinf) _ _ _ _ e0, real_of _ _ _ (fun _ => ninf) (fun _ => pinf) _ _ _ _ e1,
    real_of _ _ _ (fun _ => ninf) (fun _ => pinf) _ _ _ _ e2, real_of _ _ _ (fun _ => ninf) (fun _ => pinf) _ _ _ _ e3,
    real_of _ _ _ (fun _ => ninf) (fun _ => pinf) _ _ _ _ e4, real_of _ _ _ (fun _ => ninf) (fun _ => pinf) _ _ _ _ e5,
    real_of _ _ _ (fun _ => ninf) (fun _ => pinf) _ _ _ _ e6⟩

theorem algebraic : Cert.algebraic_Kernel4Ideal_Reference4Ideal_pre_finite := by
  intro m g m' g' hp hm
  refine ⟨fun c => (Cert.Kernel4Ideal.Gen.dats m 0 c).arrAt 5 Cert.Kernel4Ideal.cfg0.N, Cert.Kernel4Ideal.Value.run_blocks m g,
    (θ_run Cert.Reference4Ideal.defs _ _).mono (fun r h c => ?_) (Cert.Reference4Ideal.Value.run m' g')⟩
  refine ⟨(h c).1.trans (Eq.trans ?_ (out_eq m c (finite_of m hp c)).symm), (h c).2⟩
  rw [Ref.res_eq]
  funext y
  obtain ⟨i, l, rfl⟩ : ∃ (i : Fin 32768) (l : Fin 1024), y = ix2 i l := ⟨y 0, y 1, by funext a; fin_cases a <;> rfl⟩
  refine (Ref.refOut_at _ _ _ _ _ _ _ i l).trans ?_
  rw [(hm c).1, (hm c).2.1, (hm c).2.2.1, (hm c).2.2.2.1, (hm c).2.2.2.2.1, (hm c).2.2.2.2.2.1, (hm c).2.2.2.2.2.2]
  rfl

theorem frame_reference : Cert.quiescent_Reference4Ideal := by
  intro m g _
  exact (θ_run Cert.Reference4Ideal.defs _ _).mono
    (fun r h => ⟨fun c => (h c).2, sem_eq_zero_of_no_sems (by decide) r.2⟩) (Cert.Reference4Ideal.Value.run m g)

theorem frame_reference_finite : Cert.quiescent_Reference4Ideal_pre_finite := by
  intro m g _
  exact (θ_run Cert.Reference4Ideal.defs _ _).mono
    (fun r h => ⟨fun c => (h c).2, sem_eq_zero_of_no_sems (by decide) r.2⟩) (Cert.Reference4Ideal.Value.run m g)

end Cert.Proof.Df

end
-- ==== Proof.NormSpec.lean ====
/-
  The final norm: one row, normed by its mean square and scaled by the gain.
-/
module

public import Idealize.ShloMosaic.PureOps.Ideal
public import Idealize.ShloMosaic.Lib.Pointwise

@[expose] public section

noncomputable section

namespace Cert.Proof
open Idealize.ShloMosaic Idealize.ShloMosaic.Tactic

/-- A row normed by its mean square and scaled by the gain. -/
def normed (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- The normed row `i` of an array at column `l`, and zero outside the array. -/
def normedAt {n : ℕ} (x : (⟨2, ![n, 1024]⟩ : Shape).Idx → EReal) (g : (⟨1, ![1024]⟩ : Shape).Idx → EReal) (i l : ℕ) : EReal :=
  if h : i < n ∧ l < 1024 then normed (fun k => x (ix2 ⟨i, h.1⟩ k)) (fun k => g (ix1 k)) ⟨l, h.2⟩ else 0

theorem zero2 : (![0, 0] : Fin 2 → ℕ) = fun _ => 0 := by
  funext a; fin_cases a <;> rfl

end Cert.Proof

end
-- ==== Proof.NormPrompt.lean ====
/-
  The final norm over the prompt: the kernel's result is the reference's.
-/
module

public import proofs.«01_k».proof.Defs
public import proofs.«01_k».proof.Proof.NormSpec
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.NormP
open Idealize.ShloMosaic Idealize.ShloMosaic.TcCoe Idealize.ShloMosaic.Tactic Idealize.SL.Sem

section Kernel
open Cert.Kernel5Ideal Cert.Kernel5Ideal.Gen

theorem pay1_at (x : Vec Ideal S256x1024 .f32) (g : Vec Ideal S1x1024 .f32) (r : Fin 256) (d : Fin 1024) :
    k0_pay1 (F := Ideal) x g (ix2 r d) = normed (fun k => x (ix2 r k)) (fun k => g (ix2 0 k)) d := by
  unfold k0_pay1 normed
  pointwise

variable (m : (ℓ : Loc nD τ Cert.Kernel5Ideal.sig) → Buf (Elt Ideal) ℓ) (c : Dev nD)

theorem V_v0 : V m c main_v0 = shapeCast S1x1024 (m ((c : Thread nD τ).loc main_arg1) : Vec Ideal S1024 .f32) shapeCasts_S1024_S1x1024 := by
  unfold V
  simp only [hostOps0, List.flatten_cons, List.flatten_nil, List.append_nil, List.cons_append, List.nil_append]
  after_results_simp
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 := idx0

theorem lt_N (t : Fin cfg0.N) : t.val < 128 := t.isLt

theorem blk0_at (t : Fin cfg0.N) (r : Fin 256) (k : Fin 1024) :
    iblk m c 0 t (ix2 r k) = m ((c : Thread nD τ).loc main_arg0) (ix2 (⟨256 * t.val + r.val, by have := lt_N t; omega⟩ : Fin 32768) k) := by
  blk_ext! [iblk, V, V_main_arg0, idx0 t]
theorem blk1_at (t : Fin cfg0.N) (k : Fin 1024) : iblk m c 1 t (ix2 0 k) = m ((c : Thread nD τ).loc main_arg1) (ix1 k) := by
  have h : iblk m c 1 t (ix2 0 k) = V m c main_v0 (ix2 (0 : Fin 1) k) := by
    blk_ext! [iblk, idx1 t]
  rw [h, V_v0]
  pointwise

/-- What a grid point leaves in its block of the result. -/
theorem block_at (t : Fin cfg0.N) (r : Fin 256) (l : Fin 1024) : out0_2 (iblk m c 0 t) (iblk m c 1 t) (ix2 r l)
    = normedAt (n := 32768) (m ((c : Thread nD τ).loc main_arg0)) (m ((c : Thread nD τ).loc main_arg1)) (t.val * 256 + r.val) l.val := by
  have ht := lt_N t
  have hr := r.isLt
  unfold out0_2
  rw [View.canon_unit_zero zero2]
  refine (pay1_at _ _ r l).trans ?_
  rw [View.ld_unit_zero zero2, View.ld_unit_zero zero2, normedAt, dif_pos ⟨by omega, l.isLt⟩]
  have e : (⟨t.val * 256 + r.val, by omega⟩ : Fin 32768) = ⟨256 * t.val + r.val, by omega⟩ :=
    Fin.ext (by show t.val * 256 + r.val = 256 * t.val + r.val; omega)
  simp only [blk0_at, blk1_at, e]

/-- The kernel's result array. -/
theorem out_eq : (dats m 0 c).arrAt 2 cfg0.N = fun i => normedAt (n := 32768) (m ((c : Thread nD τ).loc main_arg0)) (m ((c : Thread nD τ).loc main_arg1)) (i 0).val (i 1).val := by
  refine (dats m 0 c).arrAt_eq_of_covers 2 _ (by decide +kernel) fun t hf y => ?_
  rw [after0_2]
  blk_simp [idx2 t]
  have ey : (show S256x1024.Idx from y) = ix2 (show Fin 256 from y 0) (show Fin 1024 from y 1) := by
    funext a; fin_cases a <;> rfl
  exact (congrArg (out0_2 (iblk m c 0 t) (iblk m c 1 t)) ey).trans (block_at m c t _ _)

end Kernel

section Reference
open Cert.Reference5Ideal Cert.Reference5Ideal.Gen

/-- The reference's result. -/
def refOut (x : FVec Ideal S32768x1024 .f32) (g : FVec Ideal S1024 .f32) : FVec Ideal S32768x1024 .f32 :=
  shapeCast _ (mulf (mulf (shapeCast _ x shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ x shapeCasts_S32768x1024_S8x4096x1024) (shapeCast _ x shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) shapeCasts_S8x4096x1024_S32768x1024

theorem refOut_at (x : FVec Ideal S32768x1024 .f32) (g : FVec Ideal S1024 .f32) (i : Fin 32768) (d : Fin 1024) :
    refOut x g (ix2 i d) = normed (fun k => x (ix2 i k)) (fun k => g (ix1 k)) d := by
  unfold refOut normed
  pointwise

end Reference

theorem algebraic : Cert.algebraic_Kernel5Ideal_Reference5Ideal := by
  intro m g m' g' _ hm
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ?_) (Cert.Reference5Ideal.Value.run m' g')⟩
  refine ⟨(h c).1.trans (Eq.trans ?_ (out_eq m c).symm), (h c).2⟩
  rw [(hm c).1, (hm c).2]
  funext y
  obtain ⟨i, l, rfl⟩ : ∃ (i : Fin 32768) (l : Fin 1024), y = ix2 i l := ⟨y 0, y 1, by funext a; fin_cases a <;> rfl⟩
  refine (refOut_at _ _ i l).trans ?_
  show _ = normedAt (n := 32768) _ _ i.val l.val
  rw [normedAt, dif_pos ⟨i.isLt, l.isLt⟩]

theorem frame_reference : Cert.quiescent_Reference5Ideal := by
  intro m g _
  exact (θ_run Cert.Reference5Ideal.defs _ _).mono
    (fun r h => ⟨fun c => (h c).2, sem_eq_zero_of_no_sems (by decide) r.2⟩) (Cert.Reference5Ideal.Value.run m g)

end Cert.Proof.NormP

end
-- ==== Proof.NormSample.lean ====
/-
  The final norm over the sample: one tile, and the kernel's result is the reference's.
-/
module

public import proofs.«01_k».proof.Defs
public import proofs.«01_k».proof.Proof.NormSpec
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.NormS
open Idealize.ShloMosaic Idealize.ShloMosaic.TcCoe Idealize.ShloMosaic.Tactic Idealize.SL.Sem

section Kernel
open Cert.Kernel6Ideal Cert.Kernel6Ideal.Gen

theorem pay1_at (x : Vec Ideal S128x1024 .f32) (g : Vec Ideal S1x1024 .f32) (r : Fin 128) (d : Fin 1024) :
    k0_pay1 (F := Ideal) x g (ix2 r d) = normed (fun k => x (ix2 r k)) (fun k => g (ix2 0 k)) d := by
  unfold k0_pay1 normed
  pointwise

variable (m : (ℓ : Loc nD τ Cert.Kernel6Ideal.sig) → Buf (Elt Ideal) ℓ) (c : Dev nD)

theorem V_v0 : V m c main_v0 = shapeCast S1x1024 (m ((c : Thread nD τ).loc main_arg1) : Vec Ideal S1024 .f32) shapeCasts_S1024_S1x1024 := by
  unfold V
  simp only [hostOps0, List.flatten_cons, List.flatten_nil, List.append_nil, List.cons_append, List.nil_append]
  after_results_simp
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 := idx0

theorem lt_N (t : Fin cfg0.N) : t.val < 1 := t.isLt

theorem blk0_at (t : Fin cfg0.N) (r : Fin 128) (k : Fin 1024) :
    iblk m c 0 t (ix2 r k) = m ((c : Thread nD τ).loc main_arg0) (ix2 (⟨128 * t.val + r.val, by have := lt_N t; omega⟩ : Fin 128) k) := by
  blk_ext! [iblk, V, V_main_arg0, idx0 t]
theorem blk1_at (t : Fin cfg0.N) (k : Fin 1024) : iblk m c 1 t (ix2 0 k) = m ((c : Thread nD τ).loc main_arg1) (ix1 k) := by
  have h : iblk m c 1 t (ix2 0 k) = V m c main_v0 (ix2 (0 : Fin 1) k) := by
    blk_ext! [iblk, idx1 t]
  rw [h, V_v0]
  pointwise

/-- What a grid point leaves in its block of the result. -/
theorem block_at (t : Fin cfg0.N) (r : Fin 128) (l : Fin 1024) : out0_2 (iblk m c 0 t) (iblk m c 1 t) (ix2 r l)
    = normedAt (n := 128) (m ((c : Thread nD τ).loc main_arg0)) (m ((c : Thread nD τ).loc main_arg1)) (t.val * 128 + r.val) l.val := by
  have ht := lt_N t
  have hr := r.isLt
  unfold out0_2
  rw [View.canon_unit_zero zero2]
  refine (pay1_at _ _ r l).trans ?_
  rw [View.ld_unit_zero zero2, View.ld_unit_zero zero2, normedAt, dif_pos ⟨by omega, l.isLt⟩]
  have e : (⟨t.val * 128 + r.val, by omega⟩ : Fin 128) = ⟨128 * t.val + r.val, by omega⟩ :=
    Fin.ext (by show t.val * 128 + r.val = 128 * t.val + r.val; omega)
  simp only [blk0_at, blk1_at, e]

/-- The kernel's result array. -/
theorem out_eq : (dats m 0 c).arrAt 2 cfg0.N = fun i => normedAt (n := 128) (m ((c : Thread nD τ).loc main_arg0)) (m ((c : Thread nD τ).loc main_arg1)) (i 0).val (i 1).val := by
  refine (dats m 0 c).arrAt_eq_of_covers 2 _ (by decide +kernel) fun t hf y => ?_
  rw [after0_2]
  blk_simp [idx2 t]
  have ey : (show S128x1024.Idx from y) = ix2 (show Fin 128 from y 0) (show Fin 1024 from y 1) := by
    funext a; fin_cases a <;> rfl
  exact (congrArg (out0_2 (iblk m c 0 t) (iblk m c 1 t)) ey).trans ((block_at m c t _ _).trans (by rw [show t.val = 0 by have := lt_N t; omega, Nat.zero_mul, Nat.zero_add]))

end Kernel

section Reference
open Cert.Reference6Ideal Cert.Reference6Ideal.Gen

/-- The reference's result. -/
def refOut (x : FVec Ideal S128x1024 .f32) (g : FVec Ideal S1024 .f32) : FVec Ideal S128x1024 .f32 :=
  shapeCast _ (mulf (mulf (shapeCast _ x shapeCasts_S128x1024_S32x4x1024) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (shapeCast _ x shapeCasts_S128x1024_S32x4x1024) (shapeCast _ x shapeCasts_S128x1024_S32x4x1024)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))) shapeCasts_S32x4x1024_S128x1024

theorem refOut_at (x : FVec Ideal S128x1024 .f32) (g : FVec Ideal S1024 .f32) (i : Fin 128) (d : Fin 1024) :
    refOut x g (ix2 i d) = normed (fun k => x (ix2 i k)) (fun k => g (ix1 k)) d := by
  unfold refOut normed
  pointwise

end Reference

theorem algebraic : Cert.algebraic_Kernel6Ideal_Reference6Ideal := by
  intro m g m' g' _ hm
  refine ⟨fun c => (Cert.Kernel6Ideal.Gen.dats m 0 c).arrAt 2 Cert.Kernel6Ideal.cfg0.N, Cert.Kernel6Ideal.Value.run_blocks m g,
    (θ_run Cert.Reference6Ideal.defs _ _).mono (fun r h c => ?_) (Cert.Reference6Ideal.Value.run m' g')⟩
  refine ⟨(h c).1.trans (Eq.trans ?_ (out_eq m c).symm), (h c).2⟩
  rw [(hm c).1, (hm c).2]
  funext y
  obtain ⟨i, l, rfl⟩ : ∃ (i : Fin 128) (l : Fin 1024), y = ix2 i l := ⟨y 0, y 1, by funext a; fin_cases a <;> rfl⟩
  refine (refOut_at _ _ i l).trans ?_
  show _ = normedAt (n := 128) _ _ i.val l.val
  rw [normedAt, dif_pos ⟨i.isLt, l.isLt⟩]

theorem frame_reference : Cert.quiescent_Reference6Ideal := by
  intro m g _
  exact (θ_run Cert.Reference6Ideal.defs _ _).mono
    (fun r h => ⟨fun c => (h c).2, sem_eq_zero_of_no_sems (by decide) r.2⟩) (Cert.Reference6Ideal.Value.run m g)

end Cert.Proof.NormS

end
-- ==== Proof.ProjS.lean ====
/-
  The sample's input projection's result arrays, index by index: one block of rows, the shift and the scale repeated for the
  positions of a sequence.
-/
module

public import proofs.«01_k».proof.Proof.Proj
public import proofs.«01_k».proof.Proof.Gen.Kernel7Ideal.Value
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.ProjS
open Cert.Kernel7Ideal Cert.Kernel7Ideal.Gen
open Cert.Proof.Proj (hid wMain wIf wMain_at wIf_at zero2 zero3)
open Idealize.ShloMosaic Idealize.ShloMosaic.TcCoe Idealize.ShloMosaic.Tactic

/-- The normed and modulated input of row `i` at column `d`. -/
def hidAt (x : Vec Ideal S128x1024 .f32) (g : Vec Ideal S1024 .f32) (sh sc : Vec Ideal S32x1x1024 .f32) (i : Fin 128) (d : Fin 1024) : EReal :=
  hid (fun k => x (ix2 i k)) (fun k => g (ix1 k)) (fun k => sh (ix3 (⟨i.val / 4, by omega⟩ : Fin 32) (0 : Fin 1) k))
    (fun k => sc (ix3 (⟨i.val / 4, by omega⟩ : Fin 32) (0 : Fin 1) k)) d

/-- The projection of row `i` on column `j` of the weights, and zero outside the arrays. -/
def projAt (x : Vec Ideal S128x1024 .f32) (g : Vec Ideal S1024 .f32) (sh sc : Vec Ideal S32x1x1024 .f32) (w : Vec Ideal S1024x8712 .f32) (i j : ℕ) : EReal :=
  if h : i < 128 ∧ j < 8712 then ∑ d : Fin 1024, hidAt x g sh sc ⟨i, h.1⟩ d * w (ix2 d (⟨j, h.2⟩ : Fin 8712)) else 0

theorem pay4_at (x : Vec Ideal S128x1024 .f32) (g : Vec Ideal S1x1024 .f32) (sh sc : Vec Ideal S1x128x1024 .f32) (r : Fin 128) (d : Fin 1024) :
    k0_pay4 (F := Ideal) x g sh sc (ix2 r d)
      = hid (fun k => x (ix2 r k)) (fun k => g (ix2 0 k)) (fun k => sh (ix3 0 r k)) (fun k => sc (ix3 0 r k)) d := by
  unfold k0_pay4 hid
  pointwise

theorem pay1_at (v : FVec Ideal S128x1024 .bf16) (w : Vec Ideal S1024x512 .bf16) (r : Fin 128) (l : Fin 512) :
    k0_pay1 (F := Ideal) v w (ix2 r l) = ∑ d : Fin 1024, v (ix2 r d) * w (ix2 d l) := by
  unfold k0_pay1
  pointwise

variable (m : (ℓ : Loc nD τ sig) → Buf (Elt Ideal) ℓ) (c : Dev nD)

/-- The modulation of the sequences, repeated for their positions. -/
def reps (a : Vec Ideal S32x1x1024 .f32) : Vec Ideal S1x128x1024 .f32 :=
  broadcastInDim S1x128x1024 ![1, 2] bcast_S128x1024_S1x128x1024_1_2 (shapeCast S128x1024 (broadcastInDim S32x4x1024 ![0, 2] bcast_S32x1024_S32x4x1024_0_2
    (shapeCast S32x1024 a shapeCasts_S32x1x1024_S32x1024)) shapeCasts_S32x4x1024_S128x1024)

theorem reps_at (a : Vec Ideal S32x1x1024 .f32) (r : Fin 128) (k : Fin 1024) :
    reps a (ix3 (0 : Fin 1) r k) = a (ix3 (⟨r.val / 4, by omega⟩ : Fin 32) (0 : Fin 1) k) := by
  unfold reps
  pointwise

theorem V_v3 : V m c main_v3 = reps (m ((c : Thread nD τ).loc main_arg2)) := by
  unfold V
  simp only [hostOps0, hostOps0_1, hostOps0_2, List.flatten_cons, List.flatten_nil, List.append_nil, List.cons_append, List.nil_append]
  after_results_simp
  rfl

theorem V_v7 : V m c main_v7 = reps (m ((c : Thread nD τ).loc main_arg3)) := by
  unfold V
  simp only [hostOps0, hostOps0_1, hostOps0_2, List.flatten_cons, List.flatten_nil, List.append_nil, List.cons_append, List.nil_append]
  after_results_simp
  rfl

theorem V_v11 : V m c main_v11 = wMain (m ((c : Thread nD τ).loc main_arg4)) := by
  unfold V
  simp only [hostOps0, hostOps0_1, hostOps0_2, List.flatten_cons, List.flatten_nil, List.append_nil, List.cons_append, List.nil_append]
  after_results_simp
  rfl

theorem V_v13 : V m c main_v13 = wIf (m ((c : Thread nD τ).loc main_arg4)) := by
  unfold V
  simp only [hostOps0, hostOps0_1, hostOps0_2, List.flatten_cons, List.flatten_nil, List.append_nil, List.cons_append, List.nil_append]
  after_results_simp
  rfl

theorem V_v14 : V m c main_v14 = shapeCast S1x1024 (m ((c : Thread nD τ).loc main_arg1) : Vec Ideal S1024 .f32) shapeCasts_S1024_S1x1024 := by
  unfold V
  simp only [hostOps0, hostOps0_1, hostOps0_2, List.flatten_cons, List.flatten_nil, List.append_nil, List.cons_append, List.nil_append]
  after_results_simp
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem blk0_at (t : Fin cfg0.N) (r : Fin 128) (k : Fin 1024) :
    iblk m c 0 t (ix2 r k) = m ((c : Thread nD τ).loc main_arg0) (ix2 r k) := by
  blk_ext! [iblk, V, V_main_arg0, idx0 t]
theorem blk1_at (t : Fin cfg0.N) (k : Fin 1024) :
    iblk m c 1 t (ix2 0 k) = m ((c : Thread nD τ).loc main_arg1) (ix1 k) := by
  have h : iblk m c 1 t (ix2 0 k) = V m c main_v14 (ix2 (0 : Fin 1) k) := by
    blk_ext! [iblk, idx1 t]
  rw [h, V_v14]
  pointwise
theorem blk2_at (t : Fin cfg0.N) (r : Fin 128) (k : Fin 1024) :
    iblk m c 2 t (ix3 0 r k) = m ((c : Thread nD τ).loc main_arg2) (ix3 (⟨r.val / 4, by omega⟩ : Fin 32) (0 : Fin 1) k) := by
  refine Eq.trans ?_ (reps_at (m ((c : Thread nD τ).loc main_arg2)) r k)
  rw [← V_v3]
  blk_ext! [iblk, idx2 t]
theorem blk3_at (t : Fin cfg0.N) (r : Fin 128) (k : Fin 1024) :
    iblk m c 3 t (ix3 0 r k) = m ((c : Thread nD τ).loc main_arg3) (ix3 (⟨r.val / 4, by omega⟩ : Fin 32) (0 : Fin 1) k) := by
  refine Eq.trans ?_ (reps_at (m ((c : Thread nD τ).loc main_arg3)) r k)
  rw [← V_v7]
  blk_ext! [iblk, idx3 t]
theorem blk4_at (t : Fin cfg0.N) (d : Fin 1024) (j : Fin 8704) :
    iblk m c 4 t (ix2 d j) = wMain (m ((c : Thread nD τ).loc main_arg4)) (ix2 d j) := by
  rw [← V_v11]
  blk_ext! [iblk, idx4 t]
theorem blk5_at (t : Fin cfg0.N) (d : Fin 1024) (j : Fin 128) :
    iblk m c 5 t (ix2 d j) = wIf (m ((c : Thread nD τ).loc main_arg4)) (ix2 d j) := by
  rw [← V_v13]
  blk_ext! [iblk, idx5 t]

theorem ld0 (t : Fin cfg0.N) : View.ld (iblk m c 0 t) r0_0 = iblk m c 0 t := View.ld_unit_zero zero2 _ _
theorem ld1 (t : Fin cfg0.N) : View.ld (iblk m c 1 t) r0_1 = iblk m c 1 t := View.ld_unit_zero zero2 _ _
theorem ld2 (t : Fin cfg0.N) : View.ld (iblk m c 2 t) r0_2 = iblk m c 2 t := View.ld_unit_zero zero3 _ _
theorem ld3 (t : Fin cfg0.N) : View.ld (iblk m c 3 t) r0_2 = iblk m c 3 t := View.ld_unit_zero zero3 _ _
theorem ld5 (t : Fin cfg0.N) : View.ld (iblk m c 5 t) r0_15 = iblk m c 5 t := View.ld_unit_zero zero2 _ _

/-- The normed and modulated input of row `i` at column `d`. -/
abbrev hrow (i : Fin 128) (d : Fin 1024) : EReal :=
  hidAt (m ((c : Thread nD τ).loc main_arg0)) (m ((c : Thread nD τ).loc main_arg1)) (m ((c : Thread nD τ).loc main_arg2)) (m ((c : Thread nD τ).loc main_arg3)) i d

/-- The rows of the normed and modulated input at a grid point. -/
theorem h_at (t : Fin cfg0.N) (r : Fin 128) (d : Fin 1024) :
    k0_pay4 (F := Ideal) (View.ld (iblk m c 0 t) r0_0) (View.ld (iblk m c 1 t) r0_1) (View.ld (iblk m c 2 t) r0_2) (View.ld (iblk m c 3 t) r0_2) (ix2 r d)
      = hrow m c r d := by
  rw [ld0, ld1, ld2, ld3, pay4_at]
  simp only [blk0_at, blk1_at, blk2_at, blk3_at]
  rfl

/-- A block of the weights' columns. -/
theorem ld_cols (t : Fin cfg0.N) (o n : ℕ) (inb : ∀ a, (![0, o] : Fin 2 → ℕ) a + (![1024, n] : Fin 2 → ℕ) a ≤ S1024x8704.size a) (d : Fin 1024) (l : Fin n)
    (j : Fin 8712) (hj : j.val = if o + l.val < 5632 then o + l.val else 8 + (o + l.val)) :
    View.ld (iblk m c 4 t) (Rect.unit (s := S1024x8704) ![0, o] ![1024, n] inb) (ix2 d l) = m ((c : Thread nD τ).loc main_arg4) (ix2 d j) := by
  have hb : o + n ≤ 8704 := inb 1
  have hl := l.isLt
  refine Eq.trans ?_ ((blk4_at m c t d ⟨o + l.val, by omega⟩).trans ((wMain_at _ d _).trans ?_))
  · refine congrArg (iblk m c 4 t) (funext fun a => Fin.ext ?_)
    match a with
    | ⟨0, _⟩ => show 0 + 1 * d.val = d.val; omega
    | ⟨1, _⟩ => show o + 1 * l.val = o + l.val; omega
  · exact congrArg _ (congrArg (ix2 d) (Fin.ext hj.symm))

/-- The projection of the launch's arrays. -/
abbrev proj (i j : ℕ) : EReal :=
  projAt (m ((c : Thread nD τ).loc main_arg0)) (m ((c : Thread nD τ).loc main_arg1)) (m ((c : Thread nD τ).loc main_arg2)) (m ((c : Thread nD τ).loc main_arg3))
    (m ((c : Thread nD τ).loc main_arg4)) i j

/-- The input's rows in the narrow format, at a grid point. -/
abbrev vrow (t : Fin cfg0.N) : FVec Ideal S128x1024 .bf16 :=
  k0_pay5 (View.ld (iblk m c 0 t) r0_0) (View.ld (iblk m c 1 t) r0_1) (View.ld (iblk m c 2 t) r0_2) (View.ld (iblk m c 3 t) r0_2)

/-- A block of a result: the input's rows times a range of the weights' columns. -/
theorem block_at (t : Fin cfg0.N) (o' o n : ℕ) (inb : ∀ a, (![0, o'] : Fin 2 → ℕ) a + (![1024, n] : Fin 2 → ℕ) a ≤ S1024x8704.size a)
    (hh : o' + n ≤ 5632 ∧ o = o' ∨ 5632 ≤ o' ∧ o = 8 + o') (r : Fin 128) (l : Fin n) (v : EReal)
    (hv : v = ∑ d : Fin 1024, vrow m c t (ix2 r d) * View.ld (iblk m c 4 t) (Rect.unit (s := S1024x8704) ![0, o'] ![1024, n] inb) (ix2 d l)) :
    v = proj m c (r.val) (o + l.val) := by
  have hl := l.isLt
  have hb : o' + n ≤ 8704 := inb 1
  rw [hv, proj, projAt, dif_pos ⟨by omega, by omega⟩]
  refine Finset.sum_congr rfl fun d _ => congrArg₂ (· * ·) (h_at m c t r d) (ld_cols m c t o' n inb d l _ ?_)
  show o + l.val = _
  split <;> omega

theorem pay9_at (v : FVec Ideal S128x1024 .bf16) (w : Vec Ideal S1024x1024 .bf16) (r : Fin 128) (l : Fin 1024) :
    k0_pay9 (F := Ideal) v w (ix2 r l) = ∑ d : Fin 1024, v (ix2 r d) * w (ix2 d l) := by
  unfold k0_pay9
  pointwise
theorem pay2_at (v : FVec Ideal S128x1024 .bf16) (w : Vec Ideal S1024x3072 .bf16) (r : Fin 128) (l : Fin 3072) :
    k0_pay2 (F := Ideal) v w (ix2 r l) = ∑ d : Fin 1024, v (ix2 r d) * w (ix2 d l) := by
  unfold k0_pay2
  pointwise
theorem pay3_at (v : FVec Ideal S128x1024 .f32) (w : Vec Ideal S1024x128 .f32) (r : Fin 128) (l : Fin 128) :
    k0_pay3 (F := Ideal) v w (ix2 r l) = ∑ d : Fin 1024, v (ix2 r d) * w (ix2 d l) := by
  unfold k0_pay3
  pointwise

/-- An index of a block, by its two coordinates. -/
theorem two (n : ℕ) (y : (⟨2, ![128, n]⟩ : Shape).Idx) : y = ix2 (show Fin 128 from y 0) (show Fin n from y 1) := by
  funext a
  match a with
  | ⟨0, _⟩ => rfl
  | ⟨1, _⟩ => rfl

/-- A window of 512 columns. -/
theorem piece512 (t : Fin cfg0.N) (o' o : ℕ) (inb : ∀ a, (![0, o'] : Fin 2 → ℕ) a + (![1024, 512] : Fin 2 → ℕ) a ≤ S1024x8704.size a)
    (hh : o' + 512 ≤ 5632 ∧ o = o' ∨ 5632 ≤ o' ∧ o = 8 + o') (y : S128x512.Idx) :
    View.canon (Val := Elt Ideal) (e := .f32) [⟨r0_4, k0_pay1 (vrow m c t) (View.ld (iblk m c 4 t) (Rect.unit (s := S1024x8704) ![0, o'] ![1024, 512] inb))⟩] y
      = proj m c ((y 0).val) (o + (y 1).val) := by
  rw [View.canon_unit_zero zero2]
  exact (congrArg _ (two 512 y)).trans (block_at m c t o' o 512 inb hh _ _ _ (pay1_at _ _ _ _))

/-- A window of 1024 columns. -/
theorem piece1024 (t : Fin cfg0.N) (o' o : ℕ) (inb : ∀ a, (![0, o'] : Fin 2 → ℕ) a + (![1024, 1024] : Fin 2 → ℕ) a ≤ S1024x8704.size a)
    (hh : o' + 1024 ≤ 5632 ∧ o = o' ∨ 5632 ≤ o' ∧ o = 8 + o') (y : S128x1024.Idx) :
    View.canon (Val := Elt Ideal) (e := .f32) [⟨r0_0, k0_pay9 (vrow m c t) (View.ld (iblk m c 4 t) (Rect.unit (s := S1024x8704) ![0, o'] ![1024, 1024] inb))⟩] y
      = proj m c ((y 0).val) (o + (y 1).val) := by
  rw [View.canon_unit_zero zero2]
  exact (congrArg _ (two 1024 y)).trans (block_at m c t o' o 1024 inb hh _ _ _ (pay9_at _ _ _ _))

/-- The window of the 3072 gate columns. -/
theorem pieceGates (t : Fin cfg0.N) (y : S128x3072.Idx) :
    View.canon (Val := Elt Ideal) (e := .f32) [⟨r0_14, k0_pay2 (vrow m c t) (View.ld (iblk m c 4 t) r0_13)⟩] y
      = proj m c ((y 0).val) (5640 + (y 1).val) := by
  rw [View.canon_unit_zero zero2]
  exact (congrArg _ (two 3072 y)).trans (block_at m c t 5632 5640 3072 inb_S1024x8704_S1024x3072_0_5632 (by omega) _ _ _ (pay2_at _ _ _ _))

/-- The window of the eight scalar gates, padded with zeros. -/
theorem pieceIf (t : Fin cfg0.N) (y : S128x128.Idx) :
    out0_16 (iblk m c 0 t) (iblk m c 1 t) (iblk m c 2 t) (iblk m c 3 t) (iblk m c 4 t) (iblk m c 5 t) y
      = if (y 1).val < 8 then proj m c ((y 0).val) (5632 + (y 1).val) else 0 := by
  unfold_out out0_16
  rw [View.canon_unit_zero zero2, ld5]
  refine (congrArg _ (two 128 y)).trans ((pay3_at _ _ _ _).trans ?_)
  generalize hr : (show Fin 128 from y 0) = r
  generalize hl : (show Fin 128 from y 1) = l
  have er : (y 0).val = r.val := congrArg Fin.val hr
  have el : (y 1).val = l.val := congrArg Fin.val hl
  rw [er, el]
  split
  · next h =>
    rw [proj, projAt, dif_pos ⟨by omega, by omega⟩]
    exact Finset.sum_congr rfl fun d _ => congrArg₂ (· * ·) (h_at m c t r d) ((blk5_at m c t d l).trans ((wIf_at _ d l).trans (dif_pos h)))
  · next h =>
    refine (Finset.sum_congr rfl fun d _ => congrArg (_ * ·) ((blk5_at m c t d l).trans ((wIf_at _ d l).trans (dif_neg h)))).trans ?_
    exact Finset.sum_eq_zero fun d _ => mul_zero _

theorem idx7 : ∀ t : Fin cfg0.N, win0_7.index t 0 = 0 ∧ win0_7.index t 1 = 0 := idx6
theorem idx8 : ∀ t : Fin cfg0.N, win0_8.index t 0 = 0 ∧ win0_8.index t 1 = 0 := idx6
theorem idx9 : ∀ t : Fin cfg0.N, win0_9.index t 0 = 0 ∧ win0_9.index t 1 = 0 := idx6
theorem idx10 : ∀ t : Fin cfg0.N, win0_10.index t 0 = 0 ∧ win0_10.index t 1 = 0 := idx6
theorem idx11 : ∀ t : Fin cfg0.N, win0_11.index t 0 = 0 ∧ win0_11.index t 1 = 0 := idx6
theorem idx12 : ∀ t : Fin cfg0.N, win0_12.index t 0 = 0 ∧ win0_12.index t 1 = 0 := idx6
theorem idx13 : ∀ t : Fin cfg0.N, win0_13.index t 0 = 0 ∧ win0_13.index t 1 = 0 := idx6
theorem idx14 : ∀ t : Fin cfg0.N, win0_14.index t 0 = 0 ∧ win0_14.index t 1 = 0 := idx6
theorem idx15 : ∀ t : Fin cfg0.N, win0_15.index t 0 = 0 ∧ win0_15.index t 1 = 0 := idx6
theorem idx16 : ∀ t : Fin cfg0.N, win0_16.index t 0 = 0 ∧ win0_16.index t 1 = 0 := idx6

theorem arr6 : (dats m 0 c).arrAt 6 cfg0.N = fun i => proj m c (i 0).val (i 1).val := by
  refine (dats m 0 c).arrAt_eq_of_covers 6 _ (by decide +kernel) fun t hf y => ?_
  rw [after0_6]
  blk_simp [idx6 t]
  refine (piece512 m c t 0 0 inb_S1024x8704_S1024x512_0_0 (by omega) y).trans ?_
  rw [Nat.zero_add]

theorem arr7 : (dats m 0 c).arrAt 7 cfg0.N = fun i => proj m c (i 0).val (512 + (i 1).val) := by
  refine (dats m 0 c).arrAt_eq_of_covers 7 _ (by decide +kernel) fun t hf y => ?_
  rw [after0_7]
  blk_simp [idx7 t]
  exact piece512 m c t 512 512 inb_S1024x8704_S1024x512_0_512 (by omega) y

theorem arr8 : (dats m 0 c).arrAt 8 cfg0.N = fun i => proj m c (i 0).val (1024 + (i 1).val) := by
  refine (dats m 0 c).arrAt_eq_of_covers 8 _ (by decide +kernel) fun t hf y => ?_
  rw [after0_8]
  blk_simp [idx8 t]
  exact piece512 m c t 1024 1024 inb_S1024x8704_S1024x512_0_1024 (by omega) y

theorem arr9 : (dats m 0 c).arrAt 9 cfg0.N = fun i => proj m c (i 0).val (1536 + (i 1).val) := by
  refine (dats m 0 c).arrAt_eq_of_covers 9 _ (by decide +kernel) fun t hf y => ?_
  rw [after0_9]
  blk_simp [idx9 t]
  exact piece1024 m c t 1536 1536 inb_S1024x8704_S1024x1024_0_1536 (by omega) y

theorem arr10 : (dats m 0 c).arrAt 10 cfg0.N = fun i => proj m c (i 0).val (2560 + (i 1).val) := by
  refine (dats m 0 c).arrAt_eq_of_covers 10 _ (by decide +kernel) fun t hf y => ?_
  rw [after0_10]
  blk_simp [idx10 t]
  exact piece512 m c t 2560 2560 inb_S1024x8704_S1024x512_0_2560 (by omega) y

theorem arr11 : (dats m 0 c).arrAt 11 cfg0.N = fun i => proj m c (i 0).val (3072 + (i 1).val) := by
  refine (dats m 0 c).arrAt_eq_of_covers 11 _ (by decide +kernel) fun t hf y => ?_
  rw [after0_11]
  blk_simp [idx11 t]
  exact piece512 m c t 3072 3072 inb_S1024x8704_S1024x512_0_3072 (by omega) y

theorem arr12 : (dats m 0 c).arrAt 12 cfg0.N = fun i => proj m c (i 0).val (3584 + (i 1).val) := by
  refine (dats m 0 c).arrAt_eq_of_covers 12 _ (by decide +kernel) fun t hf y => ?_
  rw [after0_12]
  blk_simp [idx12 t]
  exact piece1024 m c t 3584 3584 inb_S1024x8704_S1024x1024_0_3584 (by omega) y

theorem arr13 : (dats m 0 c).arrAt 13 cfg0.N = fun i => proj m c (i 0).val (4608 + (i 1).val) := by
  refine (dats m 0 c).arrAt_eq_of_covers 13 _ (by decide +kernel) fun t hf y => ?_
  rw [after0_13]
  blk_simp [idx13 t]
  exact piece512 m c t 4608 4608 inb_S1024x8704_S1024x512_0_4608 (by omega) y

theorem arr14 : (dats m 0 c).arrAt 14 cfg0.N = fun i => proj m c (i 0).val (5120 + (i 1).val) := by
  refine (dats m 0 c).arrAt_eq_of_covers 14 _ (by decide +kernel) fun t hf y => ?_
  rw [after0_14]
  blk_simp [idx14 t]
  exact piece512 m c t 5120 5120 inb_S1024x8704_S1024x512_0_5120 (by omega) y

theorem arr15 : (dats m 0 c).arrAt 15 cfg0.N = fun i => proj m c (i 0).val (5640 + (i 1).val) := by
  refine (dats m 0 c).arrAt_eq_of_covers 15 _ (by decide +kernel) fun t hf y => ?_
  rw [after0_15]
  blk_simp [idx15 t]
  exact pieceGates m c t y

theorem arr16 : (dats m 0 c).arrAt 16 cfg0.N = fun i => if (i 1).val < 8 then proj m c (i 0).val (5632 + (i 1).val) else 0 := by
  refine (dats m 0 c).arrAt_eq_of_covers 16 _ (by decide +kernel) fun t hf y => ?_
  rw [after0_16]
  blk_simp [idx16 t]
  exact pieceIf m c t y

end Cert.Proof.ProjS

end
-- ==== Proof.ProjSRef.lean ====
/-
  The sample's input projection's reference, index by index.
-/
module

public import proofs.«01_k».proof.Proof.Gen.Reference7Ideal.Run
public import proofs.«01_k».proof.Proof.ProjS

@[expose] public section

set_option maxRecDepth 16384

noncomputable section

namespace Cert.Proof.ProjS
open Cert.Reference7Ideal Cert.Reference7Ideal.Gen
open Cert.Proof.Proj (hid)
open Idealize.ShloMosaic Idealize.ShloMosaic.TcCoe Idealize.ShloMosaic.Tactic

variable (x : FVec Ideal S128x1024 .f32) (g : FVec Ideal S1024 .f32) (sh sc : FVec Ideal S32x1x1024 .f32) (w : FVec Ideal S1024x8712 .f32)

/-- The normed and modulated input. -/
def refH : FVec Ideal S32x4x1024 .f32 :=
  addf (mulf (mulf (mulf (shapeCast _ x shapeCasts_S128x1024_S32x4x1024) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (shapeCast _ x shapeCasts_S128x1024_S32x4x1024) (shapeCast _ x shapeCasts_S128x1024_S32x4x1024)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))) (broadcastInDim S32x4x1024 ![0, 1, 2] bcast_S32x1x1024_S32x4x1024_0_1_2 (addf (broadcastInDim S32x1x1024 ![] bcast_S_S32x1x1024 (constant S_ .f32 0x3F800000#32)) sc))) (broadcastInDim S32x4x1024 ![0, 1, 2] bcast_S32x1x1024_S32x4x1024_0_1_2 sh)

/-- The whole projection. -/
def refY : FVec Ideal S128x8712 .f32 :=
  shapeCast _ (Host.dotGeneral (φ₁ := .f32) dot_S32x4x1024_S1024x8712_S32x4x8712_2_0_01_1_n_n none (refH x g sh sc) w) shapeCasts_S32x4x8712_S128x8712

theorem refH_at (b : Fin 32) (t : Fin 4) (d : Fin 1024) (i : Fin 128) (hb : b.val = i.val / 4) (ht : t.val = i.val % 4) :
    refH x g sh sc (ix3 b t d) = hidAt x g sh sc i d := by
  unfold refH hidAt hid
  pointwise
  have e : (⟨b.val * 4 + t.val, by omega⟩ : Fin 128) = i := Fin.ext (by show b.val * 4 + t.val = i.val; omega)
  have eb : (⟨i.val / 4, by omega⟩ : Fin 32) = b := Fin.ext hb.symm
  simp only [e, eb]

theorem refY_at (i : Fin 128) (j : Fin 8712) : refY x g sh sc w (ix2 i j) = projAt x g sh sc w i.val j.val := by
  rw [projAt, dif_pos ⟨i.isLt, j.isLt⟩]
  unfold refY
  pointwise
  refine Finset.sum_congr rfl fun d _ => ?_
  rw [refH_at x g sh sc _ _ d i rfl rfl]

/-- A range of columns. -/
theorem slice_at (o n : ℕ) (hs : S128x8712.Slices ![0, o] ⟨2, ![128, n]⟩) (ho : o + n ≤ 8712) :
    extractStridedSlice ⟨2, ![128, n]⟩ ![0, o] (refY x g sh sc w) hs = fun i => projAt x g sh sc w (i 0).val (o + (i 1).val) := by
  funext y
  obtain ⟨i, l, rfl⟩ : ∃ i l, y = ix2 i l := ⟨y 0, y 1, by funext a; fin_cases a <;> rfl⟩
  have hl := l.isLt
  refine Eq.trans ?_ (refY_at x g sh sc w i ⟨o + l.val, by omega⟩)
  refine congrArg (refY x g sh sc w) (funext fun a => Fin.ext ?_)
  match a with
  | ⟨0, _⟩ => show 0 + i.val = i.val; omega
  | ⟨1, _⟩ => rfl

/-- The eight scalar gates' columns, padded with zeros. -/
theorem gates_at : (concatenate S128x128 1 [⟨S128x4, ((extractStridedSlice S128x4 ![0, 5632] (refY x g sh sc w) slices_S128x8712_S128x4_0_5632) : (⟨S128x4, .f32⟩ : BufTy).Contents (Elt Ideal))⟩,
      ⟨S128x4, ((extractStridedSlice S128x4 ![0, 5636] (refY x g sh sc w) slices_S128x8712_S128x4_0_5636) : (⟨S128x4, .f32⟩ : BufTy).Contents (Elt Ideal))⟩,
      ⟨S128x120, ((broadcastInDim S128x120 ![] bcast_S_S128x120 (constant (F := Ideal) S_ .f32 0x00000000#32)) : (⟨S128x120, .f32⟩ : BufTy).Contents (Elt Ideal))⟩]
      concatenates_S128x4_S128x4_S128x120_S128x128_d1 : (⟨S128x128, .f32⟩ : BufTy).Contents (Elt Ideal))
    = fun i => if (i 1).val < 8 then projAt x g sh sc w (i 0).val (5632 + (i 1).val) else 0 := by
  rw [slice_at x g sh sc w 5632 4 slices_S128x8712_S128x4_0_5632 (by omega), slice_at x g sh sc w 5636 4 slices_S128x8712_S128x4_0_5636 (by omega)]
  funext y
  obtain ⟨i, l, rfl⟩ : ∃ i l, y = ix2 i l := ⟨y 0, y 1, by funext a; fin_cases a <;> rfl⟩
  show _ = if l.val < 8 then projAt x g sh sc w i.val (5632 + l.val) else 0
  pointwise
  by_cases h4 : l.val < 4
  · rw [if_pos (by omega)]
    exact dif_pos h4
  · refine (dif_neg h4).trans ?_
    by_cases h8 : l.val < 8
    · rw [if_pos h8]
      refine (dif_pos (by omega)).trans (congrArg _ (by omega))
    · rw [if_neg h8]
      exact dif_neg (by omega)

end Cert.Proof.ProjS

end
-- ==== Proof.ProjSAlg.lean ====
/-
  The sample's input projection: the kernel's results are the reference's.
-/
module

public import proofs.«01_k».proof.Defs
public import proofs.«01_k».proof.Proof.ProjSRef

@[expose] public section

set_option maxRecDepth 16384

noncomputable section

namespace Cert.Proof.ProjS
open Idealize.ShloMosaic Idealize.SL.Sem

theorem algebraic : Cert.algebraic_Kernel7Ideal_Reference7Ideal := by
  intro m g m' g' _ hm
  refine ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    fun c => (Cert.Kernel7Ideal.Gen.dats m 0 c).arrAt 14 Cert.Kernel7Ideal.cfg0.N,
    fun c => (Cert.Kernel7Ideal.Gen.dats m 0 c).arrAt 15 Cert.Kernel7Ideal.cfg0.N,
    fun c => (Cert.Kernel7Ideal.Gen.dats m 0 c).arrAt 16 Cert.Kernel7Ideal.cfg0.N,
    Cert.Kernel7Ideal.Value.run_blocks m g,
    (θ_run Cert.Reference7Ideal.defs _ _).mono (fun r h c => ?_) (Cert.Reference7Ideal.Value.run m' g')⟩
  · obtain ⟨h0, h1, h2, h3, h4, h5, h6, h7, h8, h9, h10, ha⟩ := h c
    have key : ∀ i j, projAt (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2))
        (m' ((c.tc : Thread Cert.Reference7Ideal.nD Cert.Reference7Ideal.τ).loc Cert.Reference7Ideal.main_arg3))
        (m' ((c.tc : Thread Cert.Reference7Ideal.nD Cert.Reference7Ideal.τ).loc Cert.Reference7Ideal.main_arg4)) i j = proj m c i j := by
      intro i j
      rw [(hm c).1, (hm c).2.1, (hm c).2.2.1, (hm c).2.2.2.1, (hm c).2.2.2.2]
    have sl := fun o n hs ho => (slice_at (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2))
        (m' ((c.tc : Thread Cert.Reference7Ideal.nD Cert.Reference7Ideal.τ).loc Cert.Reference7Ideal.main_arg3))
        (m' ((c.tc : Thread Cert.Reference7Ideal.nD Cert.Reference7Ideal.τ).loc Cert.Reference7Ideal.main_arg4)) o n hs ho).trans
          (funext fun i => key (i 0).val (o + (i 1).val))
    refine ⟨h0.trans (((sl 0 512 _ (by omega)).trans (funext fun i => congrArg (proj m c _) (Nat.zero_add _))).trans (arr6 m c).symm),
      h1.trans ((sl 512 512 _ (by omega)).trans (arr7 m c).symm), h2.trans ((sl 1024 512 _ (by omega)).trans (arr8 m c).symm),
      h3.trans ((sl 1536 1024 _ (by omega)).trans (arr9 m c).symm), h4.trans ((sl 2560 512 _ (by omega)).trans (arr10 m c).symm),
      h5.trans ((sl 3072 512 _ (by omega)).trans (arr11 m c).symm), h6.trans ((sl 3584 1024 _ (by omega)).trans (arr12 m c).symm),
      h7.trans ((sl 4608 512 _ (by omega)).trans (arr13 m c).symm), h8.trans ((sl 5120 512 _ (by omega)).trans (arr14 m c).symm),
      h9.trans ((sl 5640 3072 _ (by omega)).trans (arr15 m c).symm),
      h10.trans (((gates_at _ _ _ _ _).trans (funext fun i => ?_)).trans (arr16 m c).symm), ha⟩
    show (if (i 1).val < 8 then _ else 0) = if (i 1).val < 8 then _ else 0
    rw [key]

theorem frame_reference : Cert.quiescent_Reference7Ideal := by
  intro m g _
  exact (θ_run Cert.Reference7Ideal.defs _ _).mono
    (fun r h => ⟨fun c => (h c).2.2.2.2.2.2.2.2.2.2.2, sem_eq_zero_of_no_sems (by decide) r.2⟩) (Cert.Reference7Ideal.Value.run m g)

end Cert.Proof.ProjS

end
-- ==== Proof.lean ====
module

public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2.Frame
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Pre_finite
public import proofs.«01_k».proof.Proof.Out
public import proofs.«01_k».proof.Proof.Ref
public import proofs.«01_k».proof.Proof.ProjAlg
public import proofs.«01_k».proof.Proof.MergeAlg
public import proofs.«01_k».proof.Proof.MlAlg
public import proofs.«01_k».proof.Proof.DfAlg
public import proofs.«01_k».proof.Proof.NormPrompt
public import proofs.«01_k».proof.Proof.NormSample
public import proofs.«01_k».proof.Proof.ProjSAlg
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- From equal arguments the kernel and the reference end with equal results: both are `attn` of the three arrays. -/
theorem algebraic : Cert.algebraic_KernelIdeal_ReferenceIdeal := by
  intro m g m' g' _ hm
  refine ⟨fun c => fun i => attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (i 0).val (i 1).val, ?_, ?_⟩
  · exact (θ_run Cert.KernelIdeal.defs _ _).mono (fun _ h c => ⟨(h c).1.trans (out_eq m c), (h c).2⟩)
      (Cert.KernelIdeal.Value.run_blocks m g)
  · refine (θ_run Cert.ReferenceIdeal.defs _ _).mono (fun _ h c => ⟨(h c).1.trans ((Ref.res_at m' c).trans ?_), (h c).2⟩)
      (Cert.ReferenceIdeal.Value.run m' g')
    rw [(hm c).1, (hm c).2.1, (hm c).2.2]
    rfl

/-- The reference ends with its arguments unchanged and, having no semaphore, every counter at zero. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, Proj.frame_reference,
  fun m ρ _ => Cert.Kernel3.Gen.frame m ρ, fun m ρ _ => Cert.Kernel3Ideal.Gen.frame m ρ, Merge.frame_reference,
  fun m ρ _ => Cert.Kernel4.Gen.frame m ρ, fun m ρ _ => Cert.Kernel4Ideal.Gen.frame m ρ, fun m ρ _ => Cert.Kernel4Ideal.Gen.frame m ρ,
  Df.frame_reference, Df.frame_reference_finite,
  fun m ρ _ => Cert.Kernel5.Gen.frame m ρ, fun m ρ _ => Cert.Kernel5Ideal.Gen.frame m ρ, NormP.frame_reference,
  fun m ρ _ => Cert.Kernel6.Gen.frame m ρ, fun m ρ _ => Cert.Kernel6Ideal.Gen.frame m ρ, NormS.frame_reference,
  fun m ρ _ => Cert.Kernel7.Gen.frame m ρ, fun m ρ _ => Cert.Kernel7Ideal.Gen.frame m ρ, ProjS.frame_reference,
  fun m ρ _ => Cert.Kernel8.Gen.frame m ρ, fun m ρ _ => Cert.Kernel8Ideal.Gen.frame m ρ, Ml.frame_reference,
  IdealRules.named_const.statement Cert.KernelIdeal.κ "log2e" .f32 0x3FB8AA3B#32 (((Real.log 2)⁻¹ : ℝ) : EReal) rfl, algebraic,
  trivial, Proj.algebraic, trivial, Merge.algebraic,
  IdealRules.named_const.statement Cert.Kernel4Ideal.κ "mask" .f32 0xF149F2CA#32 (⊥ : EReal) rfl, Df.algebraic,
  trivial, NormP.algebraic, trivial, NormS.algebraic, trivial, ProjS.algebraic,
  IdealRules.named_const.statement Cert.Kernel8Ideal.κ "mask" .f32 0xF149F2CA#32 (⊥ : EReal) rfl, Ml.algebraic⟩

end Cert.Proof

end
